-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.named_const.Statement Cert.Kernel2Ideal.κ "neg" .f32 0xF149F2CA#32 ⊥
  ∧ IdealRules.named_const.Statement Cert.Kernel2Ideal.κ "log2e" .f32 0x3FB8AA3B#32 (((Real.log 2)⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v25)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "qscale" .f32 0x3E38AA3B#32 (((8 * (Real.log 2))⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)) (v2 : (c : Dev Cert.Kernel3Ideal.nD) → Buf (Elt Ideal) ((c.tc : Thread Cert.Kernel3Ideal.nD Cert.Kernel3Ideal.τ).loc Cert.Kernel3Ideal.main_v12_2)) (v3 : (c : Dev Cert.Kernel3Ideal.nD) → Buf (Elt Ideal) ((c.tc : Thread Cert.Kernel3Ideal.nD Cert.Kernel3Ideal.τ).loc Cert.Kernel3Ideal.main_v12_3)) (v4 : (c : Dev Cert.Kernel3Ideal.nD) → Buf (Elt Ideal) ((c.tc : Thread Cert.Kernel3Ideal.nD Cert.Kernel3Ideal.τ).loc Cert.Kernel3Ideal.main_v12_4)) (v5 : (c : Dev Cert.Kernel3Ideal.nD) → Buf (Elt Ideal) ((c.tc : Thread Cert.Kernel3Ideal.nD Cert.Kernel3Ideal.τ).loc Cert.Kernel3Ideal.main_v12_5)) (v6 : (c : Dev Cert.Kernel3Ideal.nD) → Buf (Elt Ideal) ((c.tc : Thread Cert.Kernel3Ideal.nD Cert.Kernel3Ideal.τ).loc Cert.Kernel3Ideal.main_v12_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_v12_2) = v2 c
          ∧ r.2.mem ((c.tc : Thread Cert.Kernel3Ideal.nD Cert.Kernel3Ideal.τ).loc Cert.Kernel3Ideal.main_v12_3) = v3 c
          ∧ r.2.mem ((c.tc : Thread Cert.Kernel3Ideal.nD Cert.Kernel3Ideal.τ).loc Cert.Kernel3Ideal.main_v12_4) = v4 c
          ∧ r.2.mem ((c.tc : Thread Cert.Kernel3Ideal.nD Cert.Kernel3Ideal.τ).loc Cert.Kernel3Ideal.main_v12_5) = v5 c
          ∧ r.2.mem ((c.tc : Thread Cert.Kernel3Ideal.nD Cert.Kernel3Ideal.τ).loc Cert.Kernel3Ideal.main_v12_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v123) = v0 c
          ∧ r.2.mem ((c.tc : Thread Cert.Reference3Ideal.nD Cert.Reference3Ideal.τ).loc Cert.Reference3Ideal.main_v125) = v1 c
          ∧ r.2.mem ((c.tc : Thread Cert.Reference3Ideal.nD Cert.Reference3Ideal.τ).loc Cert.Reference3Ideal.main_v127) = v2 c
          ∧ r.2.mem ((c.tc : Thread Cert.Reference3Ideal.nD Cert.Reference3Ideal.τ).loc Cert.Reference3Ideal.main_v129) = v3 c
          ∧ r.2.mem ((c.tc : Thread Cert.Reference3Ideal.nD Cert.Reference3Ideal.τ).loc Cert.Reference3Ideal.main_v130) = v4 c
          ∧ r.2.mem ((c.tc : Thread Cert.Reference3Ideal.nD Cert.Reference3Ideal.τ).loc Cert.Reference3Ideal.main_v131) = v5 c
          ∧ r.2.mem ((c.tc : Thread Cert.Reference3Ideal.nD Cert.Reference3Ideal.τ).loc Cert.Reference3Ideal.main_v20) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  IdealRules.named_const.Statement Cert.Kernel4Ideal.κ "qscale" .f32 0x3E38AA3B#32 (((8 * (Real.log 2))⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)) (v2 : (c : Dev Cert.Kernel4Ideal.nD) → Buf (Elt Ideal) ((c.tc : Thread Cert.Kernel4Ideal.nD Cert.Kernel4Ideal.τ).loc Cert.Kernel4Ideal.main_v12_2)) (v3 : (c : Dev Cert.Kernel4Ideal.nD) → Buf (Elt Ideal) ((c.tc : Thread Cert.Kernel4Ideal.nD Cert.Kernel4Ideal.τ).loc Cert.Kernel4Ideal.main_v12_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_v12_2) = v2 c
          ∧ r.2.mem ((c.tc : Thread Cert.Kernel4Ideal.nD Cert.Kernel4Ideal.τ).loc Cert.Kernel4Ideal.main_v12_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v87) = v0 c
          ∧ r.2.mem ((c.tc : Thread Cert.Reference4Ideal.nD Cert.Reference4Ideal.τ).loc Cert.Reference4Ideal.main_v89) = v1 c
          ∧ r.2.mem ((c.tc : Thread Cert.Reference4Ideal.nD Cert.Reference4Ideal.τ).loc Cert.Reference4Ideal.main_v91) = v2 c
          ∧ r.2.mem ((c.tc : Thread Cert.Reference4Ideal.nD Cert.Reference4Ideal.τ).loc Cert.Reference4Ideal.main_v14) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_v20) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite2 : Cert.Pre_finite2.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite2.lean ====
abbrev S8x4096x8x64 : Shape := ⟨4, ![8, 4096, 8, 64]⟩
abbrev S8x4096x2x64 : Shape := ⟨4, ![8, 4096, 2, 64]⟩
abbrev S8 : Shape := ⟨1, ![8]⟩
abbrev S_ : Shape := ⟨0, ![]⟩

class Facts : Prop where
  bcast_S_S8x4096x8x64 : S_.BroadcastsInDim S8x4096x8x64 (![] : Fin 0 → Fin S8x4096x8x64.rank)
  bcast_S_S8x4096x2x64 : S_.BroadcastsInDim S8x4096x2x64 (![] : Fin 0 → Fin S8x4096x2x64.rank)
  bcast_S_S8 : S_.BroadcastsInDim S8 (![] : Fin 0 → Fin S8.rank)

variable [Facts]

def fn {F : FTy → Type} [FloatOps F] (main_arg0 : FVec F S8x4096x8x64 .f32) (main_arg1 : FVec F S8x4096x2x64 .f32) (main_arg2 : FVec F S8x4096x2x64 .f32) (main_arg3 : FVec F S8 .f32) : IVec S8x4096x8x64 1 × IVec S8x4096x2x64 1 × IVec S8 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_v3 : FVec F S8x4096x2x64 .f32 := Host.absf main_arg1
  let main_cst_0 : FVec F S_ .f32 := constant S_ .f32 0x7F800000#32
  let main_v4 : FVec F S8x4096x2x64 .f32 := broadcastInDim S8x4096x2x64 ![] bcast_S_S8x4096x2x64 main_cst_0
  let main_v5 : IVec S8x4096x2x64 1 := cmpf .olt main_v3 main_v4
  let main_cst_1 : FVec F S_ .f32 := constant S_ .f32 0x7F800000#32
  let main_v6 : FVec F S8 .f32 := broadcastInDim S8 ![] bcast_S_S8 main_cst_1
  let main_v7 : IVec S8 1 := cmpf .olt main_arg3 main_v6
  (main_v2, main_v5, main_v7)
-- ==== Kernel.lean ====
abbrev S8x4096x1024 : Shape := ⟨3, ![8, 4096, 1024]⟩
abbrev S8x4096x512 : Shape := ⟨3, ![8, 4096, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S32768x512 : Shape := ⟨2, ![32768, 512]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 15
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S32768x1024, .f32⟩
  | .hbm, ⟨8, _⟩ => ⟨S32768x512, .bf16⟩
  | .hbm, ⟨9, _⟩ => ⟨S32768x512, .bf16⟩
  | .hbm, ⟨10, _⟩ => ⟨S1024x1024, .bf16⟩
  | .hbm, ⟨11, _⟩ => ⟨S1x1024, .f32⟩
  | .hbm, ⟨12, _⟩ => ⟨S1024x4096, .bf16⟩
  | .hbm, ⟨13, _⟩ => ⟨S4096x1024, .bf16⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S512x1024, .f32⟩
  | .local _ .vmem, ⟨11, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8x4096x1024 : Shape := ⟨3, ![8, 4096, 1024]⟩
abbrev S8x4096x512 : Shape := ⟨3, ![8, 4096, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S32768x1024 : Shape := ⟨2, ![32768, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S8x4096x512, .f32⟩
  | .hbm, ⟨8, _⟩ => ⟨S8x4096x512, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | .hbm, ⟨28, _⟩ => ⟨S8x4096x4096, .f32⟩
  | .hbm, ⟨29, _⟩ => ⟨S_, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x1024, .f32⟩
  | .hbm, ⟨34, _⟩ => ⟨S8x4096x1024, .f32⟩
  | .hbm, ⟨35, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel2.lean ====
abbrev S8x4096x8x64 : Shape := ⟨4, ![8, 4096, 8, 64]⟩
abbrev S8x4096x2x64 : Shape := ⟨4, ![8, 4096, 2, 64]⟩
abbrev S8 : Shape := ⟨1, ![8]⟩
abbrev S_ : Shape := ⟨0, ![]⟩
abbrev S8x32x128x2x4x64 : Shape := ⟨6, ![8, 32, 128, 2, 4, 64]⟩
abbrev S8x32x2x64x4x128 : Shape := ⟨6, ![8, 32, 2, 64, 4, 128]⟩
abbrev S8x32x2x64x512 : Shape := ⟨5, ![8, 32, 2, 64, 512]⟩
abbrev S8x32x64x512 : Shape := ⟨4, ![8, 32, 64, 512]⟩
abbrev S8x32x1x64x512 : Shape := ⟨5, ![8, 32, 1, 64, 512]⟩
abbrev S8x32x128x512 : Shape := ⟨4, ![8, 32, 128, 512]⟩
abbrev S8x32x128x1024 : Shape := ⟨4, ![8, 32, 128, 1024]⟩
abbrev S8x4096x128 : Shape := ⟨3, ![8, 4096, 128]⟩
abbrev S8x128x4096 : Shape := ⟨3, ![8, 128, 4096]⟩
abbrev S8x128 : Shape := ⟨2, ![8, 128]⟩
abbrev S1024 : Shape := ⟨1, ![1024]⟩
abbrev S2x1x512 : Shape := ⟨3, ![2, 1, 512]⟩
abbrev S8x4096x512 : Shape := ⟨3, ![8, 4096, 512]⟩
abbrev S1x4x128x1024 : Shape := ⟨4, ![1, 4, 128, 1024]⟩
abbrev S1x128x128 : Shape := ⟨3, ![1, 128, 128]⟩
abbrev S1x512x128 : Shape := ⟨3, ![1, 512, 128]⟩
abbrev S1x128x512 : Shape := ⟨3, ![1, 128, 512]⟩
abbrev S1x512x512 : Shape := ⟨3, ![1, 512, 512]⟩
abbrev S256x128 : Shape := ⟨2, ![256, 128]⟩
abbrev S256x512 : Shape := ⟨2, ![256, 512]⟩
abbrev S128x128 : Shape := ⟨2, ![128, 128]⟩
abbrev S1x64x128 : Shape := ⟨3, ![1, 64, 128]⟩
abbrev S64x128 : Shape := ⟨2, ![64, 128]⟩
abbrev S64x256 : Shape := ⟨2, ![64, 256]⟩
abbrev S1x1x128x512 : Shape := ⟨4, ![1, 1, 128, 512]⟩
abbrev S128x512 : Shape := ⟨2, ![128, 512]⟩
abbrev S1x1x512 : Shape := ⟨3, ![1, 1, 512]⟩
abbrev S1x512 : Shape := ⟨2, ![1, 512]⟩
abbrev S512 : Shape := ⟨1, ![512]⟩
abbrev S64x512 : Shape := ⟨2, ![64, 512]⟩
abbrev S1x256x128 : Shape := ⟨3, ![1, 256, 128]⟩
abbrev S1x64x256 : Shape := ⟨3, ![1, 64, 256]⟩

abbrev nBuf : Space → Nat
  | .hbm => 33
  | .vmem => 13
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x2x64, .f32⟩
  | .hbm, ⟨2, _⟩ => ⟨S8x4096x2x64, .f32⟩
  | .hbm, ⟨3, _⟩ => ⟨S8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x4096x8x64, .f32⟩
  | .hbm, ⟨10, _⟩ => ⟨S8x4096x8x64, .f32⟩
  | .hbm, ⟨11, _⟩ => ⟨S8x4096x8x64, .bf16⟩
  | .hbm, ⟨12, _⟩ => ⟨S8x32x128x2x4x64, .bf16⟩
  | .hbm, ⟨13, _⟩ => ⟨S8x32x2x64x4x128, .bf16⟩
  | .hbm, ⟨14, _⟩ => ⟨S8x32x2x64x512, .bf16⟩
  | .hbm, ⟨15, _⟩ => ⟨S_, .bf16⟩
  | .hbm, ⟨16, _⟩ => ⟨S8x32x64x512, .bf16⟩
  | .hbm, ⟨17, _⟩ => ⟨S8x32x1x64x512, .bf16⟩
  | .hbm, ⟨18, _⟩ => ⟨S8x32x64x512, .bf16⟩
  | .hbm, ⟨19, _⟩ => ⟨S8x32x128x512, .bf16⟩
  | .hbm, ⟨20, _⟩ => ⟨S8x32x1x64x512, .bf16⟩
  | .hbm, ⟨21, _⟩ => ⟨S8x32x64x512, .bf16⟩
  | .hbm, ⟨22, _⟩ => ⟨S8x32x128x512, .bf16⟩
  | .hbm, ⟨23, _⟩ => ⟨S8x32x128x1024, .bf16⟩
  | .hbm, ⟨24, _⟩ => ⟨S8x4096x128, .f32⟩
  | .hbm, ⟨25, _⟩ => ⟨S8x4096x128, .bf16⟩
  | .hbm, ⟨26, _⟩ => ⟨S8x4096x128, .f32⟩
  | .hbm, ⟨27, _⟩ => ⟨S8x128x4096, .f32⟩
  | .hbm, ⟨28, _⟩ => ⟨S8x128x4096, .bf16⟩
  | .hbm, ⟨29, _⟩ => ⟨S8x128, .f32⟩
  | .hbm, ⟨30, _⟩ => ⟨S1024, .f32⟩
  | .hbm, ⟨31, _⟩ => ⟨S2x1x512, .f32⟩
  | .hbm, ⟨32, _⟩ => ⟨S8x4096x512, .bf16⟩
  | .local _ .vmem, ⟨0, _⟩ => ⟨S1x4x128x1024, .bf16⟩
  | .local _ .vmem, ⟨1, _⟩ => ⟨S1x4x128x1024, .bf16⟩
  | .local _ .vmem, ⟨2, _⟩ => ⟨S1x128x128, .bf16⟩
  | .local _ .vmem, ⟨3, _⟩ => ⟨S1x128x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x512, .bf16⟩
  | .local _ .vmem, ⟨9, _⟩ => ⟨S1x128x512, .bf16⟩
  | .local _ .vmem, ⟨10, _⟩ => ⟨S2x1x512, .f32⟩
  | .local _ .vmem, ⟨11, _⟩ => ⟨S1x512x512, .bf16⟩
  | .local _ .vmem, ⟨12, _⟩ => ⟨S1x512x512, .bf16⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2Ideal.lean ====
variable {F : FTy → Type} [FloatOps F] [Named F]
def κ : String → Option EReal := fun
  | "log2e" => some (((Real.log 2)⁻¹ : ℝ) : EReal)
  | "neg" => some ⊥
  | _ => none
-- ==== Reference2Ideal.lean ====
abbrev S8x4096x8x64 : Shape := ⟨4, ![8, 4096, 8, 64]⟩
abbrev S8x4096x2x64 : Shape := ⟨4, ![8, 4096, 2, 64]⟩
abbrev S8 : Shape := ⟨1, ![8]⟩
abbrev S8x32x128x2x4x64 : Shape := ⟨6, ![8, 32, 128, 2, 4, 64]⟩
abbrev S8x32x128x2x64 : Shape := ⟨5, ![8, 32, 128, 2, 64]⟩
abbrev S8x1x128x2x64 : Shape := ⟨5, ![8, 1, 128, 2, 64]⟩
abbrev S_ : Shape := ⟨0, ![]⟩
abbrev S8x31x128x2x64 : Shape := ⟨5, ![8, 31, 128, 2, 64]⟩
abbrev S8x32x256x2x64 : Shape := ⟨5, ![8, 32, 256, 2, 64]⟩
abbrev S8x32x2x256x128x4 : Shape := ⟨6, ![8, 32, 2, 256, 128, 4]⟩
abbrev S8x32x2x4x128x256 : Shape := ⟨6, ![8, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S2x4 : Shape := ⟨2, ![2, 4]⟩
abbrev S1x1x2x4x1x1 : Shape := ⟨6, ![1, 1, 2, 4, 1, 1]⟩
abbrev S8x32x2x4x128 : Shape := ⟨5, ![8, 32, 2, 4, 128]⟩
abbrev S8x32x2x4x128x1 : Shape := ⟨6, ![8, 32, 2, 4, 128, 1]⟩
abbrev S8x32x2x64x4x128 : Shape := ⟨6, ![8, 32, 2, 64, 4, 128]⟩
abbrev S8x4096x512 : Shape := ⟨3, ![8, 4096, 512]⟩

abbrev nBuf : Space → Nat
  | .hbm => 89
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x2x64, .f32⟩
  | .hbm, ⟨2, _⟩ => ⟨S8x4096x2x64, .f32⟩
  | .hbm, ⟨3, _⟩ => ⟨S8, .f32⟩
  | .hbm, ⟨4, _⟩ => ⟨S8x32x128x2x4x64, .f32⟩
  | .hbm, ⟨5, _⟩ => ⟨S8x32x128x2x64, .f32⟩
  | .hbm, ⟨6, _⟩ => ⟨S8x1x128x2x64, .f32⟩
  | .hbm, ⟨7, _⟩ => ⟨S_, .f32⟩
  | .hbm, ⟨8, _⟩ => ⟨S8x1x128x2x64, .f32⟩
  | .hbm, ⟨9, _⟩ => ⟨S8x31x128x2x64, .f32⟩
  | .hbm, ⟨10, _⟩ => ⟨S8x32x128x2x64, .f32⟩
  | .hbm, ⟨11, _⟩ => ⟨S8x32x256x2x64, .f32⟩
  | .hbm, ⟨12, _⟩ => ⟨S8x32x128x2x64, .f32⟩
  | .hbm, ⟨13, _⟩ => ⟨S8x1x128x2x64, .f32⟩
  | .hbm, ⟨14, _⟩ => ⟨S_, .f32⟩
  | .hbm, ⟨15, _⟩ => ⟨S8x1x128x2x64, .f32⟩
  | .hbm, ⟨16, _⟩ => ⟨S8x31x128x2x64, .f32⟩
  | .hbm, ⟨17, _⟩ => ⟨S8x32x128x2x64, .f32⟩
  | .hbm, ⟨18, _⟩ => ⟨S8x32x256x2x64, .f32⟩
  | .hbm, ⟨19, _⟩ => ⟨S8x32x2x256x128x4, .f32⟩
  | .hbm, ⟨20, _⟩ => ⟨S8x32x2x4x128x256, .f32⟩
  | .hbm, ⟨21, _⟩ => ⟨S_, .f32⟩
  | .hbm, ⟨22, _⟩ => ⟨S8x32x2x4x128x256, .f32⟩
  | .hbm, ⟨23, _⟩ => ⟨S8x32x2x4x128x256, .f32⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S32, .i32⟩
  | .hbm, ⟨42, _⟩ => ⟨S32x1x1, .i32⟩
  | .hbm, ⟨43, _⟩ => ⟨S_, .i32⟩
  | .hbm, ⟨44, _⟩ => ⟨S32x1x1, .i32⟩
  | .hbm, ⟨45, _⟩ => ⟨S32x1x1, .i32⟩
  | .hbm, ⟨46, _⟩ => ⟨S1x1x256, .i32⟩
  | .hbm, ⟨47, _⟩ => ⟨S32x1x256, .i32⟩
  | .hbm, ⟨48, _⟩ => ⟨S32x1x256, .i32⟩
  | .hbm, ⟨49, _⟩ => ⟨S32x1x256, .i32⟩
  | .hbm, ⟨50, _⟩ => ⟨S_, .i32⟩
  | .hbm, ⟨51, _⟩ => ⟨S32x1x256, .i32⟩
  | .hbm, ⟨52, _⟩ => ⟨S32x1x256, .i32⟩
  | .hbm, ⟨53, _⟩ => ⟨S1x128x256, .i1⟩
  | .hbm, ⟨54, _⟩ => ⟨S_, .i32⟩
  | .hbm, ⟨55, _⟩ => ⟨S32x1x256, .i32⟩
  | .hbm, ⟨56, _⟩ => ⟨S32x1x256, .i1⟩
  | .hbm, ⟨57, _⟩ => ⟨S32x128x256, .i1⟩
  | .hbm, ⟨58, _⟩ => ⟨S32x128x256, .i1⟩
  | .hbm, ⟨59, _⟩ => ⟨S32x128x256, .i1⟩
  | .hbm, ⟨60, _⟩ => ⟨S1x32x1x1x128x256, .i1⟩
  | .hbm, ⟨61, _⟩ => ⟨S_, .f32⟩
  | .hbm, ⟨62, _⟩ => ⟨S_, .f32⟩
  | .hbm, ⟨63, _⟩ => ⟨S8x32x2x4x128x256, .i1⟩
  | .hbm, ⟨64, _⟩ => ⟨S8x32x2x4x128x256, .f32⟩
  | .hbm, ⟨65, _⟩ => ⟨S8x32x2x4x128x256, .f32⟩
  | .hbm, ⟨66, _⟩ => ⟨S2x4, .f32⟩
  | .hbm, ⟨67, _⟩ => ⟨S1x1x2x4x1x1, .f32⟩
  | .hbm, ⟨68, _⟩ => ⟨S_, .f32⟩
  | .hbm, ⟨69, _⟩ => ⟨S8x32x2x4x128, .f32⟩
  | .hbm, ⟨70, _⟩ => ⟨S8x32x2x4x128x1, .f32⟩
  | .hbm, ⟨71, _⟩ => ⟨S8x32x2x4x128x1, .f32⟩
  | .hbm, ⟨72, _⟩ => ⟨S8x32x2x4x128x1, .f32⟩
  | .hbm, ⟨73, _⟩ => ⟨S8x32x2x4x128x256, .f32⟩
  | .hbm, ⟨74, _⟩ => ⟨S8x32x2x4x128x256, .f32⟩
  | .hbm, ⟨75, _⟩ => ⟨S8x32x2x4x128x256, .f32⟩
  | .hbm, ⟨76, _⟩ => ⟨S_, .f32⟩
  | .hbm, ⟨77, _⟩ => ⟨S8x32x2x4x128, .f32⟩
  | .hbm, ⟨78, _⟩ => ⟨S8x32x2x4x128x1, .f32⟩
  | .hbm, ⟨79, _⟩ => ⟨S8x32x2x4x128x1, .f32⟩
  | .hbm, ⟨80, _⟩ => ⟨S8x32x2x4x128x1, .f32⟩
  | .hbm, ⟨81, _⟩ => ⟨S8x32x2x4x128x1, .f32⟩
  | .hbm, ⟨82, _⟩ => ⟨S8x32x2x4x128x1, .f32⟩
  | .hbm, ⟨83, _⟩ => ⟨S8x32x2x4x128x256, .f32⟩
  | .hbm, ⟨84, _⟩ => ⟨S8x32x2x4x128x256, .f32⟩
  | .hbm, ⟨85, _⟩ => ⟨S8x32x2x64x4x128, .f32⟩
  | .hbm, ⟨86, _⟩ => ⟨S8x32x128x2x4x64, .f32⟩
  | .hbm, ⟨87, _⟩ => ⟨S8x4096x512, .f32⟩
  | .hbm, ⟨88, _⟩ => ⟨S8x4096x512, .bf16⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x3400 : Shape := ⟨2, ![1024, 3400]⟩
abbrev S8x4096x1x32 : Shape := ⟨4, ![8, 4096, 1, 32]⟩
abbrev S64 : Shape := ⟨1, ![64]⟩
abbrev S8x4096x32 : Shape := ⟨3, ![8, 4096, 32]⟩
abbrev S8x32x4096 : Shape := ⟨3, ![8, 32, 4096]⟩
abbrev S1024x1352 : Shape := ⟨2, ![1024, 1352]⟩
abbrev S1352x1024 : Shape := ⟨2, ![1352, 1024]⟩
abbrev S1024x2048 : Shape := ⟨2, ![1024, 2048]⟩
abbrev S1x1024 : Shape := ⟨2, ![1, 1024]⟩
abbrev S64x1 : Shape := ⟨2, ![64, 1]⟩
abbrev S8x32x128x1024 : Shape := ⟨4, ![8, 32, 128, 1024]⟩
abbrev S8x4096x128 : Shape := ⟨3, ![8, 4096, 128]⟩
abbrev S8x128x4096 : Shape := ⟨3, ![8, 128, 4096]⟩
abbrev S8x8x4096 : Shape := ⟨3, ![8, 8, 4096]⟩
abbrev S8x4096x2048 : Shape := ⟨3, ![8, 4096, 2048]⟩
abbrev S1x512x1024 : Shape := ⟨3, ![1, 512, 1024]⟩
abbrev S1x32x512 : Shape := ⟨3, ![1, 32, 512]⟩
abbrev S1x4x128x1024 : Shape := ⟨4, ![1, 4, 128, 1024]⟩
abbrev S1x512x128 : Shape := ⟨3, ![1, 512, 128]⟩
abbrev S1x128x512 : Shape := ⟨3, ![1, 128, 512]⟩
abbrev S1x8x512 : Shape := ⟨3, ![1, 8, 512]⟩
abbrev S1x512x2048 : Shape := ⟨3, ![1, 512, 2048]⟩
abbrev S512x1024 : Shape := ⟨2, ![512, 1024]⟩
abbrev S512 : Shape := ⟨1, ![512]⟩
abbrev S512x1 : Shape := ⟨2, ![512, 1]⟩
abbrev S1352x512 : Shape := ⟨2, ![1352, 512]⟩
abbrev S512x2048 : Shape := ⟨2, ![512, 2048]⟩
abbrev S32x512 : Shape := ⟨2, ![32, 512]⟩
abbrev S64x128 : Shape := ⟨2, ![64, 128]⟩
abbrev S64x512 : Shape := ⟨2, ![64, 512]⟩
abbrev S1x512 : Shape := ⟨2, ![1, 512]⟩
abbrev S1x1x64x128 : Shape := ⟨4, ![1, 1, 64, 128]⟩
abbrev S128x512 : Shape := ⟨2, ![128, 512]⟩
abbrev S512x128 : Shape := ⟨2, ![512, 128]⟩
abbrev S8x512 : Shape := ⟨2, ![8, 512]⟩

abbrev nBuf : Space → Nat
  | .hbm => 26
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3400, .f32⟩
  | .hbm, ⟨3, _⟩ => ⟨S8x4096x1x32, .f32⟩
  | .hbm, ⟨4, _⟩ => ⟨S8x4096x1x32, .f32⟩
  | .hbm, ⟨5, _⟩ => ⟨S64, .f32⟩
  | .hbm, ⟨6, _⟩ => ⟨S64, .f32⟩
  | .hbm, ⟨7, _⟩ => ⟨S8x4096x32, .f32⟩
  | .hbm, ⟨8, _⟩ => ⟨S8x32x4096, .f32⟩
  | .hbm, ⟨9, _⟩ => ⟨S8x4096x32, .f32⟩
  | .hbm, ⟨10, _⟩ => ⟨S8x32x4096, .f32⟩
  | .hbm, ⟨11, _⟩ => ⟨S1024x1352, .f32⟩
  | .hbm, ⟨12, _⟩ => ⟨S1352x1024, .f32⟩
  | .hbm, ⟨13, _⟩ => ⟨S1352x1024, .bf16⟩
  | .hbm, ⟨14, _⟩ => ⟨S1024x2048, .f32⟩
  | .hbm, ⟨15, _⟩ => ⟨S1024x2048, .bf16⟩
  | .hbm, ⟨16, _⟩ => ⟨S1x1024, .f32⟩
  | .hbm, ⟨17, _⟩ => ⟨S64x1, .f32⟩
  | .hbm, ⟨18, _⟩ => ⟨S64x1, .f32⟩
  | .hbm, ⟨19, _⟩ => ⟨S8x32x128x1024, .bf16⟩
  | .hbm, ⟨20, _⟩ => ⟨S8x4096x128, .bf16⟩
  | .hbm, ⟨21, _⟩ => ⟨S8x128x4096, .bf16⟩
  | .hbm, ⟨22, _⟩ => ⟨S8x32x128x1024, .bf16⟩
  | .hbm, ⟨23, _⟩ => ⟨S8x4096x128, .bf16⟩
  | .hbm, ⟨24, _⟩ => ⟨S8x8x4096, .f32⟩
  | .hbm, ⟨25, _⟩ => ⟨S8x4096x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1352x1024, .bf16⟩
  | .local _ .vmem, ⟨4, _⟩ => ⟨S1024x2048, .bf16⟩
  | .local _ .vmem, ⟨5, _⟩ => ⟨S1x32x512, .f32⟩
  | .local _ .vmem, ⟨6, _⟩ => ⟨S1x32x512, .f32⟩
  | .local _ .vmem, ⟨7, _⟩ => ⟨S1x32x512, .f32⟩
  | .local _ .vmem, ⟨8, _⟩ => ⟨S1x32x512, .f32⟩
  | .local _ .vmem, ⟨9, _⟩ => ⟨S64x1, .f32⟩
  | .local _ .vmem, ⟨10, _⟩ => ⟨S64x1, .f32⟩
  | .local _ .vmem, ⟨11, _⟩ => ⟨S1x4x128x1024, .bf16⟩
  | .local _ .vmem, ⟨12, _⟩ => ⟨S1x4x128x1024, .bf16⟩
  | .local _ .vmem, ⟨13, _⟩ => ⟨S1x512x128, .bf16⟩
  | .local _ .vmem, ⟨14, _⟩ => ⟨S1x512x128, .bf16⟩
  | .local _ .vmem, ⟨15, _⟩ => ⟨S1x128x512, .bf16⟩
  | .local _ .vmem, ⟨16, _⟩ => ⟨S1x128x512, .bf16⟩
  | .local _ .vmem, ⟨17, _⟩ => ⟨S1x4x128x1024, .bf16⟩
  | .local _ .vmem, ⟨18, _⟩ => ⟨S1x4x128x1024, .bf16⟩
  | .local _ .vmem, ⟨19, _⟩ => ⟨S1x512x128, .bf16⟩
  | .local _ .vmem, ⟨20, _⟩ => ⟨S1x512x128, .bf16⟩
  | .local _ .vmem, ⟨21, _⟩ => ⟨S1x8x512, .f32⟩
  | .local _ .vmem, ⟨22, _⟩ => ⟨S1x8x512, .f32⟩
  | .local _ .vmem, ⟨23, _⟩ => ⟨S1x512x2048, .f32⟩
  | .local _ .vmem, ⟨24, _⟩ => ⟨S1x512x2048, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev main_v12_5 : Ref sig .tc := ⟨.hbm, 24, rfl⟩
abbrev main_v12_6 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Kernel3Ideal.lean ====
variable {F : FTy → Type} [FloatOps F] [Named F]
def κ : String → Option EReal := fun
  | "qscale" => some (((8 * (Real.log 2))⁻¹ : ℝ) : EReal)
  | _ => none
-- ==== Reference3Ideal.lean ====
abbrev S8x4096x1024 : Shape := ⟨3, ![8, 4096, 1024]⟩
abbrev S1024 : Shape := ⟨1, ![1024]⟩
abbrev S1024x3400 : Shape := ⟨2, ![1024, 3400]⟩
abbrev S8x4096x1x32 : Shape := ⟨4, ![8, 4096, 1, 32]⟩
abbrev S64 : Shape := ⟨1, ![64]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3400 : Shape := ⟨3, ![8, 4096, 3400]⟩
abbrev S8x4096x512 : Shape := ⟨3, ![8, 4096, 512]⟩
abbrev S8x4096x128 : Shape := ⟨3, ![8, 4096, 128]⟩
abbrev S8x4096x64 : Shape := ⟨3, ![8, 4096, 64]⟩
abbrev S8x4096x8 : Shape := ⟨3, ![8, 4096, 8]⟩
abbrev S8x4096x2048 : Shape := ⟨3, ![8, 4096, 2048]⟩
abbrev S8x4096x8x64 : Shape := ⟨4, ![8, 4096, 8, 64]⟩
abbrev S8x4096x8x1 : Shape := ⟨4, ![8, 4096, 8, 1]⟩
abbrev S1x1x1x64 : Shape := ⟨4, ![1, 1, 1, 64]⟩
abbrev S8x4096x8x32 : Shape := ⟨4, ![8, 4096, 8, 32]⟩
abbrev S8x4096x2x64 : Shape := ⟨4, ![8, 4096, 2, 64]⟩
abbrev S8x4096x2 : Shape := ⟨3, ![8, 4096, 2]⟩
abbrev S8x4096x2x1 : Shape := ⟨4, ![8, 4096, 2, 1]⟩
abbrev S8x4096x2x32 : Shape := ⟨4, ![8, 4096, 2, 32]⟩
abbrev S8x4096x1x64 : Shape := ⟨4, ![8, 4096, 1, 64]⟩
abbrev S8x32x128x8x64 : Shape := ⟨5, ![8, 32, 128, 8, 64]⟩
abbrev S8x32x64x8x128 : Shape := ⟨5, ![8, 32, 64, 8, 128]⟩
abbrev S8x32x64x4x128 : Shape := ⟨5, ![8, 32, 64, 4, 128]⟩
abbrev S8x32x128x8x128 : Shape := ⟨5, ![8, 32, 128, 8, 128]⟩
abbrev S8x32x128x1024 : Shape := ⟨4, ![8, 32, 128, 1024]⟩
abbrev S8x128x4096 : Shape := ⟨3, ![8, 128, 4096]⟩
abbrev S8x8x4096 : Shape := ⟨3, ![8, 8, 4096]⟩

abbrev nBuf : Space → Nat
  | .hbm => 154
  | .vmem => 0
  | .smem => 0
  | _ => 0

abbrev hbmTy0_0 (i : Nat) : BufTy := match i % 128 with
  | 0 => ⟨S8x4096x1024, .f32⟩
  | 1 => ⟨S1024, .f32⟩
  | 2 => ⟨S1024x3400, .f32⟩
  | 3 => ⟨S8x4096x1x32, .f32⟩
  | 4 => ⟨S8x4096x1x32, .f32⟩
  | 5 => ⟨S64, .f32⟩
  | 6 => ⟨S64, .f32⟩
  | 7 => ⟨S8x4096x1024, .f32⟩
  | 8 => ⟨S_, .f32⟩
  | 9 => ⟨S8x4096, .f32⟩
  | 10 => ⟨S8x4096x1, .f32⟩
  | 11 => ⟨S_, .f32⟩
  | 12 => ⟨S8x4096x1, .f32⟩
  | 13 => ⟨S8x4096x1, .f32⟩
  | 14 => ⟨S_, .f32⟩
  | 15 => ⟨S8x4096x1, .f32⟩
  | 16 => ⟨S8x4096x1, .f32⟩
  | 17 => ⟨S8x4096x1, .f32⟩
  | 18 => ⟨S8x4096x1024, .f32⟩
  | 19 => ⟨S8x4096x1024, .f32⟩
  | 20 => ⟨S1x1x1024, .f32⟩
  | 21 => ⟨S8x4096x1024, .f32⟩
  | 22 => ⟨S8x4096x1024, .f32⟩
  | 23 => ⟨S8x4096x3400, .f32⟩
  | 24 => ⟨S8x4096x512, .f32⟩
  | 25 => ⟨S8x4096x128, .f32⟩
  | 26 => ⟨S8x4096x128, .f32⟩
  | 27 => ⟨S8x4096x512, .f32⟩
  | 28 => ⟨S8x4096x64, .f32⟩
  | 29 => ⟨S8x4096x8, .f32⟩
  | 30 => ⟨S8x4096x2048, .f32⟩
  | 31 => ⟨S8x4096x8x64, .f32⟩
  | 32 => ⟨S8x4096x8x64, .f32⟩
  | 33 => ⟨S_, .f32⟩
  | 34 => ⟨S8x4096x8, .f32⟩
  | 35 => ⟨S8x4096x8x1, .f32⟩
  | 36 => ⟨S_, .f32⟩
  | 37 => ⟨S8x4096x8x1, .f32⟩
  | 38 => ⟨S8x4096x8x1, .f32⟩
  | 39 => ⟨S_, .f32⟩
  | 40 => ⟨S8x4096x8x1, .f32⟩
  | 41 => ⟨S8x4096x8x1, .f32⟩
  | 42 => ⟨S8x4096x8x1, .f32⟩
  | 43 => ⟨S8x4096x8x64, .f32⟩
  | 44 => ⟨S8x4096x8x64, .f32⟩
  | 45 => ⟨S1x1x1x64, .f32⟩
  | 46 => ⟨S8x4096x8x64, .f32⟩
  | 47 => ⟨S8x4096x8x64, .f32⟩
  | 48 => ⟨S8x4096x8x32, .f32⟩
  | 49 => ⟨S8x4096x8x32, .f32⟩
  | 50 => ⟨S8x4096x8x32, .f32⟩
  | 51 => ⟨S8x4096x8x32, .f32⟩
  | 52 => ⟨S8x4096x8x32, .f32⟩
  | 53 => ⟨S8x4096x8x32, .f32⟩
  | 54 => ⟨S8x4096x8x32, .f32⟩
  | 55 => ⟨S8x4096x8x32, .f32⟩
  | 56 => ⟨S8x4096x8x32, .f32⟩
  | 57 => ⟨S8x4096x8x32, .f32⟩
  | 58 => ⟨S8x4096x8x32, .f32⟩
  | 59 => ⟨S8x4096x8x32, .f32⟩
  | 60 => ⟨S8x4096x8x64, .f32⟩
  | 61 => ⟨S8x4096x2x64, .f32⟩
  | 62 => ⟨S8x4096x2x64, .f32⟩
  | 63 => ⟨S_, .f32⟩
  | 64 => ⟨S8x4096x2, .f32⟩
  | 65 => ⟨S8x4096x2x1, .f32⟩
  | 66 => ⟨S_, .f32⟩
  | 67 => ⟨S8x4096x2x1, .f32⟩
  | 68 => ⟨S8x4096x2x1, .f32⟩
  | 69 => ⟨S_, .f32⟩
  | 70 => ⟨S8x4096x2x1, .f32⟩
  | 71 => ⟨S8x4096x2x1, .f32⟩
  | 72 => ⟨S8x4096x2x1, .f32⟩
  | 73 => ⟨S8x4096x2x64, .f32⟩
  | 74 => ⟨S8x4096x2x64, .f32⟩
  | 75 => ⟨S1x1x1x64, .f32⟩
  | 76 => ⟨S8x4096x2x64, .f32⟩
  | 77 => ⟨S8x4096x2x64, .f32⟩
  | 78 => ⟨S8x4096x2x32, .f32⟩
  | 79 => ⟨S8x4096x2x32, .f32⟩
  | 80 => ⟨S8x4096x2x32, .f32⟩
  | 81 => ⟨S8x4096x2x32, .f32⟩
  | 82 => ⟨S8x4096x2x32, .f32⟩
  | 83 => ⟨S8x4096x2x32, .f32⟩
  | 84 => ⟨S8x4096x2x32, .f32⟩
  | 85 => ⟨S8x4096x2x32, .f32⟩
  | 86 => ⟨S8x4096x2x32, .f32⟩
  | 87 => ⟨S8x4096x2x32, .f32⟩
  | 88 => ⟨S8x4096x2x32, .f32⟩
  | 89 => ⟨S8x4096x2x32, .f32⟩
  | 90 => ⟨S8x4096x2x64, .f32⟩
  | 91 => ⟨S8x4096x8x64, .f32⟩
  | 92 => ⟨S8x4096x8x32, .f32⟩
  | 93 => ⟨S8x4096x8x32, .f32⟩
  | 94 => ⟨S8x4096x8x32, .f32⟩
  | 95 => ⟨S8x4096x8x32, .f32⟩
  | 96 => ⟨S8x4096x8x32, .f32⟩
  | 97 => ⟨S8x4096x8x32, .f32⟩
  | 98 => ⟨S8x4096x8x32, .f32⟩
  | 99 => ⟨S8x4096x8x32, .f32⟩
  | 100 => ⟨S8x4096x8x32, .f32⟩
  | 101 => ⟨S8x4096x8x32, .f32⟩
  | 102 => ⟨S8x4096x8x32, .f32⟩
  | 103 => ⟨S8x4096x8x32, .f32⟩
  | 104 => ⟨S8x4096x8x64, .f32⟩
  | 105 => ⟨S8x4096x1x64, .f32⟩
  | 106 => ⟨S8x4096x1x32, .f32⟩
  | 107 => ⟨S8x4096x1x32, .f32⟩
  | 108 => ⟨S8x4096x1x32, .f32⟩
  | 109 => ⟨S8x4096x1x32, .f32⟩
  | 110 => ⟨S8x4096x1x32, .f32⟩
  | 111 => ⟨S8x4096x1x32, .f32⟩
  | 112 => ⟨S8x4096x1x32, .f32⟩
  | 113 => ⟨S8x4096x1x32, .f32⟩
  | 114 => ⟨S8x4096x1x64, .f32⟩
  | 115 => ⟨S8x4096x64, .f32⟩
  | 116 => ⟨S_, .f32⟩
  | 117 => ⟨S8x4096x8, .f32⟩
  | 118 => ⟨S8x4096x8, .f32⟩
  | 119 => ⟨S_, .f32⟩
  | 120 => ⟨S_, .f32⟩
  | 121 => ⟨S_, .f32⟩
  | 122 => ⟨S_, .f32⟩
  | 123 => ⟨S_, .f32⟩
  | 124 => ⟨S8x4096x8x64, .f32⟩
  | 125 => ⟨S8x4096x8x64, .f32⟩
  | 126 => ⟨S8x32x128x8x64, .f32⟩
  | 127 => ⟨S8x32x64x8x128, .f32⟩
  | _ => ⟨S8x4096x1024, .f32⟩

abbrev hbmTy0_1 (i : Nat) : BufTy := match i % 128 with
  | 0 => ⟨S8x32x64x4x128, .f32⟩
  | 1 => ⟨S_, .f32⟩
  | 2 => ⟨S8x32x64x4x128, .f32⟩
  | 3 => ⟨S8x32x64x4x128, .f32⟩
  | 4 => ⟨S8x32x64x8x128, .f32⟩
  | 5 => ⟨S8x32x64x4x128, .f32⟩
  | 6 => ⟨S8x32x64x8x128, .f32⟩
  | 7 => ⟨S8x32x128x8x128, .f32⟩
  | 8 => ⟨S8x32x128x8x64, .f32⟩
  | 9 => ⟨S8x32x64x8x128, .f32⟩
  | 10 => ⟨S_, .f32⟩
  | 11 => ⟨S8x32x64x8x128, .f32⟩
  | 12 => ⟨S8x32x128x8x128, .f32⟩
  | 13 => ⟨S_, .f32⟩
  | 14 => ⟨S8x4096x64, .f32⟩
  | 15 => ⟨S8x4096x128, .f32⟩
  | 16 => ⟨S8x32x128x1024, .f32⟩
  | 17 => ⟨S8x32x128x1024, .bf16⟩
  | 18 => ⟨S8x4096x128, .f32⟩
  | 19 => ⟨S8x4096x128, .bf16⟩
  | 20 => ⟨S8x128x4096, .f32⟩
  | 21 => ⟨S8x128x4096, .bf16⟩
  | 22 => ⟨S8x32x128x1024, .f32⟩
  | 23 => ⟨S8x32x128x1024, .bf16⟩
  | 24 => ⟨S8x4096x128, .bf16⟩
  | 25 => ⟨S8x8x4096, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_cst_8 : Ref sig .tc := ⟨.hbm, 116, rfl⟩
abbrev main_v100 : Ref sig .tc := ⟨.hbm, 117, rfl⟩
abbrev main_v101 : Ref sig .tc := ⟨.hbm, 118, rfl⟩
abbrev main_cst_9 : Ref sig .tc := ⟨.hbm, 119, rfl⟩
abbrev main_v102 : Ref sig .tc := ⟨.hbm, 120, rfl⟩
abbrev main_cst_10 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_cst_11 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_cst_12 : Ref sig .tc := ⟨.hbm, 138, rfl⟩
abbrev main_v118 : Ref sig .tc := ⟨.hbm, 139, rfl⟩
abbrev main_v119 : Ref sig .tc := ⟨.hbm, 140, rfl⟩
abbrev main_cst_13 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024 : Shape := ⟨1, ![1024]⟩
abbrev S1024x1792 : Shape := ⟨2, ![1024, 1792]⟩
abbrev S8x4096x1x32 : Shape := ⟨4, ![8, 4096, 1, 32]⟩
abbrev S64 : Shape := ⟨1, ![64]⟩
abbrev S8x4096x32 : Shape := ⟨3, ![8, 4096, 32]⟩
abbrev S8x32x4096 : Shape := ⟨3, ![8, 32, 4096]⟩
abbrev S1024x1024 : Shape := ⟨2, ![1024, 1024]⟩
abbrev S1024x768 : Shape := ⟨2, ![1024, 768]⟩
abbrev S768x1024 : Shape := ⟨2, ![768, 1024]⟩
abbrev S1x1024 : Shape := ⟨2, ![1, 1024]⟩
abbrev S64x1 : Shape := ⟨2, ![64, 1]⟩
abbrev S8x32x128x1024 : Shape := ⟨4, ![8, 32, 128, 1024]⟩
abbrev S8x4096x128 : Shape := ⟨3, ![8, 4096, 128]⟩
abbrev S8x128x4096 : Shape := ⟨3, ![8, 128, 4096]⟩
abbrev S1x512x1024 : Shape := ⟨3, ![1, 512, 1024]⟩
abbrev S1x32x512 : Shape := ⟨3, ![1, 32, 512]⟩
abbrev S1x4x128x1024 : Shape := ⟨4, ![1, 4, 128, 1024]⟩
abbrev S1x512x128 : Shape := ⟨3, ![1, 512, 128]⟩
abbrev S1x128x512 : Shape := ⟨3, ![1, 128, 512]⟩
abbrev S512x1024 : Shape := ⟨2, ![512, 1024]⟩
abbrev S512 : Shape := ⟨1, ![512]⟩
abbrev S512x1 : Shape := ⟨2, ![512, 1]⟩
abbrev S768x512 : Shape := ⟨2, ![768, 512]⟩
abbrev S32x512 : Shape := ⟨2, ![32, 512]⟩
abbrev S64x128 : Shape := ⟨2, ![64, 128]⟩
abbrev S64x512 : Shape := ⟨2, ![64, 512]⟩
abbrev S1x512 : Shape := ⟨2, ![1, 512]⟩
abbrev S1x1x64x128 : Shape := ⟨4, ![1, 1, 64, 128]⟩
abbrev S128x512 : Shape := ⟨2, ![128, 512]⟩
abbrev S512x128 : Shape := ⟨2, ![512, 128]⟩

abbrev nBuf : Space → Nat
  | .hbm => 23
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x1792, .f32⟩
  | .hbm, ⟨3, _⟩ => ⟨S8x4096x1x32, .f32⟩
  | .hbm, ⟨4, _⟩ => ⟨S8x4096x1x32, .f32⟩
  | .hbm, ⟨5, _⟩ => ⟨S64, .f32⟩
  | .hbm, ⟨6, _⟩ => ⟨S64, .f32⟩
  | .hbm, ⟨7, _⟩ => ⟨S8x4096x32, .f32⟩
  | .hbm, ⟨8, _⟩ => ⟨S8x32x4096, .f32⟩
  | .hbm, ⟨9, _⟩ => ⟨S8x4096x32, .f32⟩
  | .hbm, ⟨10, _⟩ => ⟨S8x32x4096, .f32⟩
  | .hbm, ⟨11, _⟩ => ⟨S1024x1024, .f32⟩
  | .hbm, ⟨12, _⟩ => ⟨S1024x1024, .bf16⟩
  | .hbm, ⟨13, _⟩ => ⟨S1024x768, .f32⟩
  | .hbm, ⟨14, _⟩ => ⟨S768x1024, .f32⟩
  | .hbm, ⟨15, _⟩ => ⟨S768x1024, .bf16⟩
  | .hbm, ⟨16, _⟩ => ⟨S1x1024, .f32⟩
  | .hbm, ⟨17, _⟩ => ⟨S64x1, .f32⟩
  | .hbm, ⟨18, _⟩ => ⟨S64x1, .f32⟩
  | .hbm, ⟨19, _⟩ => ⟨S8x32x128x1024, .bf16⟩
  | .hbm, ⟨20, _⟩ => ⟨S8x4096x128, .bf16⟩
  | .hbm, ⟨21, _⟩ => ⟨S8x128x4096, .bf16⟩
  | .hbm, ⟨22, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S768x1024, .bf16⟩
  | .local _ .vmem, ⟨4, _⟩ => ⟨S1024x1024, .bf16⟩
  | .local _ .vmem, ⟨5, _⟩ => ⟨S1x32x512, .f32⟩
  | .local _ .vmem, ⟨6, _⟩ => ⟨S1x32x512, .f32⟩
  | .local _ .vmem, ⟨7, _⟩ => ⟨S1x32x512, .f32⟩
  | .local _ .vmem, ⟨8, _⟩ => ⟨S1x32x512, .f32⟩
  | .local _ .vmem, ⟨9, _⟩ => ⟨S64x1, .f32⟩
  | .local _ .vmem, ⟨10, _⟩ => ⟨S64x1, .f32⟩
  | .local _ .vmem, ⟨11, _⟩ => ⟨S1x4x128x1024, .bf16⟩
  | .local _ .vmem, ⟨12, _⟩ => ⟨S1x4x128x1024, .bf16⟩
  | .local _ .vmem, ⟨13, _⟩ => ⟨S1x512x128, .bf16⟩
  | .local _ .vmem, ⟨14, _⟩ => ⟨S1x512x128, .bf16⟩
  | .local _ .vmem, ⟨15, _⟩ => ⟨S1x128x512, .bf16⟩
  | .local _ .vmem, ⟨16, _⟩ => ⟨S1x128x512, .bf16⟩
  | .local _ .vmem, ⟨17, _⟩ => ⟨S1x512x1024, .f32⟩
  | .local _ .vmem, ⟨18, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel4Ideal.lean ====
variable {F : FTy → Type} [FloatOps F] [Named F]
def κ : String → Option EReal := fun
  | "qscale" => some (((8 * (Real.log 2))⁻¹ : ℝ) : EReal)
  | _ => none
-- ==== Reference4Ideal.lean ====
abbrev S8x4096x1024 : Shape := ⟨3, ![8, 4096, 1024]⟩
abbrev S1024 : Shape := ⟨1, ![1024]⟩
abbrev S1024x1792 : Shape := ⟨2, ![1024, 1792]⟩
abbrev S8x4096x1x32 : Shape := ⟨4, ![8, 4096, 1, 32]⟩
abbrev S64 : Shape := ⟨1, ![64]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x1792 : Shape := ⟨3, ![8, 4096, 1792]⟩
abbrev S8x4096x512 : Shape := ⟨3, ![8, 4096, 512]⟩
abbrev S8x4096x128 : Shape := ⟨3, ![8, 4096, 128]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S8x4096x8x32 : Shape := ⟨4, ![8, 4096, 8, 32]⟩
abbrev S8x4096x2x64 : Shape := ⟨4, ![8, 4096, 2, 64]⟩
abbrev S8x4096x2 : Shape := ⟨3, ![8, 4096, 2]⟩
abbrev S8x4096x2x1 : Shape := ⟨4, ![8, 4096, 2, 1]⟩
abbrev S8x4096x2x32 : Shape := ⟨4, ![8, 4096, 2, 32]⟩
abbrev S8x32x128x8x64 : Shape := ⟨5, ![8, 32, 128, 8, 64]⟩
abbrev S8x32x64x8x128 : Shape := ⟨5, ![8, 32, 64, 8, 128]⟩
abbrev S8x32x64x4x128 : Shape := ⟨5, ![8, 32, 64, 4, 128]⟩
abbrev S8x32x128x8x128 : Shape := ⟨5, ![8, 32, 128, 8, 128]⟩
abbrev S8x32x128x1024 : Shape := ⟨4, ![8, 32, 128, 1024]⟩
abbrev S8x128x4096 : Shape := ⟨3, ![8, 128, 4096]⟩

abbrev nBuf : Space → Nat
  | .hbm => 111
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x1792, .f32⟩
  | .hbm, ⟨3, _⟩ => ⟨S8x4096x1x32, .f32⟩
  | .hbm, ⟨4, _⟩ => ⟨S8x4096x1x32, .f32⟩
  | .hbm, ⟨5, _⟩ => ⟨S64, .f32⟩
  | .hbm, ⟨6, _⟩ => ⟨S64, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x4096x1792, .f32⟩
  | .hbm, ⟨24, _⟩ => ⟨S8x4096x1024, .f32⟩
  | .hbm, ⟨25, _⟩ => ⟨S8x4096x512, .f32⟩
  | .hbm, ⟨26, _⟩ => ⟨S8x4096x128, .f32⟩
  | .hbm, ⟨27, _⟩ => ⟨S8x4096x128, .f32⟩
  | .hbm, ⟨28, _⟩ => ⟨S8x4096x8x64, .f32⟩
  | .hbm, ⟨29, _⟩ => ⟨S8x4096x8x64, .f32⟩
  | .hbm, ⟨30, _⟩ => ⟨S_, .f32⟩
  | .hbm, ⟨31, _⟩ => ⟨S8x4096x8, .f32⟩
  | .hbm, ⟨32, _⟩ => ⟨S8x4096x8x1, .f32⟩
  | .hbm, ⟨33, _⟩ => ⟨S_, .f32⟩
  | .hbm, ⟨34, _⟩ => ⟨S8x4096x8x1, .f32⟩
  | .hbm, ⟨35, _⟩ => ⟨S8x4096x8x1, .f32⟩
  | .hbm, ⟨36, _⟩ => ⟨S_, .f32⟩
  | .hbm, ⟨37, _⟩ => ⟨S8x4096x8x1, .f32⟩
  | .hbm, ⟨38, _⟩ => ⟨S8x4096x8x1, .f32⟩
  | .hbm, ⟨39, _⟩ => ⟨S8x4096x8x1, .f32⟩
  | .hbm, ⟨40, _⟩ => ⟨S8x4096x8x64, .f32⟩
  | .hbm, ⟨41, _⟩ => ⟨S8x4096x8x64, .f32⟩
  | .hbm, ⟨42, _⟩ => ⟨S1x1x1x64, .f32⟩
  | .hbm, ⟨43, _⟩ => ⟨S8x4096x8x64, .f32⟩
  | .hbm, ⟨44, _⟩ => ⟨S8x4096x8x64, .f32⟩
  | .hbm, ⟨45, _⟩ => ⟨S8x4096x8x32, .f32⟩
  | .hbm, ⟨46, _⟩ => ⟨S8x4096x8x32, .f32⟩
  | .hbm, ⟨47, _⟩ => ⟨S8x4096x8x32, .f32⟩
  | .hbm, ⟨48, _⟩ => ⟨S8x4096x8x32, .f32⟩
  | .hbm, ⟨49, _⟩ => ⟨S8x4096x8x32, .f32⟩
  | .hbm, ⟨50, _⟩ => ⟨S8x4096x8x32, .f32⟩
  | .hbm, ⟨51, _⟩ => ⟨S8x4096x8x32, .f32⟩
  | .hbm, ⟨52, _⟩ => ⟨S8x4096x8x32, .f32⟩
  | .hbm, ⟨53, _⟩ => ⟨S8x4096x8x32, .f32⟩
  | .hbm, ⟨54, _⟩ => ⟨S8x4096x8x32, .f32⟩
  | .hbm, ⟨55, _⟩ => ⟨S8x4096x8x32, .f32⟩
  | .hbm, ⟨56, _⟩ => ⟨S8x4096x8x32, .f32⟩
  | .hbm, ⟨57, _⟩ => ⟨S8x4096x8x64, .f32⟩
  | .hbm, ⟨58, _⟩ => ⟨S8x4096x2x64, .f32⟩
  | .hbm, ⟨59, _⟩ => ⟨S8x4096x2x64, .f32⟩
  | .hbm, ⟨60, _⟩ => ⟨S_, .f32⟩
  | .hbm, ⟨61, _⟩ => ⟨S8x4096x2, .f32⟩
  | .hbm, ⟨62, _⟩ => ⟨S8x4096x2x1, .f32⟩
  | .hbm, ⟨63, _⟩ => ⟨S_, .f32⟩
  | .hbm, ⟨64, _⟩ => ⟨S8x4096x2x1, .f32⟩
  | .hbm, ⟨65, _⟩ => ⟨S8x4096x2x1, .f32⟩
  | .hbm, ⟨66, _⟩ => ⟨S_, .f32⟩
  | .hbm, ⟨67, _⟩ => ⟨S8x4096x2x1, .f32⟩
  | .hbm, ⟨68, _⟩ => ⟨S8x4096x2x1, .f32⟩
  | .hbm, ⟨69, _⟩ => ⟨S8x4096x2x1, .f32⟩
  | .hbm, ⟨70, _⟩ => ⟨S8x4096x2x64, .f32⟩
  | .hbm, ⟨71, _⟩ => ⟨S8x4096x2x64, .f32⟩
  | .hbm, ⟨72, _⟩ => ⟨S1x1x1x64, .f32⟩
  | .hbm, ⟨73, _⟩ => ⟨S8x4096x2x64, .f32⟩
  | .hbm, ⟨74, _⟩ => ⟨S8x4096x2x64, .f32⟩
  | .hbm, ⟨75, _⟩ => ⟨S8x4096x2x32, .f32⟩
  | .hbm, ⟨76, _⟩ => ⟨S8x4096x2x32, .f32⟩
  | .hbm, ⟨77, _⟩ => ⟨S8x4096x2x32, .f32⟩
  | .hbm, ⟨78, _⟩ => ⟨S8x4096x2x32, .f32⟩
  | .hbm, ⟨79, _⟩ => ⟨S8x4096x2x32, .f32⟩
  | .hbm, ⟨80, _⟩ => ⟨S8x4096x2x32, .f32⟩
  | .hbm, ⟨81, _⟩ => ⟨S8x4096x2x32, .f32⟩
  | .hbm, ⟨82, _⟩ => ⟨S8x4096x2x32, .f32⟩
  | .hbm, ⟨83, _⟩ => ⟨S8x4096x2x32, .f32⟩
  | .hbm, ⟨84, _⟩ => ⟨S8x4096x2x32, .f32⟩
  | .hbm, ⟨85, _⟩ => ⟨S8x4096x2x32, .f32⟩
  | .hbm, ⟨86, _⟩ => ⟨S8x4096x2x32, .f32⟩
  | .hbm, ⟨87, _⟩ => ⟨S8x4096x2x64, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S8x4096x8x64, .f32⟩
  | .hbm, ⟨94, _⟩ => ⟨S8x4096x8x64, .f32⟩
  | .hbm, ⟨95, _⟩ => ⟨S8x32x128x8x64, .f32⟩
  | .hbm, ⟨96, _⟩ => ⟨S8x32x64x8x128, .f32⟩
  | .hbm, ⟨97, _⟩ => ⟨S8x32x64x4x128, .f32⟩
  | .hbm, ⟨98, _⟩ => ⟨S_, .f32⟩
  | .hbm, ⟨99, _⟩ => ⟨S8x32x64x4x128, .f32⟩
  | .hbm, ⟨100, _⟩ => ⟨S8x32x64x4x128, .f32⟩
  | .hbm, ⟨101, _⟩ => ⟨S8x32x64x8x128, .f32⟩
  | .hbm, ⟨102, _⟩ => ⟨S8x32x64x4x128, .f32⟩
  | .hbm, ⟨103, _⟩ => ⟨S8x32x64x8x128, .f32⟩
  | .hbm, ⟨104, _⟩ => ⟨S8x32x128x8x128, .f32⟩
  | .hbm, ⟨105, _⟩ => ⟨S8x32x128x1024, .f32⟩
  | .hbm, ⟨106, _⟩ => ⟨S8x32x128x1024, .bf16⟩
  | .hbm, ⟨107, _⟩ => ⟨S8x4096x128, .f32⟩
  | .hbm, ⟨108, _⟩ => ⟨S8x4096x128, .bf16⟩
  | .hbm, ⟨109, _⟩ => ⟨S8x128x4096, .f32⟩
  | .hbm, ⟨110, _⟩ => ⟨S8x128x4096, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_5 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_8 : Ref sig .tc := ⟨.hbm, 88, rfl⟩
abbrev main_v72 : Ref sig .tc := ⟨.hbm, 89, rfl⟩
abbrev main_cst_9 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_10 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩

abbrev nD : Nat := 1
abbrev τ : Topo := Topo.v7x

variable {F : FTy → Type} [FloatOps F]
-- ==== Kernel5.lean ====
abbrev S8x4096 : Shape := ⟨2, ![8, 4096]⟩
abbrev S32 : Shape := ⟨1, ![32]⟩
abbrev S_ : Shape := ⟨0, ![]⟩
abbrev S32x1 : Shape := ⟨2, ![32, 1]⟩
abbrev S8x1x4096 : Shape := ⟨3, ![8, 1, 4096]⟩
abbrev S8x32x4096 : Shape := ⟨3, ![8, 32, 4096]⟩
abbrev S1x1x4096 : Shape := ⟨3, ![1, 1, 4096]⟩
abbrev S1x32x4096 : Shape := ⟨3, ![1, 32, 4096]⟩
abbrev S1x4096 : Shape := ⟨2, ![1, 4096]⟩
abbrev S32x4096 : Shape := ⟨2, ![32, 4096]⟩

abbrev nBuf : Space → Nat
  | .hbm => 21
  | .vmem => 7
  | .smem => 0
  | _ => 0

abbrev bufTy : (tb : Table) → Fin (tcTables nBuf tb) → BufTy
  | .hbm, ⟨0, _⟩ => ⟨S8x4096, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32x1, .f32⟩
  | .hbm, ⟨18, _⟩ => ⟨S8x1x4096, .i32⟩
  | .hbm, ⟨19, _⟩ => ⟨S8x32x4096, .f32⟩
  | .hbm, ⟨20, _⟩ => ⟨S8x32x4096, .f32⟩
  | .local _ .vmem, ⟨0, _⟩ => ⟨S1x1x4096, .i32⟩
  | .local _ .vmem, ⟨1, _⟩ => ⟨S1x1x4096, .i32⟩
  | .local _ .vmem, ⟨2, _⟩ => ⟨S32x1, .f32⟩
  | .local _ .vmem, ⟨3, _⟩ => ⟨S1x32x4096, .f32⟩
  | .local _ .vmem, ⟨4, _⟩ => ⟨S1x32x4096, .f32⟩
  | .local _ .vmem, ⟨5, _⟩ => ⟨S1x32x4096, .f32⟩
  | .local _ .vmem, ⟨6, _⟩ => ⟨S1x32x4096, .f32⟩
  | _, _ => ⟨S8x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8x4096 : Shape := ⟨2, ![8, 4096]⟩
abbrev S32 : Shape := ⟨1, ![32]⟩
abbrev S_ : Shape := ⟨0, ![]⟩
abbrev S8x4096x1 : Shape := ⟨3, ![8, 4096, 1]⟩
abbrev S1x1x32 : Shape := ⟨3, ![1, 1, 32]⟩
abbrev S8x4096x32 : Shape := ⟨3, ![8, 4096, 32]⟩
abbrev S8x32x4096 : Shape := ⟨3, ![8, 32, 4096]⟩

abbrev nBuf : Space → Nat
  | .hbm => 27
  | .vmem => 0
  | .smem => 0
  | _ => 0

abbrev bufTy : (tb : Table) → Fin (tcTables nBuf tb) → BufTy
  | .hbm, ⟨0, _⟩ => ⟨S8x4096, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S8x4096, .f32⟩
  | .hbm, ⟨18, _⟩ => ⟨S8x4096x1, .f32⟩
  | .hbm, ⟨19, _⟩ => ⟨S1x1x32, .f32⟩
  | .hbm, ⟨20, _⟩ => ⟨S8x4096x32, .f32⟩
  | .hbm, ⟨21, _⟩ => ⟨S8x4096x32, .f32⟩
  | .hbm, ⟨22, _⟩ => ⟨S8x4096x32, .f32⟩
  | .hbm, ⟨23, _⟩ => ⟨S8x4096x32, .f32⟩
  | .hbm, ⟨24, _⟩ => ⟨S8x32x4096, .f32⟩
  | .hbm, ⟨25, _⟩ => ⟨S8x4096x32, .f32⟩
  | .hbm, ⟨26, _⟩ => ⟨S8x32x4096, .f32⟩
  | _, _ => ⟨S8x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Proof.MlpSpec.lean ====
module

public import proofs.«01_k».proof.Proof.Gen.KernelIdeal.Value
public import Idealize.ShloMosaic.Lib.Tactic
public import Idealize.ShloMosaic.Lib.Pointwise

@[expose] public section

noncomputable section

namespace Cert.Mlp

open Idealize.ShloMosaic

/-! ## One token's row of the sub-layer, over the extended reals -/

/-- The residual row plus the output projection of the two mixers' halves: `x + [a, b] · w`, one sum per half. -/
def mixed (x : Fin 1024 → EReal) (a b : Fin 512 → EReal) (w : Fin 1024 → Fin 1024 → EReal) (e : Fin 1024) : EReal :=
  x e + (∑ k : Fin 512, a k * w ⟨k, by omega⟩ e) + ∑ k : Fin 512, b k * w ⟨512 + k, by omega⟩ e

/-- The root-mean-square normalised row times the gain. -/
def normed (y g : Fin 1024 → EReal) (e : Fin 1024) : EReal :=
  y e * Ideal.rsqrt (Ideal.div (∑ k : Fin 1024, y k * y k) (Ideal.ofBits .f32 0x44800000#32) + Ideal.ofBits .f32 0x358637BD#32) * g e

/-- One hidden unit: the squared positive part of the row's product with its up-projection column. -/
def hidden (h : Fin 1024 → EReal) (u : Fin 1024 → Fin 4096 → EReal) (f : Fin 4096) : EReal :=
  max (∑ k : Fin 1024, h k * u k f) 0 * max (∑ k : Fin 1024, h k * u k f) 0

/-- The row plus the down projection of the hidden units. -/
def row (x : Fin 1024 → EReal) (a b : Fin 512 → EReal) (w : Fin 1024 → Fin 1024 → EReal) (g : Fin 1024 → EReal)
    (u : Fin 1024 → Fin 4096 → EReal) (d : Fin 4096 → Fin 1024 → EReal) (e : Fin 1024) : EReal :=
  mixed x a b w e + ∑ f : Fin 4096, hidden (normed (mixed x a b w) g) u f * d f e

/-- A sum over 4096 hidden units, cut into its four blocks of 1024 in order, added to `y`. -/
theorem add_sum_blocks (y : EReal) (F : Fin 4096 → EReal) :
    y + (∑ j : Fin 1024, F ⟨j, by omega⟩) + (∑ j : Fin 1024, F ⟨1024 + j, by omega⟩)
      + (∑ j : Fin 1024, F ⟨2048 + j, by omega⟩) + (∑ j : Fin 1024, F ⟨3072 + j, by omega⟩) = y + ∑ f : Fin 4096, F f := by
  have h1 : ∑ f : Fin 4096, F f = ∑ f : Fin (1024 + 1024 + 1024 + 1024), F ⟨f, f.isLt⟩ := rfl
  rw [h1, Fin.sum_univ_add, Fin.sum_univ_add, Fin.sum_univ_add]
  simp only [← add_assoc]
  rfl

end Cert.Mlp

namespace Cert.Mlp

open Idealize.ShloMosaic Idealize.ShloMosaic.TcCoe Idealize.SL.Sem
open Cert.KernelIdeal Cert.KernelIdeal.Gen

/-! ## What one grid point leaves in its output block -/

/-- The first store's payload at an element: the residual plus the output projection. -/
theorem pay3_at (x0 : Vec Ideal S512x1024 .f32) (x1 x2 : Vec Ideal S512x512 .bf16) (x3 : Vec Ideal S1024x1024 .bf16) (r : Fin 512) (e : Fin 1024) :
    k0_pay3 x0 x1 (View.ld x3 (Rect.unit ![0, 0] ![512, 1024] inb_S1024x1024_S512x1024_0_0)) x2
        (View.ld x3 (Rect.unit ![512, 0] ![512, 1024] inb_S1024x1024_S512x1024_512_0)) (ix2 r e)
      = mixed (fun k => x0 (ix2 r k)) (fun k => x1 (ix2 r k)) (fun k => x2 (ix2 r k)) (fun k l => x3 (ix2 k l)) e := by
  pointwise [k0_pay3, mixed]

/-- The normalised row the up projection reads, at an element. -/
theorem pay4_at (x0 : Vec Ideal S512x1024 .f32) (x1 x2 : Vec Ideal S512x512 .bf16) (w0 w1 : Vec Ideal S512x1024 .bf16) (x4 : Vec Ideal S1x1024 .f32) (r : Fin 512) (e : Fin 1024) :
    k0_pay4 x0 x1 w0 x2 w1 x4 (ix2 r e)
      = normed (fun k => k0_pay3 x0 x1 w0 x2 w1 (ix2 r k)) (fun k => x4 (ix2 0 k)) e := by
  unfold k0_pay4
  generalize k0_pay3 x0 x1 w0 x2 w1 = y
  pointwise [normed]

/-- One block of hidden units times its rows of the down projection, added to what the output block holds. -/
def blk (h : Fin 1024 → EReal) (u : Fin 1024 → Fin 1024 → EReal) (d : Fin 1024 → Fin 1024 → EReal) (e : Fin 1024) : EReal :=
  ∑ j : Fin 1024, (max (∑ k : Fin 1024, h k * u k j) 0 * max (∑ k : Fin 1024, h k * u k j) 0) * d j e

/-- A later block of hidden units, added to what the output block holds, in one of the texts the body gives it. -/
theorem pay7_at (v28 : FVec Ideal S512x1024 .bf16) (w : Vec Ideal S1024x1024 .bf16) (y : Vec Ideal S512x1024 .f32) (d : Vec Ideal S1024x1024 .bf16) (r : Fin 512) (e : Fin 1024) :
    k0_pay7 v28 w y d (ix2 r e) = y (ix2 r e) + blk (fun k => v28 (ix2 r k)) (fun k l => w (ix2 k l)) (fun k l => d (ix2 k l)) e := by
  pointwise [k0_pay7, blk]

/-- A later block of hidden units, added to what the output block holds, in one of the texts the body gives it. -/
theorem pay2_at (v28 : FVec Ideal S512x1024 .bf16) (w : Vec Ideal S1024x1024 .bf16) (y : Vec Ideal S512x1024 .f32) (d : Vec Ideal S1024x1024 .bf16) (r : Fin 512) (e : Fin 1024) :
    k0_pay2 v28 w y d (ix2 r e) = y (ix2 r e) + blk (fun k => v28 (ix2 r k)) (fun k l => w (ix2 k l)) (fun k l => d (ix2 k l)) e := by
  pointwise [k0_pay2, blk]

/-- A later block of hidden units, added to what the output block holds, in one of the texts the body gives it. -/
theorem pay1_at (v28 : FVec Ideal S512x1024 .bf16) (w : Vec Ideal S1024x1024 .bf16) (y : Vec Ideal S512x1024 .f32) (d : Vec Ideal S1024x1024 .bf16) (r : Fin 512) (e : Fin 1024) :
    k0_pay1 (k0_pay8 v28 w) (k0_pay9 y) d (ix2 r e) = y (ix2 r e) + blk (fun k => v28 (ix2 r k)) (fun k l => w (ix2 k l)) (fun k l => d (ix2 k l)) e := by
  pointwise [k0_pay1, k0_pay8, k0_pay9, blk]

/-- The first block of hidden units, added to what the output block holds. -/
theorem pay6_at (x0 : Vec Ideal S512x1024 .f32) (x1 x2 : Vec Ideal S512x512 .bf16) (w0 w1 : Vec Ideal S512x1024 .bf16) (x4 : Vec Ideal S1x1024 .f32)
    (w : Vec Ideal S1024x1024 .bf16) (y : Vec Ideal S512x1024 .f32) (d : Vec Ideal S1024x1024 .bf16) (r : Fin 512) (e : Fin 1024) :
    k0_pay6 (k0_pay5 x0 x1 w0 x2 w1 x4 w) y d (ix2 r e)
      = y (ix2 r e) + blk (fun k => k0_pay4 x0 x1 w0 x2 w1 x4 (ix2 r k)) (fun k l => w (ix2 k l)) (fun k l => d (ix2 k l)) e := by
  unfold k0_pay5
  generalize k0_pay4 x0 x1 w0 x2 w1 x4 = h
  pointwise [k0_pay6, blk]

end Cert.Mlp
-- ==== Proof.MlpPoint.lean ====
module

public import proofs.«01_k».proof.Proof.MlpSpec
public import Idealize.ShloMosaic.Lib.Pipeline.ValueKit.Acc

@[expose] public section

noncomputable section

namespace Cert.Mlp

open Idealize.ShloMosaic Idealize.ShloMosaic.TcCoe Idealize.SL.Sem
open Cert.KernelIdeal Cert.KernelIdeal.Gen

/-- Two zero offsets are the constant zero. -/
theorem off2 : (![0, 0] : Fin 2 → Nat) = fun _ => 0 := funext fun a => by fin_cases a <;> rfl

/-- What a grid point leaves in its output block, at an element: the sub-layer's row of the point's input blocks. -/
theorem point_at (c : Dev nD) (i : grid0.Coords) (a1 : Memref sig .tc .vmem S512x1024 .f32) (h1 : a1.IsWhole) (a2 : Memref sig .tc .vmem S512x512 .bf16) (h2 : a2.IsWhole) (a3 : Memref sig .tc .vmem S512x512 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x4096 .bf16) (h6 : a6.IsWhole) (a7 : Memref sig .tc .vmem S4096x1024 .bf16) (h7 : a7.IsWhole) (a8 : Memref sig .tc .vmem S512x1024 .f32) (h8 : a8.IsWhole)
    (x0 : Vec Ideal S512x1024 .f32) (x1 : Vec Ideal S512x512 .bf16) (x2 : Vec Ideal S512x512 .bf16) (x3 : Vec Ideal S1024x1024 .bf16) (x4 : Vec Ideal S1x1024 .f32) (x5 : Vec Ideal S1024x4096 .bf16) (x6 : Vec Ideal S4096x1024 .bf16) (r : Fin 512) (e : Fin 1024) :
    out0_A_7 c i a1 h1 a2 h2 a3 h3 a4 h4 a5 h5 a6 h6 a7 h7 a8 h8 x0 x1 x2 x3 x4 x5 x6 (ix2 r e)
      = row (fun k => x0 (ix2 r k)) (fun k => x1 (ix2 r k)) (fun k => x2 (ix2 r k)) (fun k l => x3 (ix2 k l)) (fun k => x4 (ix2 0 k))
          (fun k l => x5 (ix2 k l)) (fun k l => x6 (ix2 k l)) e := by
  unfold out0_A_7
  rw [View.read_writes_eq_canon _ _ _ (cover0_A_7 c i a1 h1 a2 h2 a3 h3 a4 h4 a5 h5 a6 h6 a7 h7 a8 h8 x0 x1 x2 x3 x4 x5 x6)]
  unfold kernelRun0_A
  dsimp only
  sl_unfold_words
  rw [View.canon_cons_unit_zero (S := S512x1024) off2]
  have hz : ∀ a : Fin 2, (![0, 0] : Fin 2 → Nat) a = 0 := fun a => by rw [off2]
  simp only [View.readCov_cons_unit_lit' (S := S512x1024) _ _ _ _ _ hz hz, View.readAt_eq_ld, h1.read_unread, h2.read_unread, h3.read_unread, h4.read_unread, h5.read_unread, h6.read_unread, h7.read_unread, View.ld_unit_zero (S := S512x1024) off2, View.ld_unit_zero (S := S512x512) off2, View.ld_unit_zero (S := S1x1024) off2]
  rw [pay2_at, pay1_at, pay7_at, pay6_at]
  simp only [pay4_at, pay3_at]
  unfold row
  rw [← add_sum_blocks]
  unfold blk hidden
  pointwise []

end Cert.Mlp
-- ==== Proof.MlpValue.lean ====
module

public import proofs.«01_k».proof.Proof.MlpPoint
public import proofs.«01_k».proof.Proof.Gen.ReferenceIdeal.Read
public import Idealize.ShloMosaic.Lib.StableHlo.ReadAt
public import Idealize.ShloMosaic.Lib.Claim

@[expose] public section

noncomputable section

namespace Cert.Mlp

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-! ## The arrays the grid reads, element by element, as the arguments -/

/-- The flattened residual stream. -/
theorem V0_at (c : Dev nD) (r : Fin 32768) (e : Fin 1024) :
    V m c main_v0 (ix2 r e) = m ((c : Thread nD τ).loc main_arg0) (ix3 ⟨r / 4096, by omega⟩ ⟨r % 4096, by omega⟩ e) := by
  unfold V; after_reads_at

/-- The flattened first mixer's outputs. -/
theorem V1_at (c : Dev nD) (r : Fin 32768) (e : Fin 512) :
    V m c main_v1 (ix2 r e) = m ((c : Thread nD τ).loc main_arg1) (ix3 ⟨r / 4096, by omega⟩ ⟨r % 4096, by omega⟩ e) := by
  unfold V; after_reads_at

/-- The flattened second mixer's outputs. -/
theorem V2_at (c : Dev nD) (r : Fin 32768) (e : Fin 512) :
    V m c main_v2 (ix2 r e) = m ((c : Thread nD τ).loc main_arg2) (ix3 ⟨r / 4096, by omega⟩ ⟨r % 4096, by omega⟩ e) := by
  unfold V; after_reads_at

/-- The output projection's weights. -/
theorem V3_at (c : Dev nD) (k e : Fin 1024) :
    V m c main_v3 (ix2 k e) = m ((c : Thread nD τ).loc main_arg3) (ix2 k e) := by
  unfold V; after_reads_at

/-- The gain, as one row. -/
theorem V4_at (c : Dev nD) (e : Fin 1024) :
    V m c main_v4 (ix2 0 e) = m ((c : Thread nD τ).loc main_arg4) (ix1 e) := by
  unfold V; after_reads_at

/-- The up projection's weights. -/
theorem V5_at (c : Dev nD) (k : Fin 1024) (f : Fin 4096) :
    V m c main_v5 (ix2 k f) = m ((c : Thread nD τ).loc main_arg5) (ix2 k f) := by
  unfold V; after_reads_at

/-- The down projection's weights. -/
theorem V6_at (c : Dev nD) (f : Fin 4096) (e : Fin 1024) :
    V m c main_v6 (ix2 f e) = m ((c : Thread nD τ).loc main_arg6) (ix2 f e) := by
  unfold V; after_reads_at

/-- Where each window's block lies at a grid point. -/
theorem idx_facts : ∀ t : Fin grid0.N, win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = 0 ∧ win0_4.index t 0 = 0 ∧ win0_4.index t 1 = 0
    ∧ win0_5.index t 0 = 0 ∧ win0_5.index t 1 = 0 ∧ win0_6.index t 0 = 0 ∧ win0_6.index t 1 = 0 ∧ win0_7.index t 0 = t.val ∧ win0_7.index t 1 = 0 := by
  decide +kernel

/-- A grid point's number is below 64. -/
theorem pt_lt (t : Fin cfg0.N) : t.val < 64 := lt_of_lt_of_eq t.isLt N_0

/-- Window 0's block read off the array the grid reads. -/
theorem iblk0_V (c : Dev nD) (t : Fin cfg0.N) (r : Fin 512) (e : Fin 1024) :
    (iblk m c 0 t : Vec Ideal S512x1024 .f32) (ix2 r e) = V m c main_v0 (ix2 ⟨t * 512 + r, by have := pt_lt t; omega⟩ e) := by
  obtain ⟨h0, h1, -⟩ := idx_facts t
  unfold iblk; rw [View.read_apply]
  show V m c main_v0 _ = _
  congr 1; funext a; apply Fin.ext
  match a with
  | ⟨0, _⟩ => show win0_0.index t 0 * 512 + 1 * r.val = _; rw [h0]; show _ = t.val * 512 + r.val; omega
  | ⟨1, _⟩ => show win0_0.index t 1 * 1024 + 1 * e.val = e.val; rw [h1]; omega

/-- Window 1's block read off the array the grid reads. -/
theorem iblk1_V (c : Dev nD) (t : Fin cfg0.N) (r : Fin 512) (e : Fin 512) :
    (iblk m c 1 t : Vec Ideal S512x512 .bf16) (ix2 r e) = V m c main_v1 (ix2 ⟨t * 512 + r, by have := pt_lt t; omega⟩ e) := by
  obtain ⟨-, -, h0, h1, -⟩ := idx_facts t
  unfold iblk; rw [View.read_apply]
  show V m c main_v1 _ = _
  congr 1; funext a; apply Fin.ext
  match a with
  | ⟨0, _⟩ => show win0_1.index t 0 * 512 + 1 * r.val = _; rw [h0]; show _ = t.val * 512 + r.val; omega
  | ⟨1, _⟩ => show win0_1.index t 1 * 512 + 1 * e.val = e.val; rw [h1]; omega

/-- Window 2's block read off the array the grid reads. -/
theorem iblk2_V (c : Dev nD) (t : Fin cfg0.N) (r : Fin 512) (e : Fin 512) :
    (iblk m c 2 t : Vec Ideal S512x512 .bf16) (ix2 r e) = V m c main_v2 (ix2 ⟨t * 512 + r, by have := pt_lt t; omega⟩ e) := by
  obtain ⟨-, -, -, -, h0, h1, -⟩ := idx_facts t
  unfold iblk; rw [View.read_apply]
  show V m c main_v2 _ = _
  congr 1; funext a; apply Fin.ext
  match a with
  | ⟨0, _⟩ => show win0_2.index t 0 * 512 + 1 * r.val = _; rw [h0]; show _ = t.val * 512 + r.val; omega
  | ⟨1, _⟩ => show win0_2.index t 1 * 512 + 1 * e.val = e.val; rw [h1]; omega

/-- Window 3's block read off the array the grid reads. -/
theorem iblk3_V (c : Dev nD) (t : Fin cfg0.N) (r e : Fin 1024) :
    (iblk m c 3 t : Vec Ideal S1024x1024 .bf16) (ix2 r e) = V m c main_v3 (ix2 r e) := by
  obtain ⟨-, -, -, -, -, -, h0, h1, -⟩ := idx_facts t
  unfold iblk; rw [View.read_apply]
  show V m c main_v3 _ = _
  congr 1; funext a; apply Fin.ext
  match a with
  | ⟨0, _⟩ => show win0_3.index t 0 * 1024 + 1 * r.val = r.val; rw [h0]; omega
  | ⟨1, _⟩ => show win0_3.index t 1 * 1024 + 1 * e.val = e.val; rw [h1]; omega

/-- Window 4's block read off the array the grid reads. -/
theorem iblk4_V (c : Dev nD) (t : Fin cfg0.N) (e : Fin 1024) :
    (iblk m c 4 t : Vec Ideal S1x1024 .f32) (ix2 0 e) = V m c main_v4 (ix2 0 e) := by
  obtain ⟨-, -, -, -, -, -, -, -, h0, h1, -⟩ := idx_facts t
  unfold iblk; rw [View.read_apply]
  show V m c main_v4 _ = _
  congr 1; funext a; apply Fin.ext
  match a with
  | ⟨0, _⟩ => show win0_4.index t 0 * 1 + 1 * 0 = 0; rw [h0]
  | ⟨1, _⟩ => show win0_4.index t 1 * 1024 + 1 * e.val = e.val; rw [h1]; omega

/-- Window 5's block read off the array the grid reads. -/
theorem iblk5_V (c : Dev nD) (t : Fin cfg0.N) (r : Fin 1024) (e : Fin 4096) :
    (iblk m c 5 t : Vec Ideal S1024x4096 .bf16) (ix2 r e) = V m c main_v5 (ix2 r e) := by
  obtain ⟨-, -, -, -, -, -, -, -, -, -, h0, h1, -⟩ := idx_facts t
  unfold iblk; rw [View.read_apply]
  show V m c main_v5 _ = _
  congr 1; funext a; apply Fin.ext
  match a with
  | ⟨0, _⟩ => show win0_5.index t 0 * 1024 + 1 * r.val = r.val; rw [h0]; omega
  | ⟨1, _⟩ => show win0_5.index t 1 * 4096 + 1 * e.val = e.val; rw [h1]; omega

/-- Window 6's block read off the array the grid reads. -/
theorem iblk6_V (c : Dev nD) (t : Fin cfg0.N) (r : Fin 4096) (e : Fin 1024) :
    (iblk m c 6 t : Vec Ideal S4096x1024 .bf16) (ix2 r e) = V m c main_v6 (ix2 r e) := by
  obtain ⟨-, -, -, -, -, -, -, -, -, -, -, -, h0, h1, -⟩ := idx_facts t
  unfold iblk; rw [View.read_apply]
  show V m c main_v6 _ = _
  congr 1; funext a; apply Fin.ext
  match a with
  | ⟨0, _⟩ => show win0_6.index t 0 * 4096 + 1 * r.val = r.val; rw [h0]; omega
  | ⟨1, _⟩ => show win0_6.index t 1 * 1024 + 1 * e.val = e.val; rw [h1]; omega

/-- The point's rows of the residual stream, as the argument. -/
theorem iblk0_at (c : Dev nD) (t : Fin cfg0.N) (r : Fin 512) (e : Fin 1024) :
    (iblk m c 0 t : Vec Ideal S512x1024 .f32) (ix2 r e) = m ((c : Thread nD τ).loc main_arg0) (ix3 ⟨(t * 512 + r) / 4096, by have := pt_lt t; omega⟩ ⟨(t * 512 + r) % 4096, by omega⟩ e) :=
  (iblk0_V m c t r e).trans (V0_at m c _ _)

/-- The point's rows of the first mixer's outputs, as the argument. -/
theorem iblk1_at (c : Dev nD) (t : Fin cfg0.N) (r : Fin 512) (e : Fin 512) :
    (iblk m c 1 t : Vec Ideal S512x512 .bf16) (ix2 r e) = m ((c : Thread nD τ).loc main_arg1) (ix3 ⟨(t * 512 + r) / 4096, by have := pt_lt t; omega⟩ ⟨(t * 512 + r) % 4096, by omega⟩ e) :=
  (iblk1_V m c t r e).trans (V1_at m c _ _)

/-- The point's rows of the second mixer's outputs, as the argument. -/
theorem iblk2_at (c : Dev nD) (t : Fin cfg0.N) (r : Fin 512) (e : Fin 512) :
    (iblk m c 2 t : Vec Ideal S512x512 .bf16) (ix2 r e) = m ((c : Thread nD τ).loc main_arg2) (ix3 ⟨(t * 512 + r) / 4096, by have := pt_lt t; omega⟩ ⟨(t * 512 + r) % 4096, by omega⟩ e) :=
  (iblk2_V m c t r e).trans (V2_at m c _ _)

/-- The output projection's weights, whole at every point. -/
theorem iblk3_at (c : Dev nD) (t : Fin cfg0.N) (r e : Fin 1024) :
    (iblk m c 3 t : Vec Ideal S1024x1024 .bf16) (ix2 r e) = m ((c : Thread nD τ).loc main_arg3) (ix2 r e) :=
  (iblk3_V m c t r e).trans (V3_at m c _ _)

/-- The gain, whole at every point. -/
theorem iblk4_at (c : Dev nD) (t : Fin cfg0.N) (e : Fin 1024) :
    (iblk m c 4 t : Vec Ideal S1x1024 .f32) (ix2 0 e) = m ((c : Thread nD τ).loc main_arg4) (ix1 e) :=
  (iblk4_V m c t e).trans (V4_at m c _)

/-- The up projection's weights, whole at every point. -/
theorem iblk5_at (c : Dev nD) (t : Fin cfg0.N) (r : Fin 1024) (e : Fin 4096) :
    (iblk m c 5 t : Vec Ideal S1024x4096 .bf16) (ix2 r e) = m ((c : Thread nD τ).loc main_arg5) (ix2 r e) :=
  (iblk5_V m c t r e).trans (V5_at m c _ _)

/-- The down projection's weights, whole at every point. -/
theorem iblk6_at (c : Dev nD) (t : Fin cfg0.N) (r : Fin 4096) (e : Fin 1024) :
    (iblk m c 6 t : Vec Ideal S4096x1024 .bf16) (ix2 r e) = m ((c : Thread nD τ).loc main_arg6) (ix2 r e) :=
  (iblk6_V m c t r e).trans (V6_at m c _ _)

/-! ## The result array -/

/-- The result array as a function of the arguments: each token's row of the sub-layer. -/
def result (x : S8x4096x1024.Idx → EReal) (a b : S8x4096x512.Idx → EReal) (w : S1024x1024.Idx → EReal) (g : S1024.Idx → EReal)
    (u : S1024x4096.Idx → EReal) (d : S4096x1024.Idx → EReal) (r : Fin 32768) (e : Fin 1024) : EReal :=
  row (fun k => x (ix3 ⟨r / 4096, by omega⟩ ⟨r % 4096, by omega⟩ k)) (fun k => a (ix3 ⟨r / 4096, by omega⟩ ⟨r % 4096, by omega⟩ k))
    (fun k => b (ix3 ⟨r / 4096, by omega⟩ ⟨r % 4096, by omega⟩ k)) (fun k l => w (ix2 k l)) (fun k => g (ix1 k)) (fun k l => u (ix2 k l)) (fun k l => d (ix2 k l)) e

/-- The kernel's result array. -/
def G (c : Dev nD) : Buf (Elt Ideal) ((c : Thread nD τ).loc main_v7) := fun i : S32768x1024.Idx =>
  result (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (i 0) (i 1)

/-- What each grid point writes back is its block of the result array. -/
theorem flushed_eq (c : Dev nD) (t : Fin cfg0.N) :
    (dats m 0 c).flushed 7 t = ((cfg0.win 7).blk t).view.read (Elt Ideal) (G m c) := by
  rw [Cert.KernelIdeal.Value.flushed7_A]
  obtain ⟨-, -, -, -, -, -, -, -, -, -, -, -, -, -, h0, h1⟩ := idx_facts t
  have ht := pt_lt t
  refine funext fun (j : S512x1024.Idx) => ?_
  obtain ⟨r, e, rfl⟩ : ∃ (r : Fin 512) (e : Fin 1024), j = ix2 r e := ⟨j 0, j 1, eq_ix2 j⟩
  rw [View.read_apply]
  have hj : ((cfg0.win 7).blk t).view.emb (ix2 r e) = (ix2 (⟨t * 512 + r, by omega⟩ : Fin 32768) e : S32768x1024.Idx) := by
    funext a; apply Fin.ext
    match a with
    | ⟨0, _⟩ => show win0_7.index t 0 * 512 + 1 * r.val = t.val * 512 + r.val; rw [h0]; omega
    | ⟨1, _⟩ => show win0_7.index t 1 * 1024 + 1 * e.val = e.val; rw [h1]; omega
  rw [hj]
  refine (point_at c _ _ _ _ _ _ _ _ _ _ _ _ _ _ _ _ _ _ _ _ _ _ _ _ r e).trans ?_
  simp only [iblk0_at, iblk1_at, iblk2_at, iblk3_at, iblk4_at, iblk5_at, iblk6_at]
  rfl

/-- Every element of the result array lies in some grid point's block. -/
theorem cover (i : S32768x1024.Idx) : ∃ t : Fin cfg0.N, (cfg0.win 7).flush t = true ∧ i ∈ ((cfg0.win 7).blk t).view.set := by
  have hi0 : (i 0).val < 32768 := (i 0).isLt
  have hi1 : (i 1).val < 1024 := (i 1).isLt
  have hN : cfg0.N = 64 := N_0
  refine ⟨⟨(i 0).val / 512, by rw [hN]; omega⟩, flush0_7 _, ?_⟩
  generalize ht : (⟨(i 0).val / 512, by rw [hN]; omega⟩ : Fin cfg0.N) = t
  have htv : t.val = (i 0).val / 512 := by rw [← ht]
  obtain ⟨-, -, -, -, -, -, -, -, -, -, -, -, -, -, h0, h1⟩ := idx_facts t
  show i ∈ ((View.whole main_v7).slice (win0_7.rect t)).set
  rw [View.set_slice_whole, Rect.mem_set_unit]
  intro a
  match a with
  | ⟨0, _⟩ => show win0_7.index t 0 * 512 ≤ (i 0).val ∧ (i 0).val < win0_7.index t 0 * 512 + 512; rw [h0]; omega
  | ⟨1, _⟩ => show win0_7.index t 1 * 1024 ≤ (i 1).val ∧ (i 1).val < win0_7.index t 1 * 1024 + 1024; rw [h1]; omega

/-- So the result array after the run is `G`. -/
theorem final (c : Dev nD) : (dats m 0 c).arrAt 7 cfg0.N = G m c :=
  (dats m 0 c).arrAt_eq_of_cover 7 (G m c) (fun t _ => flushed_eq m c t) cover

end Cert.Mlp
-- ==== Proof.MlpRef.lean ====
module

public import proofs.«01_k».proof.Proof.MlpValue

@[expose] public section

noncomputable section

namespace Cert.Mlp

open Idealize.ShloMosaic Idealize.ShloMosaic.TcCoe Idealize.SL.Sem
open Cert.ReferenceIdeal Cert.ReferenceIdeal.Read

/-! ## The reference, element by element -/

variable (x0 : (⟨S8x4096x1024, .f32⟩ : BufTy).Contents (Elt Ideal)) (x1 x2 : (⟨S8x4096x512, .bf16⟩ : BufTy).Contents (Elt Ideal))
    (x3 : (⟨S1024x1024, .f32⟩ : BufTy).Contents (Elt Ideal)) (x4 : (⟨S1024, .f32⟩ : BufTy).Contents (Elt Ideal))
    (x5 : (⟨S1024x4096, .f32⟩ : BufTy).Contents (Elt Ideal)) (x6 : (⟨S4096x1024, .f32⟩ : BufTy).Contents (Elt Ideal))

/-- The residual plus the output projection. -/
theorem ref_mixed (b : Fin 8) (s : Fin 4096) (e : Fin 1024) :
    val_main_v4 (F := Ideal) x0 x1 x2 x3 (ix3 b s e)
      = mixed (fun k => x0 (ix3 b s k)) (fun k => x1 (ix3 b s k)) (fun k => x2 (ix3 b s k)) (fun k l => x3 (ix2 k l)) e := by
  unfold val_main_v4 val_main_v3 val_main_v2 val_main_v1 val_main_v0
  pointwise [mixed]
  rw [add_assoc]

/-- The normalised row. -/
theorem ref_normed (b : Fin 8) (s : Fin 4096) (e : Fin 1024) :
    val_main_v17 (F := Ideal) x0 x1 x2 x3 x4 (ix3 b s e)
      = normed (fun k => val_main_v4 (F := Ideal) x0 x1 x2 x3 (ix3 b s k)) (fun k => x4 (ix1 k)) e := by
  unfold val_main_v17 val_main_v16 val_main_v15 val_main_v14 val_main_v13 val_main_v12 val_main_v11 val_main_v10 val_main_v9 val_main_v8 val_main_v7 val_main_v6 val_main_v5
  generalize val_main_v4 (F := Ideal) x0 x1 x2 x3 = y
  unfold val_main_cst val_main_cst_0 val_main_cst_1
  pointwise [normed]

/-- The hidden units. -/
theorem ref_hidden (b : Fin 8) (s : Fin 4096) (f : Fin 4096) :
    val_main_v21 (F := Ideal) x0 x1 x2 x3 x4 x5 (ix3 b s f)
      = hidden (fun k => val_main_v17 (F := Ideal) x0 x1 x2 x3 x4 (ix3 b s k)) (fun k l => x5 (ix2 k l)) f := by
  unfold val_main_v21 val_main_v20 val_main_v19 val_main_v18
  generalize val_main_v17 (F := Ideal) x0 x1 x2 x3 x4 = y
  unfold val_main_cst_2
  pointwise [hidden]

/-- The reference's result is the same row function of the same arguments. -/
theorem ref_result (i : S32768x1024.Idx) :
    val_main_v24 (F := Ideal) x0 x1 x2 x3 x4 x5 x6 i = result x0 x1 x2 x3 x4 x5 x6 (i 0) (i 1) := by
  obtain ⟨r, e, rfl⟩ : ∃ (r : Fin 32768) (e : Fin 1024), i = ix2 r e := ⟨i 0, i 1, eq_ix2 i⟩
  have h : val_main_v24 (F := Ideal) x0 x1 x2 x3 x4 x5 x6 (ix2 r e)
      = val_main_v4 (F := Ideal) x0 x1 x2 x3 (ix3 ⟨r / 4096, by omega⟩ ⟨r % 4096, by omega⟩ e)
        + ∑ f : Fin 4096, val_main_v21 (F := Ideal) x0 x1 x2 x3 x4 x5 (ix3 ⟨r / 4096, by omega⟩ ⟨r % 4096, by omega⟩ f) * x6 (ix2 f e) := by
    unfold val_main_v24 val_main_v23 val_main_v22
    generalize val_main_v21 (F := Ideal) x0 x1 x2 x3 x4 x5 = y
    generalize val_main_v4 (F := Ideal) x0 x1 x2 x3 = z
    pointwise []
  rw [h]
  simp only [ref_hidden, ref_normed, ref_mixed]
  rfl

end Cert.Mlp
-- ==== Proof.MlpClaim.lean ====
module

public import proofs.«01_k».proof.Defs
public import proofs.«01_k».proof.Proof.MlpRef
public import Idealize.ShloMosaic.Lib.Quiescent

@[expose] public section

noncomputable section

namespace Cert.Mlp

open Idealize.ShloMosaic Idealize.ShloMosaic.TcCoe Idealize.SL.Sem

/-- The kernel and the reference end with equal results: both hold the row function of the arguments at every element. -/
theorem algebraic : @Cert.algebraic_KernelIdeal_ReferenceIdeal Cert.KernelIdeal.Gen.facts Cert.ReferenceIdeal.Gen.facts := by
  intro m g m' g' _ hargs
  refine ⟨fun c => G m c, (θ_run _ _ _).mono (fun r h c => ⟨(h c).1.trans (final m c), (h c).2⟩) (Cert.KernelIdeal.Value.run_blocks m g),
    (θ_run _ _ _).mono (fun r h c => ⟨(h c).1.trans ?_, (h c).2⟩) (Cert.ReferenceIdeal.Value.run m' g')⟩
  obtain ⟨a0, a1, a2, a3, a4, a5, a6⟩ := hargs c
  rw [Cert.ReferenceIdeal.Read.val_main_v24_eq, a0, a1, a2, a3, a4, a5, a6]
  exact funext fun i => ref_result _ _ _ _ _ _ _ i

/-- The reference runs, ends with its arguments unchanged and every semaphore at zero. -/
theorem ref_frame : @Cert.quiescent_ReferenceIdeal Cert.ReferenceIdeal.Gen.facts := by
  intro m g _
  exact (θ_run _ _ _).mono (fun r h => ⟨fun c => (h c).2, sem_eq_zero_of_no_sems rfl r.2⟩) (Cert.ReferenceIdeal.Value.run m g)

end Cert.Mlp
-- ==== Proof.SwaCore.lean ====
module

public import proofs.«01_k».proof.Proof.Gen.Kernel2Ideal.Frame
public import Idealize.ShloMosaic.Lib.Tactic
public import Idealize.ShloMosaic.Lib.Pointwise

@[expose] public section

noncomputable section

namespace Cert.Swa

open Idealize.ShloMosaic Cert.Kernel2Ideal Cert.Kernel2Ideal.Gen

/-! ## The eight attention pieces of a grid point are one function -/

variable (b : FVec Ideal S256x512 .f32) (q : Vec Ideal S1x1x128x512 .bf16) (s : Vec Ideal S1x1x512 .f32)

/-- The second group's piece of the first block row. -/
theorem piece_first (k k' : Vec Ideal S1x128x128 .bf16) (v v' : Vec Ideal S1x64x128 .bf16) :
    k0_pay11 b (k0_pay8 k k') (k0_pay9 v v') (k0_pay10 q) (constant S256x512 .f32 0x00000000#32) s
      = k0_pay7 b (k0_pay5 k k') (k0_pay6 v v') q s := rfl

variable (k : Vec Ideal S1x256x128 .bf16) (v : Vec Ideal S1x64x256 .bf16)

/-- The first group's piece of the second block row. -/
theorem piece_10 : k0_pay23 (k0_pay21 b k v q s) (k0_pay22 b k q s) = k0_pay7 b (k0_pay48 k) (k0_pay31 v) q s := rfl
/-- The second group's piece of the second block row. -/
theorem piece_11 : k0_pay24 b k v q s = k0_pay7 b (k0_pay48 k) (k0_pay31 v) q s := rfl
/-- The first group's piece of the third block row. -/
theorem piece_20 : k0_pay35 (k0_pay31 v) (k0_pay32 b k q) (k0_pay33 s) (k0_pay34 (F := Ideal)) = k0_pay7 b (k0_pay48 k) (k0_pay31 v) q s := rfl
/-- The second group's piece of the third block row. -/
theorem piece_21 : k0_pay43 (k0_pay36 v) (k0_pay41 b k q s) (k0_pay42 b k q s) = k0_pay7 b (k0_pay48 k) (k0_pay31 v) q s := rfl
/-- The first group's piece of the fourth block row. -/
theorem piece_30 : k0_pay49 b (k0_pay48 k) v q s = k0_pay7 b (k0_pay48 k) (k0_pay31 v) q s := rfl
/-- The second group's piece of the fourth block row. -/
theorem piece_31 : k0_pay52 (k0_pay50 v) (k0_pay51 b k q) s = k0_pay7 b (k0_pay48 k) (k0_pay31 v) q s := rfl

/-! ## The piece at an index -/

/-- The largest of the scores and of the sink. -/
def top (L : Fin 256 → EReal) (c : EReal) : EReal := max (Finset.univ.fold max (Ideal.ofBits .f32 0xFF800000#32) L) c

/-- One output element as the kernel computes it: base two exponentials, one division at the end. -/
def attend2 (L : Fin 256 → EReal) (c : EReal) (w : Fin 256 → EReal) : EReal :=
  Ideal.div (∑ j, w j * Ideal.exp2 (L j - top L c)) ((∑ j, Ideal.exp2 (L j - top L c)) + Ideal.exp2 (c - top L c))

/-- A piece at an index is `attend2` of the biased scores of its query column, its scaled sink and its row of values. -/
theorem pay7_at (k : FVec Ideal S256x128 .bf16) (v : FVec Ideal S64x256 .bf16) (d : Fin 64) (e : Fin 512) :
    k0_pay7 b k v q s (ix2 d e)
      = attend2 (fun j => (∑ x : Fin 128, k (ix2 j x) * q (ix4 0 0 x e)) + b (ix2 j e))
          (s (ix3 0 0 e) * Named.named (F := Ideal) (φ := .f32) κ "log2e" 0x3FB8AA3B#32) (fun j => v (ix2 d j)) := by
  pointwise [k0_pay7, attend2, top]
  rfl

/-- The first two heads of a group, stored side by side. -/
theorem pay12_at (o : FVec Ideal S64x512 .f32) (r : Fin 128) (e : Fin 128) :
    k0_pay12 o (ix3 0 r e) = o (ix2 ⟨e % 64, by omega⟩ ⟨128 * (e / 64) + r, by omega⟩) := by
  pointwise [k0_pay12]
  split
  · congr 2 <;> apply Fin.ext <;> simp <;> omega
  · congr 2 <;> apply Fin.ext <;> simp <;> omega

/-- The last two heads of a group, stored side by side. -/
theorem pay13_at (o : FVec Ideal S64x512 .f32) (r : Fin 128) (e : Fin 128) :
    k0_pay13 o (ix3 0 r e) = o (ix2 ⟨e % 64, by omega⟩ ⟨256 + 128 * (e / 64) + r, by omega⟩) := by
  pointwise [k0_pay13]
  split
  · congr 2 <;> apply Fin.ext <;> simp <;> omega
  · congr 2 <;> apply Fin.ext <;> simp <;> omega

/-- The mask of a block row that has a predecessor: row `j` of the window is seen by query `i` when `i < j ≤ i + 128`. -/
def bias (j : Fin 256) (i : Fin 128) : EReal := if i.val < j.val ∧ j.val ≤ i.val + 128 then 0 else ⊥

/-- The mask constant is `⊥`. -/
theorem neg_named : Named.named (F := Ideal) (φ := .f32) κ "neg" 0xF149F2CA#32 = ⊥ :=
  IdealRules.named_const.ideal_named_scalar _ _ _ _ rfl

/-- A choice on a decided bit is a choice on the proposition. -/
theorem select_ofBool {α : Type} (p : Prop) [Decidable p] (x y : α) :
    Scalar.select (BitVec.ofBool (decide p)) x y = if p then x else y := by
  unfold Scalar.select
  by_cases h : p <;> simp [h]

/-- The mask of a block row that has a predecessor. -/
theorem pay2_at (r : Fin 256) (i : Fin 128) : k0_pay2 (F := Ideal) (ix2 r i) = bias r i := by
  pointwise [k0_pay2]
  rw [neg_named]
  have h128 : (128#32 : BitVec 32) = BitVec.ofNat 32 128 := rfl
  unfold bias
  rw [h128, WordCmp.cmpi_slt_ofNat (by norm_num; omega) (by norm_num), WordCmp.cmpi_sgt_ofNat (by norm_num; omega) (by norm_num; omega),
    select_ofBool, select_ofBool]
  by_cases h : r.val < 128
  · rw [if_pos h]
    refine if_congr ?_ rfl rfl
    omega
  · rw [if_neg h]
    have e : IntOp.subi (BitVec.ofNat 32 r.val) (BitVec.ofNat 32 128) = BitVec.ofNat 32 (r.val - 128) := by
      apply BitVec.eq_of_toNat_eq
      simp only [IntOp.subi, BitVec.toNat_sub, BitVec.toNat_ofNat]
      omega
    rw [e, WordCmp.cmpi_sle_ofNat (by norm_num; omega) (by norm_num; omega), select_ofBool]
    refine if_congr ?_ rfl rfl
    omega

/-- The mask of the block rows that have a predecessor, over the four heads of a group. -/
theorem pay3_at (r : Fin 256) (e : Fin 512) : k0_pay3 (F := Ideal) (ix2 r e) = bias r ⟨e % 128, by omega⟩ := by
  unfold k0_pay3
  rw [← pay2_at]
  generalize k0_pay2 (F := Ideal) = p
  pointwise []
  repeat' split
  all_goals (congr 2; apply Fin.ext; simp; omega)

/-- The mask of a point's first block row: the first point of a sequence sees no predecessor. -/
theorem pay4_at (i : grid0.Coords) (hi : (i 1).val < 8) (r : Fin 256) (e : Fin 512) :
    k0_pay4 (F := Ideal) i (ix2 r e)
      = if (i 1).val = 0 ∧ r.val < 128 then ⊥ else bias r ⟨e % 128, by omega⟩ := by
  unfold k0_pay4
  rw [← pay2_at]
  generalize k0_pay2 (F := Ideal) = p
  have hc : Scalar.cmpi .sgt (BitVec.ofNat 32 (i 1).val) 0#32 = BitVec.ofBool (decide (0 < (i 1).val)) :=
    WordCmp.cmpi_sgt_ofNat (by norm_num; omega) (by norm_num)
  dsimp only
  rw [hc, select_ofBool]
  by_cases h0 : (i 1).val = 0
  · rw [if_neg (by omega)]
    pointwise []
    rw [neg_named]
    have h128 : (128#32 : BitVec 32) = BitVec.ofNat 32 128 := rfl
    simp only [h128, WordCmp.cmpi_slt_ofNat (w := 32) (a := r.val) (b := 128) (by norm_num; omega) (by norm_num), select_ofBool]
    by_cases h : r.val < 128
    · rw [if_pos (c := (i 1).val = 0 ∧ r.val < 128) ⟨h0, h⟩]
      simp only [h, if_true]
      repeat' split
      all_goals rfl
    · rw [if_neg (c := (i 1).val = 0 ∧ r.val < 128) (fun h' => h h'.2)]
      simp only [h, if_false]
      repeat' split
      all_goals (congr 2; apply Fin.ext; simp; omega)
  · rw [if_pos (by omega), if_neg (c := (i 1).val = 0 ∧ r.val < 128) (fun h' => h0 h'.1)]
    pointwise []
    repeat' split
    all_goals (congr 2; apply Fin.ext; simp; omega)

/-! ## The loads of a piece -/

/-- The two halves of a window's keys. -/
theorem pay5_at (k k' : Vec Ideal S1x128x128 .bf16) (j : Fin 256) (x : Fin 128) :
    k0_pay5 k k' (ix2 j x) = if h : j.val < 128 then k (ix3 0 ⟨j, h⟩ x) else k' (ix3 0 ⟨j - 128, by omega⟩ x) := by
  pointwise [k0_pay5]

/-- The two halves of a window's values. -/
theorem pay6_at (v v' : Vec Ideal S1x64x128 .bf16) (d : Fin 64) (j : Fin 256) :
    k0_pay6 v v' (ix2 d j) = if h : j.val < 128 then v (ix3 0 d ⟨j, h⟩) else v' (ix3 0 d ⟨j - 128, by omega⟩) := by
  pointwise [k0_pay6]

/-- A window's keys, loaded at once. -/
theorem pay48_at (k : Vec Ideal S1x256x128 .bf16) (j : Fin 256) (x : Fin 128) : k0_pay48 k (ix2 j x) = k (ix3 0 j x) := by
  pointwise [k0_pay48]

/-- A window's values, loaded at once. -/
theorem pay31_at (v : Vec Ideal S1x64x256 .bf16) (d : Fin 64) (j : Fin 256) : k0_pay31 v (ix2 d j) = v (ix3 0 d j) := by
  pointwise [k0_pay31]

end Cert.Swa

end
-- ==== Proof.SwaBlock.lean ====
module

public import proofs.«01_k».proof.Proof.SwaCore
public import Idealize.ShloMosaic.Lib.Pipeline.ValueKit

@[expose] public section

noncomputable section

namespace Cert.Swa

open Idealize.ShloMosaic Cert.Kernel2Ideal Cert.Kernel2Ideal.Gen

variable (i : grid0.Coords) (x0 : Vec Ideal S1x4x128x1024 .bf16) (x1 : Vec Ideal S1x128x128 .bf16) (x2 : Vec Ideal S1x512x128 .bf16)
  (x3 : Vec Ideal S1x128x128 .bf16) (x4 : Vec Ideal S1x128x512 .bf16) (x5 : Vec Ideal S2x1x512 .f32)

/-- The keys of block row `u`: the 128 rows before it and its own. -/
def keyW (u : Fin 4) (j : Fin 256) (x : Fin 128) : EReal :=
  if h : 128 * u.val + j.val < 128 then x1 (ix3 0 ⟨j, by omega⟩ x) else x2 (ix3 0 ⟨128 * u + j - 128, by omega⟩ x)

/-- The values of block row `u` for the key head `g`. -/
def valW (u : Fin 4) (g : Fin 2) (d : Fin 64) (j : Fin 256) : EReal :=
  if h : 128 * u.val + j.val < 128 then x3 (ix3 0 ⟨64 * g + d, by omega⟩ ⟨j, by omega⟩)
  else x4 (ix3 0 ⟨64 * g + d, by omega⟩ ⟨128 * u + j - 128, by omega⟩)

/-- The mask of block row `u` at the point `i`. -/
def maskW (u : Fin 4) (j : Fin 256) (r : Fin 128) : EReal := if (i 1).val = 0 ∧ 128 * u.val + j.val < 128 then ⊥ else bias j r

/-- What the kernel writes for block row `u`, key head `g`, at the depth `d` and the query column `e` (128 rows for each of four heads). -/
def rowSpec (u : Fin 4) (g : Fin 2) (d : Fin 64) (e : Fin 512) : EReal :=
  attend2 (fun j => (∑ x : Fin 128, keyW x1 x2 u j x * x0 (ix4 0 u x ⟨512 * g + e, by omega⟩)) + maskW i u j ⟨e % 128, by omega⟩)
    (x5 (ix3 g 0 e) * Named.named (F := Ideal) (φ := .f32) κ "log2e" 0x3FB8AA3B#32) (fun j => valW x3 x4 u g d j)

/-- A piece is `rowSpec` when its mask, keys, values, queries and sinks are those of its block row and key head. -/
theorem piece_spec (u : Fin 4) (g : Fin 2) (b : FVec Ideal S256x512 .f32) (q : Vec Ideal S1x1x128x512 .bf16) (s : Vec Ideal S1x1x512 .f32)
    (k : FVec Ideal S256x128 .bf16) (v : FVec Ideal S64x256 .bf16)
    (hb : ∀ j e, b (ix2 j e) = maskW i u j ⟨e.val % 128, by omega⟩) (hk : ∀ j x, k (ix2 j x) = keyW x1 x2 u j x)
    (hv : ∀ d j, v (ix2 d j) = valW x3 x4 u g d j) (hq : ∀ x e, q (ix4 0 0 x e) = x0 (ix4 0 u x ⟨512 * g.val + e.val, by omega⟩))
    (hs : ∀ e, s (ix3 0 0 e) = x5 (ix3 g 0 e)) (d : Fin 64) (e : Fin 512) :
    k0_pay7 b k v q s (ix2 d e) = rowSpec i x0 x1 x2 x3 x4 x5 u g d e := by
  rw [pay7_at]
  simp only [hb, hk, hv, hq, hs]
  rfl

/-- The mask of the later block rows. -/
theorem mask_later (u : Fin 4) (hu : 0 < u.val) (j : Fin 256) (e : Fin 512) : k0_pay3 (F := Ideal) (ix2 j e) = maskW i u j ⟨e % 128, by omega⟩ := by
  rw [pay3_at, maskW, if_neg (by omega)]

/-- The mask of the first block row. -/
theorem mask_first (hi : (i 1).val < 8) (j : Fin 256) (e : Fin 512) : k0_pay4 (F := Ideal) i (ix2 j e) = maskW i 0 j ⟨e % 128, by omega⟩ := by
  rw [pay4_at i hi, maskW]
  refine if_congr ?_ rfl rfl
  simp

/-- First block row, first key head. -/
theorem p00 (hi : (i 1).val < 8) (d : Fin 64) (e : Fin 512) :
    k0_pay61 (F := Ideal) i x0 x1 x2 x3 x4 x5 (ix2 d e) = rowSpec i x0 x1 x2 x3 x4 x5 0 0 d e := by
  unfold k0_pay61
  refine piece_spec i x0 x1 x2 x3 x4 x5 0 0 _ _ _ _ _ (mask_first i hi) (fun j x => ?_) (fun d j => ?_) (fun x e => ?_) (fun e => ?_) d e
  · rw [pay5_at, keyW]
    refine dite_congr (by simp) (fun h => ?_) fun h => ?_
    · pointwise [] <;> congr 2 <;> (apply Fin.ext; simp <;> omega)
    · pointwise [] <;> congr 2 <;> (apply Fin.ext; simp <;> omega)
  · rw [pay6_at, valW]
    refine dite_congr (by simp) (fun h => ?_) fun h => ?_
    · pointwise [] <;> congr 2 <;> (apply Fin.ext; simp <;> omega)
    · pointwise [] <;> congr 2 <;> (apply Fin.ext; simp <;> omega)
  · pointwise [] <;> congr 2 <;> (apply Fin.ext; simp <;> omega)
  · pointwise [] <;> congr 2 <;> (apply Fin.ext; simp <;> omega)

/-- First block row, second key head. -/
theorem p01 (hi : (i 1).val < 8) (d : Fin 64) (e : Fin 512) :
    k0_pay11 (k0_pay59 (F := Ideal) i x0 x1 x2 x3 x4 x5) (k0_pay62 i x0 x1 x2 x3 x4 x5) (k0_pay63 i x0 x1 x2 x3 x4 x5) (k0_pay64 i x0 x1 x2 x3 x4 x5)
      (k0_pay60 i x0 x1 x2 x3 x4 x5) (View.ld x5 r0_9) (ix2 d e) = rowSpec i x0 x1 x2 x3 x4 x5 0 1 d e := by
  unfold k0_pay62 k0_pay63 k0_pay64 k0_pay60
  rw [piece_first]
  refine piece_spec i x0 x1 x2 x3 x4 x5 0 1 _ _ _ _ _ (mask_first i hi) (fun j x => ?_) (fun d j => ?_) (fun x e => ?_) (fun e => ?_) d e
  · rw [pay5_at, keyW]
    refine dite_congr (by simp) (fun h => ?_) fun h => ?_
    · pointwise [] <;> congr 2 <;> (apply Fin.ext; simp <;> omega)
    · pointwise [] <;> congr 2 <;> (apply Fin.ext; simp <;> omega)
  · rw [pay6_at, valW]
    refine dite_congr (by simp) (fun h => ?_) fun h => ?_
    · pointwise [] <;> congr 2 <;> (apply Fin.ext; simp <;> omega)
    · pointwise [] <;> congr 2 <;> (apply Fin.ext; simp <;> omega)
  · pointwise [] <;> congr 2 <;> (apply Fin.ext; simp <;> omega)
  · pointwise [] <;> congr 2 <;> (apply Fin.ext; simp <;> omega)

/-- Second block row, first key head. -/
theorem p10 (d : Fin 64) (e : Fin 512) :
    k0_pay23 (k0_pay65 (F := Ideal) i x0 x1 x2 x3 x4 x5) (k0_pay66 i x0 x1 x2 x3 x4 x5) (ix2 d e) = rowSpec i x0 x1 x2 x3 x4 x5 1 0 d e := by
  unfold k0_pay65 k0_pay66
  rw [piece_10]
  refine piece_spec i x0 x1 x2 x3 x4 x5 1 0 _ _ _ _ _ (mask_later i 1 (by decide)) (fun j x => ?_) (fun d j => ?_) (fun x e => ?_) (fun e => ?_) d e
  · rw [pay48_at, keyW, dif_neg (by simp)]; pointwise [] <;> congr 2 <;> (apply Fin.ext; simp <;> omega)
  · rw [pay31_at, valW, dif_neg (by simp)]; pointwise [] <;> congr 2 <;> (apply Fin.ext; simp <;> omega)
  · pointwise [] <;> congr 2 <;> (apply Fin.ext; simp <;> omega)
  · pointwise [] <;> congr 2 <;> (apply Fin.ext; simp <;> omega)

/-- Second block row, second key head. -/
theorem p11 (d : Fin 64) (e : Fin 512) :
    k0_pay67 (F := Ideal) i x0 x1 x2 x3 x4 x5 (ix2 d e) = rowSpec i x0 x1 x2 x3 x4 x5 1 1 d e := by
  unfold k0_pay67
  rw [piece_11]
  refine piece_spec i x0 x1 x2 x3 x4 x5 1 1 _ _ _ _ _ (mask_later i 1 (by decide)) (fun j x => ?_) (fun d j => ?_) (fun x e => ?_) (fun e => ?_) d e
  · rw [pay48_at, keyW, dif_neg (by simp)]; pointwise [] <;> congr 2 <;> (apply Fin.ext; simp <;> omega)
  · rw [pay31_at, valW, dif_neg (by simp)]; pointwise [] <;> congr 2 <;> (apply Fin.ext; simp <;> omega)
  · pointwise [] <;> congr 2 <;> (apply Fin.ext; simp <;> omega)
  · pointwise [] <;> congr 2 <;> (apply Fin.ext; simp <;> omega)

/-- Third block row, first key head. -/
theorem p20 (d : Fin 64) (e : Fin 512) :
    k0_pay68 (F := Ideal) i x0 x1 x2 x3 x4 x5 (ix2 d e) = rowSpec i x0 x1 x2 x3 x4 x5 2 0 d e := by
  unfold k0_pay68
  rw [piece_20]
  refine piece_spec i x0 x1 x2 x3 x4 x5 2 0 _ _ _ _ _ (mask_later i 2 (by decide)) (fun j x => ?_) (fun d j => ?_) (fun x e => ?_) (fun e => ?_) d e
  · rw [pay48_at, keyW, dif_neg (by simp; omega)]; pointwise [] <;> congr 2 <;> (apply Fin.ext; simp <;> omega)
  · rw [pay31_at, valW, dif_neg (by simp; omega)]; pointwise [] <;> congr 2 <;> (apply Fin.ext; simp <;> omega)
  · pointwise [] <;> congr 2 <;> (apply Fin.ext; simp <;> omega)
  · pointwise [] <;> congr 2 <;> (apply Fin.ext; simp <;> omega)

/-- Third block row, second key head. -/
theorem p21 (d : Fin 64) (e : Fin 512) :
    k0_pay43 (k0_pay69 (F := Ideal) i x0 x1 x2 x3 x4 x5) (k0_pay70 i x0 x1 x2 x3 x4 x5) (k0_pay71 i x0 x1 x2 x3 x4 x5) (ix2 d e) = rowSpec i x0 x1 x2 x3 x4 x5 2 1 d e := by
  unfold k0_pay69 k0_pay70 k0_pay71
  rw [piece_21]
  refine piece_spec i x0 x1 x2 x3 x4 x5 2 1 _ _ _ _ _ (mask_later i 2 (by decide)) (fun j x => ?_) (fun d j => ?_) (fun x e => ?_) (fun e => ?_) d e
  · rw [pay48_at, keyW, dif_neg (by simp; omega)]; pointwise [] <;> congr 2 <;> (apply Fin.ext; simp <;> omega)
  · rw [pay31_at, valW, dif_neg (by simp; omega)]; pointwise [] <;> congr 2 <;> (apply Fin.ext; simp <;> omega)
  · pointwise [] <;> congr 2 <;> (apply Fin.ext; simp <;> omega)
  · pointwise [] <;> congr 2 <;> (apply Fin.ext; simp <;> omega)

/-- Fourth block row, first key head. -/
theorem p30 (d : Fin 64) (e : Fin 512) :
    k0_pay72 (F := Ideal) i x0 x1 x2 x3 x4 x5 (ix2 d e) = rowSpec i x0 x1 x2 x3 x4 x5 3 0 d e := by
  unfold k0_pay72
  rw [piece_30]
  refine piece_spec i x0 x1 x2 x3 x4 x5 3 0 _ _ _ _ _ (mask_later i 3 (by decide)) (fun j x => ?_) (fun d j => ?_) (fun x e => ?_) (fun e => ?_) d e
  · rw [pay48_at, keyW, dif_neg (by simp; omega)]; pointwise [] <;> congr 2 <;> (apply Fin.ext; simp <;> omega)
  · rw [pay31_at, valW, dif_neg (by simp; omega)]; pointwise [] <;> congr 2 <;> (apply Fin.ext; simp <;> omega)
  · pointwise [] <;> congr 2 <;> (apply Fin.ext; simp <;> omega)
  · pointwise [] <;> congr 2 <;> (apply Fin.ext; simp <;> omega)

/-- Fourth block row, second key head. -/
theorem p31 (d : Fin 64) (e : Fin 512) :
    k0_pay52 (k0_pay73 (F := Ideal) i x0 x1 x2 x3 x4 x5) (k0_pay74 i x0 x1 x2 x3 x4 x5) (View.ld x5 r0_9) (ix2 d e) = rowSpec i x0 x1 x2 x3 x4 x5 3 1 d e := by
  unfold k0_pay73 k0_pay74
  rw [piece_31]
  refine piece_spec i x0 x1 x2 x3 x4 x5 3 1 _ _ _ _ _ (mask_later i 3 (by decide)) (fun j x => ?_) (fun d j => ?_) (fun x e => ?_) (fun e => ?_) d e
  · rw [pay48_at, keyW, dif_neg (by simp; omega)]; pointwise [] <;> congr 2 <;> (apply Fin.ext; simp <;> omega)
  · rw [pay31_at, valW, dif_neg (by simp; omega)]; pointwise [] <;> congr 2 <;> (apply Fin.ext; simp <;> omega)
  · pointwise [] <;> congr 2 <;> (apply Fin.ext; simp <;> omega)
  · pointwise [] <;> congr 2 <;> (apply Fin.ext; simp <;> omega)

/-! ## The block -/

/-- What the kernel writes at a row and column of its block. -/
def blockAt (y : S1x512x512.Idx) : EReal :=
  rowSpec i x0 x1 x2 x3 x4 x5 ⟨(y 1).val / 128, by have := (y 1).isLt; simp at this; omega⟩ ⟨(y 2).val / 256, by have := (y 2).isLt; simp at this; omega⟩
    ⟨(y 2).val % 64, by omega⟩ ⟨128 * ((y 2).val / 64 % 4) + (y 1).val % 128, by omega⟩

/-- The store of the first two heads of a piece. -/
theorem store_lo (o : FVec Ideal S64x512 .f32) (u : Fin 4) (g : Fin 2) (ho : ∀ d e, o (ix2 d e) = rowSpec i x0 x1 x2 x3 x4 x5 u g d e)
    (x : S1x128x128.Idx) (y : S1x512x512.Idx) (h1 : (y 1).val = 128 * u + (x 1).val) (h2 : (y 2).val = 256 * g + (x 2).val) :
    k0_pay12 o x = blockAt i x0 x1 x2 x3 x4 x5 y := by
  obtain ⟨r, e, rfl⟩ : ∃ (r : Fin 128) (e : Fin 128), x = ix3 0 r e := ⟨x 1, x 2, by
    refine (eq_ix3 x).trans ?_; congr 1; exact Subsingleton.elim (α := Fin 1) _ _⟩
  have h1' : (y 1).val = 128 * u + r.val := h1
  have h2' : (y 2).val = 256 * g + e.val := h2
  rw [pay12_at, ho, blockAt]
  congr 1 <;> apply Fin.ext <;> simp [h1', h2'] <;> omega

/-- The store of the last two heads of a piece. -/
theorem store_hi (o : FVec Ideal S64x512 .f32) (u : Fin 4) (g : Fin 2) (ho : ∀ d e, o (ix2 d e) = rowSpec i x0 x1 x2 x3 x4 x5 u g d e)
    (x : S1x128x128.Idx) (y : S1x512x512.Idx) (h1 : (y 1).val = 128 * u + (x 1).val) (h2 : (y 2).val = 256 * g + 128 + (x 2).val) :
    k0_pay13 o x = blockAt i x0 x1 x2 x3 x4 x5 y := by
  obtain ⟨r, e, rfl⟩ : ∃ (r : Fin 128) (e : Fin 128), x = ix3 0 r e := ⟨x 1, x 2, by
    refine (eq_ix3 x).trans ?_; congr 1; exact Subsingleton.elim (α := Fin 1) _ _⟩
  have h1' : (y 1).val = 128 * u + r.val := h1
  have h2' : (y 2).val = 256 * g + 128 + e.val := h2
  rw [pay13_at, ho, blockAt]
  congr 1 <;> apply Fin.ext <;> simp [h1', h2'] <;> omega

/-! The sixteen stores are the two halves of the eight pieces. -/

/-- One store, as a half of its piece. -/
theorem st_12 (b : FVec Ideal S256x512 .f32) (k : FVec Ideal S256x128 .bf16) (v : FVec Ideal S64x256 .bf16) (q : FVec Ideal S128x512 .bf16) (c : FVec Ideal S256x512 .f32) (s : Vec Ideal S1x1x512 .f32) : k0_pay15 (k0_pay14 b k v q c s) = k0_pay12 (k0_pay11 b k v q c s) := rfl
/-- One store, as a half of its piece. -/
theorem st_13 (o : FVec Ideal S64x512 .f32) : k0_pay16 o = k0_pay13 o := rfl
/-- One store, as a half of its piece. -/
theorem st_19 (a b : FVec Ideal S64x512 .f32) : k0_pay25 a b = k0_pay12 (k0_pay23 a b) := rfl
/-- One store, as a half of its piece. -/
theorem st_20 (a b : FVec Ideal S64x512 .f32) : k0_pay28 (k0_pay26 a b) (k0_pay27 a b) = k0_pay13 (k0_pay23 a b) := rfl
/-- One store, as a half of its piece. -/
theorem st_21 (o : FVec Ideal S64x512 .f32) : k0_pay29 o = k0_pay12 o := rfl
/-- One store, as a half of its piece. -/
theorem st_22 (o : FVec Ideal S64x512 .f32) : k0_pay30 o = k0_pay13 o := rfl
/-- One store, as a half of its piece. -/
theorem st_28 (o : FVec Ideal S64x512 .f32) : k0_pay44 o = k0_pay12 o := rfl
/-- One store, as a half of its piece. -/
theorem st_29 (o : FVec Ideal S64x512 .f32) : k0_pay45 o = k0_pay13 o := rfl
/-- One store, as a half of its piece. -/
theorem st_30 (v : FVec Ideal S64x256 .bf16) (m : FVec Ideal S1x512 .f32) (p : FVec Ideal S256x512 .bf16) : k0_pay46 v m p = k0_pay12 (k0_pay43 v m p) := rfl
/-- One store, as a half of its piece. -/
theorem st_31 (v : FVec Ideal S64x256 .bf16) (m : FVec Ideal S1x512 .f32) (p : FVec Ideal S256x512 .bf16) : k0_pay47 v m p = k0_pay13 (k0_pay43 v m p) := rfl
/-- One store, as a half of its piece. -/
theorem st_37 (o : FVec Ideal S64x512 .f32) : k0_pay53 o = k0_pay12 o := rfl
/-- One store, as a half of its piece. -/
theorem st_38 (o : FVec Ideal S64x512 .f32) : k0_pay54 o = k0_pay13 o := rfl
/-- One store, as a half of its piece. -/
theorem st_39 (v : FVec Ideal S64x256 .bf16) (l : FVec Ideal S256x512 .f32) (s : Vec Ideal S1x1x512 .f32) : k0_pay55 v l s = k0_pay12 (k0_pay52 v l s) := rfl
/-- One store, as a half of its piece. -/
theorem st_40 (v : FVec Ideal S64x256 .bf16) (l : FVec Ideal S256x512 .f32) (s : Vec Ideal S1x1x512 .f32) : k0_pay1 (k0_pay56 v l s) (k0_pay57 v l s) = k0_pay13 (k0_pay52 v l s) := rfl

/-- The block a grid point writes. -/
theorem out_at (hi : (i 1).val < 8) (y : S1x512x512.Idx) : out0_6 (F := Ideal) i x0 x1 x2 x3 x4 x5 y = blockAt i x0 x1 x2 x3 x4 x5 y := by
  unfold out0_6
  simp only [st_12, st_13, st_19, st_20, st_21, st_22, st_28, st_29, st_30, st_31, st_37, st_38, st_39, st_40]
  have h00 := p00 i x0 x1 x2 x3 x4 x5 hi
  have h01 := p01 i x0 x1 x2 x3 x4 x5 hi
  have h10 := p10 i x0 x1 x2 x3 x4 x5
  have h11 := p11 i x0 x1 x2 x3 x4 x5
  have h20 := p20 i x0 x1 x2 x3 x4 x5
  have h21 := p21 i x0 x1 x2 x3 x4 x5
  have h30 := p30 i x0 x1 x2 x3 x4 x5
  have h31 := p31 i x0 x1 x2 x3 x4 x5
  revert h00 h01 h10 h11 h20 h21 h30 h31
  generalize k0_pay61 (F := Ideal) i x0 x1 x2 x3 x4 x5 = o00
  generalize k0_pay11 (k0_pay59 (F := Ideal) i x0 x1 x2 x3 x4 x5) _ _ _ _ _ = o01
  generalize k0_pay23 (k0_pay65 (F := Ideal) i x0 x1 x2 x3 x4 x5) _ = o10
  generalize k0_pay67 (F := Ideal) i x0 x1 x2 x3 x4 x5 = o11
  generalize k0_pay68 (F := Ideal) i x0 x1 x2 x3 x4 x5 = o20
  generalize k0_pay43 (k0_pay69 (F := Ideal) i x0 x1 x2 x3 x4 x5) _ _ = o21
  generalize k0_pay72 (F := Ideal) i x0 x1 x2 x3 x4 x5 = o30
  generalize k0_pay52 (k0_pay73 (F := Ideal) i x0 x1 x2 x3 x4 x5) _ _ = o31
  intro h00 h01 h10 h11 h20 h21 h30 h31
  canon_tiles x h
  · exact store_hi i x0 x1 x2 x3 x4 x5 _ 3 1 h31 x y (h1.trans (by norm_num)) (h2.trans (by norm_num))
  · exact store_lo i x0 x1 x2 x3 x4 x5 _ 3 1 h31 x y (h1.trans (by norm_num)) (h2.trans (by norm_num))
  · exact store_hi i x0 x1 x2 x3 x4 x5 _ 3 0 h30 x y (h1.trans (by norm_num)) (h2.trans (by norm_num))
  · exact store_lo i x0 x1 x2 x3 x4 x5 _ 3 0 h30 x y (h1.trans (by norm_num)) (h2.trans (by norm_num))
  · exact store_hi i x0 x1 x2 x3 x4 x5 _ 2 1 h21 x y (h1.trans (by norm_num)) (h2.trans (by norm_num))
  · exact store_lo i x0 x1 x2 x3 x4 x5 _ 2 1 h21 x y (h1.trans (by norm_num)) (h2.trans (by norm_num))
  · exact store_hi i x0 x1 x2 x3 x4 x5 _ 2 0 h20 x y (h1.trans (by norm_num)) (h2.trans (by norm_num))
  · exact store_lo i x0 x1 x2 x3 x4 x5 _ 2 0 h20 x y (h1.trans (by norm_num)) (h2.trans (by norm_num))
  · exact store_hi i x0 x1 x2 x3 x4 x5 _ 1 1 h11 x y (h1.trans (by norm_num)) (h2.trans (by norm_num))
  · exact store_lo i x0 x1 x2 x3 x4 x5 _ 1 1 h11 x y (h1.trans (by norm_num)) (h2.trans (by norm_num))
  · exact store_hi i x0 x1 x2 x3 x4 x5 _ 1 0 h10 x y (h1.trans (by norm_num)) (h2.trans (by norm_num))
  · exact store_lo i x0 x1 x2 x3 x4 x5 _ 1 0 h10 x y (h1.trans (by norm_num)) (h2.trans (by norm_num))
  · exact store_hi i x0 x1 x2 x3 x4 x5 _ 0 1 h01 x y (h1.trans (by norm_num)) (h2.trans (by norm_num))
  · exact store_lo i x0 x1 x2 x3 x4 x5 _ 0 1 h01 x y (h1.trans (by norm_num)) (h2.trans (by norm_num))
  · exact store_hi i x0 x1 x2 x3 x4 x5 _ 0 0 h00 x y (h1.trans (by norm_num)) (h2.trans (by norm_num))
  · exact store_lo i x0 x1 x2 x3 x4 x5 _ 0 0 h00 x y (h1.trans (by norm_num)) (h2.trans (by norm_num))

end Cert.Swa

end
-- ==== Proof.SwaMath.lean ====
module

public import Idealize.ShloMosaic.PureOps.Ideal.Laws
public import Mathlib.Analysis.SpecialFunctions.Pow.Real
public import Mathlib.Data.EReal.Inv

@[expose] public section

noncomputable section

namespace Cert.Swa

open Idealize.ShloMosaic

/-- Multiplying by a nonnegative real distributes over a sum of extended reals. -/
theorem coe_mul_sum {ι : Type} (s : Finset ι) (f : ι → EReal) {c : ℝ} (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- Division by a positive real is multiplication by its inverse. -/
theorem div_coe (x : EReal) {d : ℝ} (hd : 0 < d) : Ideal.div x (d : EReal) = x * ((d⁻¹ : ℝ) : EReal) := by
  unfold Ideal.div
  rw [if_neg (by exact_mod_cast hd.ne'), EReal.coe_inv]

/-- The base two exponential of `c (x - m)` with `c = 1 / log 2` is the exponential of `x - m`, at a real `m` and an `x` below `⊤`. -/
theorem exp2_scaled (x : EReal) (hx : x ≠ ⊤) (m : ℝ) :
    Ideal.exp2 ((((Real.log 2)⁻¹ : ℝ) : EReal) * x - (((Real.log 2)⁻¹ : ℝ) : EReal) * (m : EReal)) = Ideal.exp (x - (m : EReal)) := by
  have h2 : 0 < Real.log 2 := Real.log_pos (by norm_num)
  induction x using EReal.rec with
  | bot => rw [EReal.coe_mul_bot_of_pos (inv_pos.mpr h2), EReal.bot_sub, EReal.bot_sub]; rfl
  | top => exact absurd rfl hx
  | coe r =>
    have e : (((Real.log 2)⁻¹ : ℝ) : EReal) * (r : EReal) - (((Real.log 2)⁻¹ : ℝ) : EReal) * (m : EReal)
        = (((Real.log 2)⁻¹ * (r - m) : ℝ) : EReal) := by
      rw [← EReal.coe_mul, ← EReal.coe_mul, ← EReal.coe_sub, mul_sub]
    rw [e, ← EReal.coe_sub]
    show ((Real.rpow 2 _ : ℝ) : EReal) = ((Real.exp _ : ℝ) : EReal)
    congr 1
    show (2 : ℝ) ^ ((Real.log 2)⁻¹ * (r - m)) = _
    rw [Real.rpow_def_of_pos (by norm_num)]
    congr 1
    field_simp

/-- Below `⊤`, the exponential of a difference with a real is a nonnegative real. -/
theorem exp_sub_real (x : EReal) (hx : x ≠ ⊤) (m : ℝ) : ∃ p : ℝ, 0 ≤ p ∧ (x ≠ ⊥ → 0 < p) ∧ Ideal.exp (x - (m : EReal)) = (p : EReal) := by
  induction x using EReal.rec with
  | bot => exact ⟨0, le_rfl, fun h => absurd rfl h, by rw [EReal.bot_sub]; rfl⟩
  | top => exact absurd rfl hx
  | coe r => exact ⟨Real.exp (r - m), (Real.exp_pos _).le, fun _ => Real.exp_pos _, by rw [← EReal.coe_sub]; rfl⟩

/-- A sum of reals, read among the extended reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The largest of scores below `⊤`, one of them real, and of a sink below `⊤`, is real. -/
theorem top_real {n : ℕ} (l : Fin n → EReal) (c : EReal) (hl : ∀ j, l j ≠ ⊤) (hc : c ≠ ⊤) (j : Fin n) (hj : l j ≠ ⊥) :
    ∃ m : ℝ, max (Finset.univ.fold max ⊥ l) c = (m : EReal) := by
  have h1 : max (Finset.univ.fold max ⊥ l) c ≠ ⊤ := by
    apply ne_of_lt
    rw [max_lt_iff, Finset.fold_max_lt]
    exact ⟨⟨bot_lt_top, fun x _ => lt_top_iff_ne_top.mpr (hl x)⟩, lt_top_iff_ne_top.mpr hc⟩
  have h2 : max (Finset.univ.fold max ⊥ l) c ≠ ⊥ := by
    apply ne_of_gt
    rw [lt_max_iff, Finset.lt_fold_max]
    exact Or.inl (Or.inr ⟨j, Finset.mem_univ _, bot_lt_iff_ne_bot.mpr hj⟩)
  exact ⟨_, (EReal.coe_toReal h1 h2).symm⟩

/-- A positive real factor commutes with the largest of a family and a sink. -/
theorem top_scaled {n : ℕ} (l : Fin n → EReal) (s : EReal) {c : ℝ} (hc : 0 < c) :
    max (Finset.univ.fold max ⊥ (fun j => (c : EReal) * l j)) ((c : EReal) * s) = (c : EReal) * max (Finset.univ.fold max ⊥ l) s := by
  have hm : Monotone fun x : EReal => (c : EReal) * x := fun x y h => mul_le_mul_of_nonneg_left h (by exact_mod_cast hc.le)
  have h := Finset.fold_hom (op := max) (op' := max) (f := l) (b := (⊥ : EReal)) (s := Finset.univ)
    (m := fun x : EReal => (c : EReal) * x) (fun x y => (hm.map_max))
  simp only [EReal.coe_mul_bot_of_pos hc] at h
  rw [h]
  exact hm.map_max.symm

/-- The kernel's attention, base two exponentials of scores scaled by `1 / log 2` and one division at the end, is the softmax with a
    sink, weight by weight: for scores below `⊤`, one of them real, and a sink below `⊤`; the values are arbitrary, and may differ where
    the score is `⊥`. -/
theorem attend_eq {n : ℕ} (l w w' : Fin n → EReal) (hw : ∀ j, l j = ⊥ ∨ w j = w' j) (s : EReal) (hl : ∀ j, l j ≠ ⊤) (hs : s ≠ ⊤) (j₀ : Fin n) (hj : l j₀ ≠ ⊥)
    (L : Fin n → EReal) (c M m : EReal) (hL : ∀ j, L j = (((Real.log 2)⁻¹ : ℝ) : EReal) * l j) (hc : c = (((Real.log 2)⁻¹ : ℝ) : EReal) * s)
    (hM : M = max (Finset.univ.fold max ⊥ L) c) (hm : m = max (Finset.univ.fold max ⊥ l) s) :
    Ideal.div (∑ j, w j * Ideal.exp2 (L j - M)) ((∑ j, Ideal.exp2 (L j - M)) + Ideal.exp2 (c - M))
      = ∑ j, Ideal.div (Ideal.exp (l j - m)) ((∑ j, Ideal.exp (l j - m)) + Ideal.exp (s - m)) * w' j := by
  have h2 : 0 < (Real.log 2)⁻¹ := inv_pos.mpr (Real.log_pos (by norm_num))
  obtain rfl : L = fun j => (((Real.log 2)⁻¹ : ℝ) : EReal) * l j := funext hL
  subst hc
  rw [top_scaled l s h2, ← hm] at hM
  obtain ⟨μ, hμ⟩ := top_real l s hl hs j₀ hj
  rw [hμ] at hm
  subst hm hM
  simp only [exp2_scaled _ (hl _) μ, exp2_scaled _ hs μ]
  choose p hp0 hp1 hp using fun j => exp_sub_real (l j) (hl j) μ
  obtain ⟨ps, hps0, -, hps⟩ := exp_sub_real s hs μ
  simp only [hp, hps, sum_coe, ← EReal.coe_add]
  have hD : 0 < (∑ j, p j) + ps :=
    add_pos_of_pos_of_nonneg (Finset.sum_pos' (fun j _ => hp0 j) ⟨j₀, Finset.mem_univ _, hp1 j₀ hj⟩) hps0
  simp only [div_coe _ hD]
  rw [mul_comm, coe_mul_sum _ _ (inv_pos.mpr hD).le]
  refine Finset.sum_congr rfl fun j _ => ?_
  rcases hw j with h | h
  · have h0 : (p j : EReal) = 0 := by rw [← hp j, h, EReal.bot_sub]; rfl
    rw [h0, mul_zero, mul_zero, zero_mul, zero_mul]
  · rw [← h, mul_comm (w j), ← mul_assoc, mul_comm (p j : EReal)]

/-- The position of row `j` of block row `n`'s window, the first block row's missing predecessor read as the block row itself. -/
def pos (n j : ℕ) : ℕ := if n = 0 ∧ j < 128 then j else 128 * n + j - 128

/-- The position lies in the sequence. -/
theorem pos_lt {n j : ℕ} (hn : n < 32) (hj : j < 256) : pos n j < 4096 := by unfold pos; split <;> omega

end Cert.Swa

end
-- ==== Proof.SwaArrays.lean ====
module

public import proofs.«01_k».proof.Proof.SwaBlock
public import proofs.«01_k».proof.Proof.SwaMath
public import proofs.«01_k».proof.Proof.Gen.Kernel2Ideal.Value
public import Idealize.ShloMosaic.Lib.StableHlo.ReadAt
public import Idealize.ShloMosaic.Lib.Claim

@[expose] public section

noncomputable section

namespace Cert.Swa

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)
/-- The keys, the two heads side by side. -/
theorem V18_at (c : Dev nD) (b : Fin 8) (s : Fin 4096) (x : Fin 128) :
    V m c main_v18 (ix3 b s x) = m ((c : Thread nD τ).loc main_arg1) (ix4 b s ⟨x / 64, by omega⟩ ⟨x % 64, by omega⟩) := by
  unfold V; after_reads_at

/-- The values, the two heads one above the other, one column a position. -/
theorem V21_at (c : Dev nD) (b : Fin 8) (x : Fin 128) (s : Fin 4096) :
    V m c main_v21 (ix3 b x s) = m ((c : Thread nD τ).loc main_arg2) (ix4 b s ⟨x / 64, by omega⟩ ⟨x % 64, by omega⟩) := by
  unfold V; after_reads_at

/-- The sinks, one row for each key head, each query head's repeated over its 128 columns. -/
theorem V24_at (c : Dev nD) (g : Fin 2) (e : Fin 512) :
    V m c main_v24 (ix3 g 0 e) = m ((c : Thread nD τ).loc main_arg3) (ix1 ⟨4 * g + e / 128, by omega⟩) := by
  unfold V; after_reads_at
  show m (c, Proc.tc.devRef main_arg3) _ = m (c, Proc.tc.devRef main_arg3) _
  congr 2; apply Fin.ext; simp; omega

/-- Where each window's block lies at a grid point. -/
theorem idx_facts : ∀ t : Fin grid0.N, win0_0.index t 0 = t.val / 8 ∧ win0_0.index t 1 = t.val % 8 ∧ win0_0.index t 2 = 0 ∧ win0_0.index t 3 = 0
    ∧ win0_1.index t 0 = t.val / 8 ∧ win0_1.index t 1 = 4 * (t.val % 8) - 1 ∧ win0_1.index t 2 = 0
    ∧ win0_2.index t 0 = t.val / 8 ∧ win0_2.index t 1 = t.val % 8 ∧ win0_2.index t 2 = 0
    ∧ win0_3.index t 0 = t.val / 8 ∧ win0_3.index t 1 = 0 ∧ win0_3.index t 2 = 4 * (t.val % 8) - 1
    ∧ win0_4.index t 0 = t.val / 8 ∧ win0_4.index t 1 = 0 ∧ win0_4.index t 2 = t.val % 8
    ∧ win0_5.index t 0 = 0 ∧ win0_5.index t 1 = 0 ∧ win0_5.index t 2 = 0
    ∧ win0_6.index t 0 = t.val / 8 ∧ win0_6.index t 1 = t.val % 8 ∧ win0_6.index t 2 = 0 := by
  decide +kernel

/-- A grid point's number is below 64. -/
theorem pt_lt (t : Fin cfg0.N) : t.val < 64 := lt_of_lt_of_eq t.isLt N_0

/-- The second coordinate of a grid point. -/
theorem coord1 : ∀ t : Fin grid0.N, (grid0.coords t 1).val = t.val % 8 := by decide +kernel

/-- The point's packed queries. -/
theorem iblk0_V (c : Dev nD) (t : Fin cfg0.N) (u : Fin 4) (x : Fin 128) (e : Fin 1024) :
    (iblk m c 0 t : Vec Ideal S1x4x128x1024 .bf16) (ix4 0 u x e) = V m c main_v16 (ix4 ⟨t / 8, by have := pt_lt t; omega⟩ ⟨4 * (t % 8) + u, by omega⟩ x e) := by
  have ht := pt_lt t
  obtain ⟨h0, h1, h2, h3, -⟩ := idx_facts t
  unfold iblk; rw [View.read_apply]
  show V m c main_v16 _ = _
  congr 1; funext a; apply Fin.ext
  match a with
  | ⟨0, _⟩ => show win0_0.index t 0 * 1 + 1 * 0 = t.val / 8; rw [h0]; omega
  | ⟨1, _⟩ => show win0_0.index t 1 * 4 + 1 * u.val = 4 * (t.val % 8) + u.val; rw [h1]; omega
  | ⟨2, _⟩ => show win0_0.index t 2 * 128 + 1 * x.val = x.val; rw [h2]; omega
  | ⟨3, _⟩ => show win0_0.index t 3 * 1024 + 1 * e.val = e.val; rw [h3]; omega

/-- The keys before the point's rows. -/
theorem iblk1_V (c : Dev nD) (t : Fin cfg0.N) (r x : Fin 128) :
    (iblk m c 1 t : Vec Ideal S1x128x128 .bf16) (ix3 0 r x) = V m c main_v18 (ix3 ⟨t / 8, by have := pt_lt t; omega⟩ ⟨128 * (4 * (t % 8) - 1) + r, by omega⟩ x) := by
  have ht := pt_lt t
  obtain ⟨-, -, -, -, h0, h1, h2, -⟩ := idx_facts t
  unfold iblk; rw [View.read_apply]
  show V m c main_v18 _ = _
  congr 1; funext a; apply Fin.ext
  match a with
  | ⟨0, _⟩ => show win0_1.index t 0 * 1 + 1 * 0 = t.val / 8; rw [h0]; omega
  | ⟨1, _⟩ => show win0_1.index t 1 * 128 + 1 * r.val = 128 * (4 * (t.val % 8) - 1) + r.val; rw [h1]; omega
  | ⟨2, _⟩ => show win0_1.index t 2 * 128 + 1 * x.val = x.val; rw [h2]; omega

/-- The keys of the point's rows. -/
theorem iblk2_V (c : Dev nD) (t : Fin cfg0.N) (r : Fin 512) (x : Fin 128) :
    (iblk m c 2 t : Vec Ideal S1x512x128 .bf16) (ix3 0 r x) = V m c main_v18 (ix3 ⟨t / 8, by have := pt_lt t; omega⟩ ⟨512 * (t % 8) + r, by omega⟩ x) := by
  have ht := pt_lt t
  obtain ⟨-, -, -, -, -, -, -, h0, h1, h2, -⟩ := idx_facts t
  unfold iblk; rw [View.read_apply]
  show V m c main_v18 _ = _
  congr 1; funext a; apply Fin.ext
  match a with
  | ⟨0, _⟩ => show win0_2.index t 0 * 1 + 1 * 0 = t.val / 8; rw [h0]; omega
  | ⟨1, _⟩ => show win0_2.index t 1 * 512 + 1 * r.val = 512 * (t.val % 8) + r.val; rw [h1]; omega
  | ⟨2, _⟩ => show win0_2.index t 2 * 128 + 1 * x.val = x.val; rw [h2]; omega

/-- The values before the point's rows. -/
theorem iblk3_V (c : Dev nD) (t : Fin cfg0.N) (x r : Fin 128) :
    (iblk m c 3 t : Vec Ideal S1x128x128 .bf16) (ix3 0 x r) = V m c main_v21 (ix3 ⟨t / 8, by have := pt_lt t; omega⟩ x ⟨128 * (4 * (t % 8) - 1) + r, by omega⟩) := by
  have ht := pt_lt t
  obtain ⟨-, -, -, -, -, -, -, -, -, -, h0, h1, h2, -⟩ := idx_facts t
  unfold iblk; rw [View.read_apply]
  show V m c main_v21 _ = _
  congr 1; funext a; apply Fin.ext
  match a with
  | ⟨0, _⟩ => show win0_3.index t 0 * 1 + 1 * 0 = t.val / 8; rw [h0]; omega
  | ⟨1, _⟩ => show win0_3.index t 1 * 128 + 1 * x.val = x.val; rw [h1]; omega
  | ⟨2, _⟩ => show win0_3.index t 2 * 128 + 1 * r.val = 128 * (4 * (t.val % 8) - 1) + r.val; rw [h2]; omega

/-- The values of the point's rows. -/
theorem iblk4_V (c : Dev nD) (t : Fin cfg0.N) (x : Fin 128) (r : Fin 512) :
    (iblk m c 4 t : Vec Ideal S1x128x512 .bf16) (ix3 0 x r) = V m c main_v21 (ix3 ⟨t / 8, by have := pt_lt t; omega⟩ x ⟨512 * (t % 8) + r, by omega⟩) := by
  have ht := pt_lt t
  obtain ⟨-, -, -, -, -, -, -, -, -, -, -, -, -, h0, h1, h2, -⟩ := idx_facts t
  unfold iblk; rw [View.read_apply]
  show V m c main_v21 _ = _
  congr 1; funext a; apply Fin.ext
  match a with
  | ⟨0, _⟩ => show win0_4.index t 0 * 1 + 1 * 0 = t.val / 8; rw [h0]; omega
  | ⟨1, _⟩ => show win0_4.index t 1 * 128 + 1 * x.val = x.val; rw [h1]; omega
  | ⟨2, _⟩ => show win0_4.index t 2 * 512 + 1 * r.val = 512 * (t.val % 8) + r.val; rw [h2]; omega

/-- The sinks. -/
theorem iblk5_V (c : Dev nD) (t : Fin cfg0.N) (g : Fin 2) (e : Fin 512) :
    (iblk m c 5 t : Vec Ideal S2x1x512 .f32) (ix3 g 0 e) = V m c main_v24 (ix3 g 0 e) := by
  have ht := pt_lt t
  obtain ⟨-, -, -, -, -, -, -, -, -, -, -, -, -, -, -, -, h0, h1, h2, -⟩ := idx_facts t
  unfold iblk; rw [View.read_apply]
  show V m c main_v24 _ = _
  congr 1; funext a; apply Fin.ext
  match a with
  | ⟨0, _⟩ => show win0_5.index t 0 * 2 + 1 * g.val = g.val; rw [h0]; omega
  | ⟨1, _⟩ => show win0_5.index t 1 * 1 + 1 * 0 = 0; rw [h1]
  | ⟨2, _⟩ => show win0_5.index t 2 * 512 + 1 * e.val = e.val; rw [h2]; omega

end Cert.Swa

end
-- ==== Proof.SwaQueries.lean ====
module

public import proofs.«01_k».proof.Proof.SwaBlock
public import proofs.«01_k».proof.Proof.SwaMath
public import proofs.«01_k».proof.Proof.Gen.Kernel2Ideal.Value
public import Idealize.ShloMosaic.Lib.StableHlo.ReadAt
public import Idealize.ShloMosaic.Lib.Claim

@[expose] public section

noncomputable section

namespace Cert.Swa

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-! ## The arrays the grid reads, element by element, as the arguments -/

/-- The scale of the queries: one eighth over the logarithm of two. -/
def qscale : EReal := (id (Host.divf (constant (F := Ideal) S_ .f32 0x3E000000#32) (Host.log (constant (F := Ideal) S_ .f32 0x40000000#32))) : S_.Idx → EReal) ix0

/-- The scale, as a quotient of scalars. -/
theorem qscale_eq : qscale = Ideal.div (Ideal.ofBits .f32 0x3E000000#32) (Ideal.log (Ideal.ofBits .f32 0x40000000#32)) := rfl

/-- The queries the program is given. -/
def argQ (c : Dev nD) : S8x4096x8x64.Idx → EReal := m ((c : Thread nD τ).loc main_arg0)

/-- The packed queries, half by half. -/
theorem V16_raw (c : Dev nD) (b : Fin 8) (n : Fin 32) (x : Fin 128) (e : Fin 1024) :
    V m c main_v16 (ix4 b n x e) = if h : e.val < 512 then
        (if h' : x.val < 64 then (argQ m c (ix4 b ⟨n * 128 + e % 128, by omega⟩ ⟨e / 128, by omega⟩ ⟨x, by omega⟩)) * qscale else (0 : EReal))
      else (if h' : x.val < 64 then (0 : EReal)
        else (argQ m c (ix4 b ⟨n * 128 + (e - 512) % 128, by omega⟩ ⟨4 + (e - 512) / 128, by omega⟩ ⟨x - 64, by omega⟩)) * qscale) := by
  unfold V qscale argQ; after_reads_at
  split <;> split
  all_goals after_reads_at

/-- The packed queries: a key head's 64 rows hold its query heads' scaled queries, its other 64 rows zero. -/
theorem V16_at (c : Dev nD) (b : Fin 8) (n : Fin 32) (x : Fin 128) (g : Fin 2) (e : Fin 512) :
    V m c main_v16 (ix4 b n x ⟨512 * g + e, by omega⟩) = if x.val / 64 = g.val
      then (argQ m c (ix4 b ⟨128 * n + e % 128, by omega⟩ ⟨4 * g + e / 128, by omega⟩ ⟨x % 64, by omega⟩)) * qscale
      else (0 : EReal) := by
  have hx := x.isLt
  rw [V16_raw]
  by_cases h1 : 512 * g.val + e.val < 512 <;> by_cases h2 : x.val < 64
  · rw [dif_pos h1, dif_pos h2, if_pos (by omega)]
    refine congrArg (· * qscale) ?_
    refine congrArg (argQ m c) ?_
    congr 1 <;> apply Fin.ext <;> simp <;> omega
  · rw [dif_pos h1, dif_neg h2, if_neg (by omega)]
  · rw [dif_neg h1, dif_pos h2, if_neg (by omega)]
  · rw [dif_neg h1, dif_neg h2, if_pos (by omega)]
    refine congrArg (· * qscale) ?_
    refine congrArg (argQ m c) ?_
    congr 1 <;> apply Fin.ext <;> simp <;> omega

end Cert.Swa

end
-- ==== Proof.SwaValue.lean ====
module

public import proofs.«01_k».proof.Proof.SwaBlock
public import proofs.«01_k».proof.Proof.SwaArrays
public import proofs.«01_k».proof.Proof.SwaQueries
public import proofs.«01_k».proof.Proof.SwaMath
public import proofs.«01_k».proof.Proof.Gen.Kernel2Ideal.Value
public import Idealize.ShloMosaic.Lib.StableHlo.ReadAt
public import Idealize.ShloMosaic.Lib.Claim

@[expose] public section

noncomputable section

namespace Cert.Swa

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)
/-! ## The result, as a function of the arguments -/

section

variable (Q : Fin 8 → Fin 4096 → Fin 8 → Fin 64 → EReal) (K : Fin 8 → Fin 4096 → Fin 2 → Fin 64 → EReal)
  (W : Fin 8 → Fin 4096 → Fin 2 → Fin 64 → EReal) (S : Fin 8 → EReal) (b : Fin 8)

/-- The kernel's score of row `j` of the window for the query of block row `n`, row `i`, query head `h`. -/
def score (n : Fin 32) (i : Fin 128) (h : Fin 8) (j : Fin 256) : EReal :=
  (∑ x : Fin 128, K b ⟨pos n j, pos_lt n.isLt j.isLt⟩ ⟨x / 64, by omega⟩ ⟨x % 64, by omega⟩
      * (if x.val / 64 = h.val / 4 then Q b ⟨128 * n + i, by omega⟩ h ⟨x % 64, by omega⟩ * qscale else 0))
    + (if n.val = 0 ∧ j.val < 128 then ⊥ else bias j i)

/-- The kernel's result for the query of block row `n`, row `i`, query head `h`, at the depth `d`. -/
def kernelRow (n : Fin 32) (i : Fin 128) (h : Fin 8) (d : Fin 64) : EReal :=
  attend2 (score Q K b n i h) (S h * Named.named (F := Ideal) (φ := .f32) κ "log2e" 0x3FB8AA3B#32)
    (fun j => W b ⟨pos n j, pos_lt n.isLt j.isLt⟩ ⟨h / 4, by omega⟩ d)

end

/-- The kernel's result as one array. -/
def G (c : Dev nD) : S8x4096x512.Idx → EReal := fun y =>
  kernelRow (fun b s h d => argQ m c (ix4 b s h d)) (fun b s g d => m ((c : Thread nD τ).loc main_arg1) (ix4 b s g d))
    (fun b s g d => m ((c : Thread nD τ).loc main_arg2) (ix4 b s g d)) (fun h => m ((c : Thread nD τ).loc main_arg3) (ix1 h)) (y 0)
    ⟨(y 1).val / 128, by have h : (y 1).val < 4096 := (y 1).isLt; omega⟩ ⟨(y 1).val % 128, by omega⟩
    ⟨(y 2).val / 64, by have h : (y 2).val < 512 := (y 2).isLt; omega⟩ ⟨(y 2).val % 64, by omega⟩

/-- The window's keys at a grid point, as the argument. -/
theorem keyW_at (c : Dev nD) (t : Fin cfg0.N) (u : Fin 4) (j : Fin 256) (x : Fin 128) :
    keyW (iblk m c 1 t : Vec Ideal S1x128x128 .bf16) (iblk m c 2 t : Vec Ideal S1x512x128 .bf16) u j x
      = m ((c : Thread nD τ).loc main_arg1) (ix4 ⟨t / 8, by have := pt_lt t; omega⟩ ⟨pos (4 * (t % 8) + u) j, pos_lt (by omega) j.isLt⟩ ⟨x / 64, by omega⟩ ⟨x % 64, by omega⟩) := by
  have ht := pt_lt t
  unfold keyW
  split
  · rw [iblk1_V, V18_at]
    congr 2; apply Fin.ext; show 128 * (4 * (t.val % 8) - 1) + j.val = pos _ _
    unfold pos; split <;> omega
  · rw [iblk2_V, V18_at]
    congr 2; apply Fin.ext; show 512 * (t.val % 8) + (128 * u.val + j.val - 128) = pos _ _
    unfold pos; split <;> omega

/-- The window's values at a grid point, as the argument. -/
theorem valW_at (c : Dev nD) (t : Fin cfg0.N) (u : Fin 4) (g : Fin 2) (d : Fin 64) (j : Fin 256) :
    valW (iblk m c 3 t : Vec Ideal S1x128x128 .bf16) (iblk m c 4 t : Vec Ideal S1x128x512 .bf16) u g d j
      = m ((c : Thread nD τ).loc main_arg2) (ix4 ⟨t / 8, by have := pt_lt t; omega⟩ ⟨pos (4 * (t % 8) + u) j, pos_lt (by omega) j.isLt⟩ g d) := by
  have ht := pt_lt t
  have hg : ∀ p, (⟨(64 * g.val + d.val) / 64, p⟩ : Fin 2) = g := fun p => Fin.ext (by simp; omega)
  have hd : ∀ p, (⟨(64 * g.val + d.val) % 64, p⟩ : Fin 64) = d := fun p => Fin.ext (show (64 * g.val + d.val) % 64 = d.val by omega)
  unfold valW
  split
  · rw [iblk3_V, V21_at, hg, hd]
    congr 2; apply Fin.ext; show 128 * (4 * (t.val % 8) - 1) + j.val = pos _ _
    unfold pos; split <;> omega
  · rw [iblk4_V, V21_at, hg, hd]
    congr 2; apply Fin.ext; show 512 * (t.val % 8) + (128 * u.val + j.val - 128) = pos _ _
    unfold pos; split <;> omega

/-- The scores at a grid point are the scores of the result. -/
theorem score_at (c : Dev nD) (t : Fin cfg0.N) (u : Fin 4) (g : Fin 2) (e : Fin 512) (j : Fin 256) :
    (∑ x : Fin 128, keyW (iblk m c 1 t : Vec Ideal S1x128x128 .bf16) (iblk m c 2 t : Vec Ideal S1x512x128 .bf16) u j x
        * (iblk m c 0 t : Vec Ideal S1x4x128x1024 .bf16) (ix4 0 u x ⟨512 * g + e, by omega⟩))
      + maskW (grid0.coords t) u j ⟨e % 128, by omega⟩
      = score (fun b s h d => argQ m c (ix4 b s h d)) (fun b s g d => m ((c : Thread nD τ).loc main_arg1) (ix4 b s g d)) ⟨t / 8, by have := pt_lt t; omega⟩
          ⟨4 * (t % 8) + u, by omega⟩ ⟨e % 128, by omega⟩ ⟨4 * g + e / 128, by omega⟩ j := by
  have ht := pt_lt t
  unfold score
  refine congrArg₂ (· + ·) (Finset.sum_congr rfl fun x _ => ?_) ?_
  · rw [keyW_at, iblk0_V, V16_at]
    refine congrArg₂ (· * ·) rfl ?_
    refine if_congr ?_ ?_ rfl
    · show x.val / 64 = g.val ↔ x.val / 64 = (4 * g.val + e.val / 128) / 4
      omega
    · refine congrArg (· * qscale) rfl
  · unfold maskW
    refine if_congr ?_ rfl rfl
    rw [coord1]
    show t.val % 8 = 0 ∧ _ ↔ 4 * (t.val % 8) + u.val = 0 ∧ _
    omega

/-- What a grid point computes is the result's row there. -/
theorem row_at (c : Dev nD) (t : Fin cfg0.N) (u : Fin 4) (g : Fin 2) (d : Fin 64) (e : Fin 512) :
    rowSpec (grid0.coords t) (iblk m c 0 t) (iblk m c 1 t) (iblk m c 2 t) (iblk m c 3 t) (iblk m c 4 t) (iblk m c 5 t) u g d e
      = kernelRow (fun b s h d => argQ m c (ix4 b s h d)) (fun b s g d => m ((c : Thread nD τ).loc main_arg1) (ix4 b s g d))
          (fun b s g d => m ((c : Thread nD τ).loc main_arg2) (ix4 b s g d)) (fun h => m ((c : Thread nD τ).loc main_arg3) (ix1 h)) ⟨t / 8, by have := pt_lt t; omega⟩
          ⟨4 * (t % 8) + u, by omega⟩ ⟨e % 128, by omega⟩ ⟨4 * g + e / 128, by omega⟩ d := by
  have ht := pt_lt t
  unfold rowSpec kernelRow
  have hs := funext fun j => score_at m c t u g e j
  have hw : (fun j => valW (iblk m c 3 t : Vec Ideal S1x128x128 .bf16) (iblk m c 4 t : Vec Ideal S1x128x512 .bf16) u g d j)
      = fun j : Fin 256 => m ((c : Thread nD τ).loc main_arg2) (ix4 ⟨t / 8, by omega⟩ ⟨pos (4 * (t % 8) + u) j, pos_lt (by omega) j.isLt⟩ ⟨(4 * g.val + e.val / 128) / 4, by omega⟩ d) := by
    funext j
    rw [valW_at]
    have hg : (⟨(4 * g.val + e.val / 128) / 4, by omega⟩ : Fin 2) = g := Fin.ext (show (4 * g.val + e.val / 128) / 4 = g.val by omega)
    rw [hg]
  have hc : (iblk m c 5 t : Vec Ideal S2x1x512 .f32) (ix3 g 0 e) = m ((c : Thread nD τ).loc main_arg3) (ix1 ⟨4 * g + e / 128, by omega⟩) := by
    rw [iblk5_V, V24_at]
  exact congr (congrArg₂ attend2 hs (congrArg (fun z : EReal => z * Named.named (F := Ideal) (φ := .f32) κ "log2e" 0x3FB8AA3B#32) hc)) hw

/-- What a grid point writes at a row and column is the result's element there. -/
theorem point_at (c : Dev nD) (t : Fin cfg0.N) (r e : Fin 512) :
    blockAt (grid0.coords t) (iblk m c 0 t) (iblk m c 1 t) (iblk m c 2 t) (iblk m c 3 t) (iblk m c 4 t) (iblk m c 5 t) (ix3 0 r e)
      = G m c (ix3 ⟨t / 8, by have := pt_lt t; omega⟩ ⟨512 * (t % 8) + r, by omega⟩ e) := by
  have ht := pt_lt t
  refine (row_at m c t ⟨r / 128, by omega⟩ ⟨e / 256, by omega⟩ ⟨e % 64, by omega⟩ ⟨128 * (e / 64 % 4) + r % 128, by omega⟩).trans ?_
  have h1 : ∀ p q, (⟨4 * (t.val % 8) + r.val / 128, p⟩ : Fin 32) = ⟨(512 * (t.val % 8) + r.val) / 128, q⟩ := fun _ _ => Fin.ext (by dsimp only; omega)
  have h2 : ∀ p q, (⟨(128 * (e.val / 64 % 4) + r.val % 128) % 128, p⟩ : Fin 128) = ⟨(512 * (t.val % 8) + r.val) % 128, q⟩ := fun _ _ => Fin.ext (by dsimp only; omega)
  have h3 : ∀ p q, (⟨4 * (e.val / 256) + (128 * (e.val / 64 % 4) + r.val % 128) / 128, p⟩ : Fin 8) = ⟨e.val / 64, q⟩ := fun _ _ => Fin.ext (by dsimp only; omega)
  unfold G
  exact congr (congr (congrArg₂ _ (h1 _ _) (h2 _ _)) (h3 _ _)) rfl

end Cert.Swa

end
-- ==== Proof.SwaRef.lean ====
module

public import proofs.«01_k».proof.Proof.Gen.Reference2Ideal.Read
public import Idealize.ShloMosaic.Lib.Tactic
public import proofs.«01_k».proof.Proof.SwaMath
public import Idealize.ShloMosaic.Lib.WordCmp
public import Idealize.ShloMosaic.Lib.Pointwise

@[expose] public section

noncomputable section

namespace Cert.SwaRef

open Cert.Swa (pos pos_lt)

open Idealize.ShloMosaic
open Cert.Reference2Ideal Cert.Reference2Ideal.Gen Cert.Reference2Ideal.Read

variable (x0 : FVec Ideal S8x4096x8x64 .f32) (x1 x2 : FVec Ideal S8x4096x2x64 .f32) (x3 : FVec Ideal S8 .f32)

/-- The queries, by block row and head group. -/
theorem v0_at (b : Fin 8) (n : Fin 32) (i : Fin 128) (g : Fin 2) (r : Fin 4) (d : Fin 64) :
    val_main_v0 (F := Ideal) x0 (ix6 b n i g r d) = x0 (ix4 b ⟨n * 128 + i, by omega⟩ ⟨g * 4 + r, by omega⟩ d) := by
  unfold val_main_v0
  pointwise []

/-- The keys, by block row. -/
theorem v1_at (b : Fin 8) (n : Fin 32) (j : Fin 128) (g : Fin 2) (d : Fin 64) :
    val_main_v1 (F := Ideal) x1 (ix5 b n j g d) = x1 (ix4 b ⟨n * 128 + j, by omega⟩ g d) := by
  unfold val_main_v1
  pointwise []

/-- The keys of a block row's window: the row before it, zero before the first, and its own. -/
theorem v6_at (b : Fin 8) (n : Fin 32) (j : Fin 256) (g : Fin 2) (d : Fin 64) :
    val_main_v6 (F := Ideal) x1 (ix5 b n j g d) = if n.val = 0 ∧ j.val < 128 then (0 : EReal) else x1 (ix4 b ⟨pos n j, pos_lt n.isLt j.isLt⟩ g d) := by
  have key : val_main_v6 (F := Ideal) x1 (ix5 b n j g d)
      = if h : j.val < 128 then if h : n.val < 1 then (0 : EReal) else val_main_v1 (F := Ideal) x1 (ix5 b ⟨n - 1, by omega⟩ ⟨j, by omega⟩ g d)
        else val_main_v1 (F := Ideal) x1 (ix5 b n ⟨j - 128, by omega⟩ g d) := by
    unfold val_main_v6 val_main_v5 val_main_v4 val_main_v3 val_main_cst
    generalize hA : val_main_v1 (F := Ideal) x1 = A
    pointwise []
  rw [key]
  by_cases h1 : j.val < 128 <;> by_cases h2 : n.val < 1
  · rw [dif_pos h1, dif_pos h2, if_pos ⟨by omega, h1⟩]
  · rw [dif_pos h1, dif_neg h2, if_neg (by omega), v1_at]
    refine congrArg x1 ?_; congr 1; apply Fin.ext
    show (n.val - 1) * 128 + j.val = pos n j
    unfold pos; split <;> omega
  · rw [dif_neg h1, if_neg (by omega), v1_at]
    refine congrArg x1 ?_; congr 1; apply Fin.ext
    show n.val * 128 + (j.val - 128) = pos n j
    unfold pos; split <;> omega
  · rw [dif_neg h1, if_neg (by omega), v1_at]
    refine congrArg x1 ?_; congr 1; apply Fin.ext
    show n.val * 128 + (j.val - 128) = pos n j
    unfold pos; split <;> omega

/-- The values of a window are cut out as its keys are. -/
theorem v12_eq : val_main_v12 (F := Ideal) x2 = val_main_v6 (F := Ideal) x2 := rfl

/-- Row `j` of the window is seen by the query of row `i` of block row `n`. -/
def shown (n i j : ℕ) : Prop := i < j ∧ j ≤ i + 128 ∧ ¬(n = 0 ∧ j < 128)

/-- Being shown is decided by comparing numbers. -/
instance (n i j : ℕ) : Decidable (shown n i j) := by unfold shown; infer_instance

/-- The mask. -/
theorem v46_at (n : Fin 32) (i : Fin 128) (j : Fin 256) :
    val_main_v46 (F := Ideal) (ix3 n i j) = BitVec.ofBool (decide (shown n i j)) := by
  unfold val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17
  pointwise [val_main_c, val_main_c_2, val_main_c_3, val_main_c_4, val_main_c_5, val_main_c_6]
  have h128 : (128#32 : BitVec 32) = BitVec.ofNat 32 128 := rfl
  have e1 : (IntOp.subi (IntOp.addi (128#32) (BitVec.ofNat 32 i.val)) (BitVec.ofNat 32 j.val)).toNat = (4294967296 + 128 + i.val - j.val) % 4294967296 := by
    simp only [IntOp.subi, IntOp.addi, BitVec.toNat_sub, BitVec.toNat_add, BitVec.toNat_ofNat]
    omega
  have e2 : (IntOp.subi (IntOp.addi (IntOp.muli (BitVec.ofNat 32 n.val) 128#32) (BitVec.ofNat 32 j.val)) 128#32).toNat = (4294967296 + 128 * n.val + j.val - 128) % 4294967296 := by
    simp only [IntOp.subi, IntOp.addi, IntOp.muli, BitVec.toNat_sub, BitVec.toNat_add, BitVec.toNat_mul, BitVec.toNat_ofNat]
    omega
  rw [WordCmp.andi_sge_zero_slt_ofNat (by norm_num), WordCmp.cmpi_sge_zero, e1, e2, WordCmp.andi_ofBool, ← Bool.decide_and]
  congr 1
  apply decide_eq_decide.mpr
  unfold shown
  norm_num
  omega

/-- The bits of `-∞`. -/
theorem bits_bot : Ideal.ofBits .f32 0xFF800000#32 = ⊥ := by simp [Ideal.ofBits, Ideal.ieee]

/-- The scores before masking. -/
theorem v16_at (b : Fin 8) (n : Fin 32) (g : Fin 2) (r : Fin 4) (i : Fin 128) (j : Fin 256) :
    val_main_v16 (F := Ideal) x0 x1 (ix6 b n g r i j)
      = ((∑ x : Fin 64, val_main_v6 (F := Ideal) x1 (ix5 b n j g x) * val_main_v0 (F := Ideal) x0 (ix6 b n i g r x) : EReal)) * Ideal.ofBits .f32 0x3E000000#32 := by
  unfold val_main_v16 val_main_v15 val_main_v14 val_main_v13 val_main_cst_1
  generalize val_main_v6 (F := Ideal) x1 = A
  generalize val_main_v0 (F := Ideal) x0 = B
  pointwise []

/-- The masked scores. -/
theorem v48_at (b : Fin 8) (n : Fin 32) (g : Fin 2) (r : Fin 4) (i : Fin 128) (j : Fin 256) :
    val_main_v48 (F := Ideal) x0 x1 (ix6 b n g r i j)
      = if shown n i j then (∑ d : Fin 64, x1 (ix4 b ⟨pos n j, pos_lt n.isLt j.isLt⟩ g d) * x0 (ix4 b ⟨128 * n + i, by omega⟩ ⟨4 * g + r, by omega⟩ d) : EReal)
          * Ideal.ofBits .f32 0x3E000000#32 else ⊥ := by
  have key : val_main_v48 (F := Ideal) x0 x1 (ix6 b n g r i j)
      = Scalar.select (val_main_v46 (F := Ideal) (ix3 n i j)) (val_main_v16 (F := Ideal) x0 x1 (ix6 b n g r i j)) (Ideal.ofBits .f32 0xFF800000#32) := by
    unfold val_main_v48 val_main_call0_v2 val_main_call0_v1 val_main_call0_v0 val_main_v47 val_main_cst_7
    generalize val_main_v16 (F := Ideal) x0 x1 = A
    generalize val_main_v46 (F := Ideal) = B
    pointwise []
    rfl
  rw [key, v46_at, bits_bot, v16_at]
  by_cases hs : shown n i j
  · rw [decide_eq_true hs, if_pos hs]
    have e : ∀ x : Fin 64, val_main_v6 (F := Ideal) x1 (ix5 b n j g x) * val_main_v0 (F := Ideal) x0 (ix6 b n i g r x)
        = (x1 (ix4 b ⟨pos n j, pos_lt n.isLt j.isLt⟩ g x) * x0 (ix4 b ⟨128 * n + i, by omega⟩ ⟨4 * g + r, by omega⟩ x) : EReal) := by
      intro x
      rw [v6_at, v0_at, if_neg hs.2.2]
      have h1 : ∀ p, (⟨n.val * 128 + i.val, p⟩ : Fin 4096) = ⟨128 * n + i, by omega⟩ := fun _ => Fin.ext (by dsimp only; omega)
      have h2 : ∀ p, (⟨g.val * 4 + r.val, p⟩ : Fin 8) = ⟨4 * g + r, by omega⟩ := fun _ => Fin.ext (by dsimp only; omega)
      rw [h1, h2]
    rw [Finset.sum_congr rfl fun x _ => e x]
    rfl
  · rw [decide_eq_false hs, if_neg hs]
    rfl

/-- The six-coordinate indices that drop to a five-coordinate one, along the last axis. -/
theorem drop_last (h : S8x32x2x4x128x256.ReducesTo [5] S8x32x2x4x128) (b : Fin 8) (n : Fin 32) (g : Fin 2) (r : Fin 4) (i : Fin 128)
    (y : S8x32x2x4x128x256.Idx) : h.drop y = (ix5 b n g r i : S8x32x2x4x128.Idx) ↔ ∃ j : Fin 256, (ix6 b n g r i j : S8x32x2x4x128x256.Idx) = y := by
  constructor
  · intro e
    refine ⟨y 5, ?_⟩
    funext a
    apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨j, rfl⟩
    funext a
    apply Fin.ext
    match a with
    | ⟨0, _⟩ => rfl
    | ⟨1, _⟩ => rfl
    | ⟨2, _⟩ => rfl
    | ⟨3, _⟩ => rfl
    | ⟨4, _⟩ => rfl

/-- The largest score of a row. -/
theorem v51_at (b : Fin 8) (n : Fin 32) (g : Fin 2) (r : Fin 4) (i : Fin 128) :
    val_main_v51 (F := Ideal) x0 x1 (ix5 b n g r i)
      = Finset.univ.fold max (Ideal.ofBits .f32 0xFF800000#32) (fun j : Fin 256 => (val_main_v48 (F := Ideal) x0 x1 (ix6 b n g r i j) : EReal)) := by
  unfold val_main_v51 val_main_cst_8
  generalize hA : val_main_v48 (F := Ideal) x0 x1 = A
  pointwise []
  exact Finset.fold_filter_eq_fold_of_fiber max _ (fun j : Fin 256 => (ix6 b n g r i j : S8x32x2x4x128x256.Idx))
    (fun _ _ e => congrFun e 5) (drop_last _ b n g r i) _ _

/-- The sinks, one for each head of each group. -/
theorem v50_at (g : Fin 2) (r : Fin 4) :
    val_main_v50 (F := Ideal) x3 (ix6 0 0 g r 0 0) = x3 (ix1 ⟨4 * g + r, by omega⟩) := by
  unfold val_main_v50 val_main_v49
  pointwise [] <;> congr 2 <;> (apply Fin.ext; dsimp only; omega)

/-- The largest score of a row and its sink. -/
theorem v54_at (b : Fin 8) (n : Fin 32) (g : Fin 2) (r : Fin 4) (i : Fin 128) :
    val_main_v54 (F := Ideal) x0 x1 x3 (ix6 b n g r i 0)
      = (max (val_main_v51 (F := Ideal) x0 x1 (ix5 b n g r i)) (val_main_v50 (F := Ideal) x3 (ix6 0 0 g r 0 0)) : EReal) := by
  have h52 : val_main_v52 (F := Ideal) x0 x1 (ix6 b n g r i 0) = val_main_v51 (F := Ideal) x0 x1 (ix5 b n g r i) := by
    unfold val_main_v52
    generalize val_main_v51 (F := Ideal) x0 x1 = A
    pointwise []
  have h53 : val_main_v53 (F := Ideal) x3 (ix6 b n g r i 0) = val_main_v50 (F := Ideal) x3 (ix6 0 0 g r 0 0) := by
    unfold val_main_v53
    generalize val_main_v50 (F := Ideal) x3 = A
    pointwise []
  rw [val_main_v54_apply, h52, h53]
  generalize val_main_v51 (F := Ideal) x0 x1 (ix5 b n g r i) = a
  generalize val_main_v50 (F := Ideal) x3 (ix6 0 0 g r 0 0) = b
  rfl

/-- The weights before division. -/
theorem v57_at (b : Fin 8) (n : Fin 32) (g : Fin 2) (r : Fin 4) (i : Fin 128) (j : Fin 256) :
    val_main_v57 (F := Ideal) x0 x1 x3 (ix6 b n g r i j) = Ideal.exp (val_main_v48 (F := Ideal) x0 x1 (ix6 b n g r i j) - val_main_v54 (F := Ideal) x0 x1 x3 (ix6 b n g r i 0)) := by
  unfold val_main_v57 val_main_v56 val_main_v55
  generalize hA : val_main_v48 (F := Ideal) x0 x1 = A
  generalize hB : val_main_v54 (F := Ideal) x0 x1 x3 = B
  pointwise []

/-- The denominator: the weights' sum and the sink's weight. -/
theorem v63_at (b : Fin 8) (n : Fin 32) (g : Fin 2) (r : Fin 4) (i : Fin 128) :
    val_main_v63 (F := Ideal) x0 x1 x3 (ix6 b n g r i 0) = (∑ j : Fin 256, (val_main_v57 (F := Ideal) x0 x1 x3 (ix6 b n g r i j) : EReal)) + Ideal.exp (val_main_v50 (F := Ideal) x3 (ix6 0 0 g r 0 0) - val_main_v54 (F := Ideal) x0 x1 x3 (ix6 b n g r i 0)) := by
  unfold val_main_v63 val_main_v62 val_main_v61 val_main_v60 val_main_v59 val_main_v58 val_main_cst_9
  generalize hA : val_main_v57 (F := Ideal) x0 x1 x3 = A
  generalize hB : val_main_v54 (F := Ideal) x0 x1 x3 = B
  generalize hC : val_main_v50 (F := Ideal) x3 = C
  pointwise []
  refine congrArg (· + Ideal.exp (C (ix6 0 0 g r 0 0) - B (ix6 b n g r i 0))) ?_
  unfold Ideal.hostReduceAdd
  rw [zero_add]
  exact Finset.sum_filter_eq_sum_of_fiber _ (fun j : Fin 256 => (ix6 b n g r i j : S8x32x2x4x128x256.Idx))
    (fun _ _ e => congrFun e 5) (drop_last _ b n g r i) _

/-- The weights. -/
theorem v65_at (b : Fin 8) (n : Fin 32) (g : Fin 2) (r : Fin 4) (i : Fin 128) (j : Fin 256) :
    val_main_v65 (F := Ideal) x0 x1 x3 (ix6 b n g r i j) = Ideal.div (val_main_v57 (F := Ideal) x0 x1 x3 (ix6 b n g r i j)) (val_main_v63 (F := Ideal) x0 x1 x3 (ix6 b n g r i 0)) := by
  unfold val_main_v65 val_main_v64
  generalize hA : val_main_v57 (F := Ideal) x0 x1 x3 = A
  generalize hB : val_main_v63 (F := Ideal) x0 x1 x3 = B
  pointwise []

/-- The result as a sum over the window. -/
theorem v69_at (b : Fin 8) (s : Fin 4096) (e : Fin 512) :
    val_main_v69 (F := Ideal) x0 x1 x2 x3 (ix3 b s e)
      = (∑ j : Fin 256, val_main_v12 (F := Ideal) x2 (ix5 b ⟨s / 128, by omega⟩ j ⟨e / 256, by omega⟩ ⟨e % 64, by omega⟩)
          * val_main_v65 (F := Ideal) x0 x1 x3 (ix6 b ⟨s / 128, by omega⟩ ⟨e / 256, by omega⟩ ⟨e / 64 % 4, by omega⟩ ⟨s % 128, by omega⟩ j) : EReal) := by
  unfold val_main_v69 val_main_v68 val_main_v67 val_main_v66
  generalize val_main_v65 (F := Ideal) x0 x1 x3 = A
  generalize val_main_v12 (F := Ideal) x2 = B
  pointwise []

/-- The reference's score of row `j` of a query's window. -/
def refScore (b : Fin 8) (n : Fin 32) (g : Fin 2) (r : Fin 4) (i : Fin 128) (j : Fin 256) : EReal :=
  if shown n i j then (∑ d : Fin 64, x1 (ix4 b ⟨pos n j, pos_lt n.isLt j.isLt⟩ g d) * x0 (ix4 b ⟨128 * n + i, by omega⟩ ⟨4 * g + r, by omega⟩ d) : EReal)
    * Ideal.ofBits .f32 0x3E000000#32 else ⊥

/-- The reference's largest score of a query, its sink included. -/
def refTop (b : Fin 8) (n : Fin 32) (g : Fin 2) (r : Fin 4) (i : Fin 128) : EReal :=
  max (Finset.univ.fold max ⊥ (refScore x0 x1 b n g r i)) (x3 (ix1 ⟨4 * g + r, by omega⟩))

/-- The reference's values, zero where the window's first half precedes the sequence. -/
def refVal (b : Fin 8) (n : Fin 32) (g : Fin 2) (d : Fin 64) (j : Fin 256) : EReal :=
  if n.val = 0 ∧ j.val < 128 then (0 : EReal) else x2 (ix4 b ⟨pos n j, pos_lt n.isLt j.isLt⟩ g d)

/-- The reference's result of a query at a depth: the softmax with a sink, applied to the values. -/
def refRow (b : Fin 8) (n : Fin 32) (g : Fin 2) (r : Fin 4) (i : Fin 128) (d : Fin 64) : EReal :=
  ∑ j : Fin 256, Ideal.div (Ideal.exp (refScore x0 x1 b n g r i j - refTop x0 x1 x3 b n g r i))
      ((∑ j : Fin 256, Ideal.exp (refScore x0 x1 b n g r i j - refTop x0 x1 x3 b n g r i)) + Ideal.exp (x3 (ix1 ⟨4 * g + r, by omega⟩) - refTop x0 x1 x3 b n g r i))
    * refVal x2 b n g d j

/-- The reference's result, element by element. -/
theorem ref_at (b : Fin 8) (s : Fin 4096) (e : Fin 512) :
    val_main_v69 (F := Ideal) x0 x1 x2 x3 (ix3 b s e)
      = refRow x0 x1 x2 x3 b ⟨s / 128, by omega⟩ ⟨e / 256, by omega⟩ ⟨e / 64 % 4, by omega⟩ ⟨s % 128, by omega⟩ ⟨e % 64, by omega⟩ := by
  rw [v69_at]
  unfold refRow
  generalize (⟨s.val / 128, by omega⟩ : Fin 32) = n
  generalize (⟨e.val / 256, by omega⟩ : Fin 2) = g
  generalize (⟨e.val / 64 % 4, by omega⟩ : Fin 4) = r
  generalize (⟨s.val % 128, by omega⟩ : Fin 128) = i
  generalize (⟨e.val % 64, by omega⟩ : Fin 64) = d
  have h48 : ∀ j, val_main_v48 (F := Ideal) x0 x1 (ix6 b n g r i j) = refScore x0 x1 b n g r i j := fun j => v48_at x0 x1 b n g r i j
  have h54 : val_main_v54 (F := Ideal) x0 x1 x3 (ix6 b n g r i 0) = refTop x0 x1 x3 b n g r i := by
    rw [v54_at, v51_at, v50_at, bits_bot]
    unfold refTop
    simp only [h48]
  have h57 : ∀ j, val_main_v57 (F := Ideal) x0 x1 x3 (ix6 b n g r i j) = Ideal.exp (refScore x0 x1 b n g r i j - refTop x0 x1 x3 b n g r i) := fun j => by
    rw [v57_at, h48, h54]
  refine Finset.sum_congr rfl fun j _ => ?_
  rw [v65_at, v63_at, h54, v50_at, v12_eq, v6_at]
  simp only [h57]
  exact mul_comm _ _

end Cert.SwaRef

end
-- ==== Proof.SwaBridge.lean ====
module

public import proofs.«01_k».proof.Proof.SwaValue
public import proofs.«01_k».proof.Proof.SwaRef

@[expose] public section

noncomputable section

namespace Cert.SwaBridge

open Idealize.ShloMosaic Cert.Swa Cert.SwaRef
open Cert.Reference2Ideal (S8x4096x8x64 S8x4096x2x64 S8)

/-- The bits of one eighth. -/
theorem bits_eighth : Ideal.ofBits .f32 0x3E000000#32 = ((8⁻¹ : ℝ) : EReal) := by
  simp [Ideal.ofBits, Ideal.ieee]
  rw [← EReal.coe_mul]
  norm_num

/-- The bits of two. -/
theorem bits_two : Ideal.ofBits .f32 0x40000000#32 = ((2 : ℝ) : EReal) := by
  simp [Ideal.ofBits, Ideal.ieee]
  rw [← EReal.coe_mul]
  norm_num

/-- The host's query scale is one eighth divided by the logarithm of two. -/
theorem qscale_real : qscale = ((8⁻¹ * (Real.log 2)⁻¹ : ℝ) : EReal) := by
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  rw [qscale_eq, bits_eighth, bits_two, hl, div_coe _ (Real.log_pos (by norm_num)), EReal.coe_mul]

/-- A sum over 128 lanes of which only one half counts is the sum over that half. -/
theorem sum_half (f : Fin 2 → Fin 64 → EReal) (g : Fin 2) :
    (∑ x : Fin 128, if x.val / 64 = g.val then f ⟨x / 64, by omega⟩ ⟨x % 64, by omega⟩ else 0) = ∑ d : Fin 64, f g d := by
  rw [← (finProdFinEquiv (m := 2) (n := 64)).sum_comp (fun x : Fin 128 => if x.val / 64 = g.val then f ⟨x / 64, by omega⟩ ⟨x % 64, by omega⟩ else 0),
    Fintype.sum_prod_type, Finset.sum_eq_single g]
  · refine Finset.sum_congr rfl fun d _ => ?_
    have hv : (finProdFinEquiv (m := 2) (n := 64) (g, d)).val = d.val + 64 * g.val := rfl
    rw [if_pos (by rw [hv]; omega)]
    congr 1
    · apply Fin.ext; show (finProdFinEquiv (m := 2) (n := 64) (g, d)).val / 64 = _; rw [hv]; omega
    · apply Fin.ext; show (finProdFinEquiv (m := 2) (n := 64) (g, d)).val % 64 = _; rw [hv]; omega
  · intro a _ ha
    refine Finset.sum_eq_zero fun d _ => ?_
    have hv : (finProdFinEquiv (m := 2) (n := 64) (a, d)).val = d.val + 64 * a.val := rfl
    refine if_neg fun h => ha (Fin.ext ?_)
    rw [hv] at h; omega
  · intro h; exact absurd (Finset.mem_univ _) h

variable (x0 : S8x4096x8x64.Idx → EReal) (x1 x2 : S8x4096x2x64.Idx → EReal) (x3 : S8.Idx → EReal)

/-- The kernel's score is the reference's divided by the logarithm of two, for real queries and keys. -/
theorem score_eq (q : S8x4096x8x64.Idx → ℝ) (hq : ∀ y, x0 y = (q y : EReal)) (k : S8x4096x2x64.Idx → ℝ) (hk : ∀ y, x1 y = (k y : EReal))
    (b : Fin 8) (n : Fin 32) (g : Fin 2) (r : Fin 4) (i : Fin 128) (j : Fin 256) :
    score (fun b s h d => x0 (ix4 b s h d)) (fun b s g d => x1 (ix4 b s g d)) b n i ⟨4 * g + r, by omega⟩ j
      = (((Real.log 2)⁻¹ : ℝ) : EReal) * refScore x0 x1 b n g r i j := by
  have h2 : 0 < (Real.log 2)⁻¹ := inv_pos.mpr (Real.log_pos (by norm_num))
  have hs : (∑ x : Fin 128, x1 (ix4 b ⟨pos n j, pos_lt n.isLt j.isLt⟩ ⟨x / 64, by omega⟩ ⟨x % 64, by omega⟩)
        * (if x.val / 64 = (4 * g.val + r.val) / 4 then x0 (ix4 b ⟨128 * n + i, by omega⟩ ⟨4 * g + r, by omega⟩ ⟨x % 64, by omega⟩) * qscale else 0))
      = (((Real.log 2)⁻¹ : ℝ) : EReal) * ((∑ d : Fin 64, x1 (ix4 b ⟨pos n j, pos_lt n.isLt j.isLt⟩ g d) * x0 (ix4 b ⟨128 * n + i, by omega⟩ ⟨4 * g + r, by omega⟩ d))
          * Ideal.ofBits .f32 0x3E000000#32) := by
    refine Eq.trans ?_ ((sum_half (fun g d => x1 (ix4 b ⟨pos n j, pos_lt n.isLt j.isLt⟩ g d)
      * (x0 (ix4 b ⟨128 * n + i, by omega⟩ ⟨4 * g.val + r.val, by omega⟩ d) * qscale)) g).trans ?_)
    · refine Finset.sum_congr rfl fun x _ => ?_
      by_cases h : x.val / 64 = g.val
      · rw [if_pos h, if_pos (by omega)]
        have hg : (⟨4 * (x.val / 64) + r.val, by omega⟩ : Fin 8) = ⟨4 * g + r, by omega⟩ := Fin.ext (by dsimp only; omega)
        rw [hg]
      · rw [if_neg h, if_neg (by omega), mul_zero]
    · simp only [hq, hk, qscale_real, bits_eighth, ← EReal.coe_mul, sum_coe]
      congr 1
      rw [Finset.sum_mul, Finset.mul_sum]
      exact Finset.sum_congr rfl fun d _ => by ring
  unfold score refScore
  refine (congrArg (· + (if n.val = 0 ∧ j.val < 128 then (⊥ : EReal) else bias j i)) hs).trans ?_
  unfold bias
  by_cases h : shown n i j
  · rw [if_pos h, if_neg h.2.2, if_pos ⟨h.1, h.2.1⟩]
    exact add_zero _
  · rw [if_neg h, EReal.coe_mul_bot_of_pos h2]
    have e : (if n.val = 0 ∧ j.val < 128 then (⊥ : EReal) else if i.val < j.val ∧ j.val ≤ i.val + 128 then 0 else ⊥) = ⊥ := by
      split
      · rfl
      · rename_i h'
        exact if_neg fun h'' => h ⟨h''.1, h''.2, h'⟩
    rw [e]
    exact EReal.add_bot _

/-- The kernel's result of a query is the reference's, for real queries and keys and sinks below `⊤`. -/
theorem row_eq (q : S8x4096x8x64.Idx → ℝ) (hq : ∀ y, x0 y = (q y : EReal)) (k : S8x4096x2x64.Idx → ℝ) (hk : ∀ y, x1 y = (k y : EReal))
    (hs : ∀ y, x3 y ≠ ⊤) (b : Fin 8) (n : Fin 32) (g : Fin 2) (r : Fin 4) (i : Fin 128) (d : Fin 64) :
    kernelRow (fun b s h d => x0 (ix4 b s h d)) (fun b s g d => x1 (ix4 b s g d)) (fun b s g d => x2 (ix4 b s g d)) (fun h => x3 (ix1 h)) b n i
        ⟨4 * g + r, by omega⟩ d
      = refRow x0 x1 x2 x3 b n g r i d := by
  have hr : ∀ j : Fin 256, shown n i j → ∃ z : ℝ, refScore x0 x1 b n g r i j = (z : EReal) := fun j h => by
    unfold refScore
    rw [if_pos h]
    simp only [hq, hk, bits_eighth, ← EReal.coe_mul, sum_coe]
    exact ⟨_, rfl⟩
  have hl : ∀ j, refScore x0 x1 b n g r i j ≠ ⊤ := fun j => by
    by_cases h : shown n i j
    · obtain ⟨z, hz⟩ := hr j h
      rw [hz]; exact EReal.coe_ne_top z
    · unfold refScore
      rw [if_neg h]; exact bot_ne_top
  have hj : refScore x0 x1 b n g r i ⟨128 + i, by omega⟩ ≠ ⊥ := by
    obtain ⟨z, hz⟩ := hr ⟨128 + i, by omega⟩ ⟨by dsimp only; omega, by dsimp only; omega, by dsimp only; omega⟩
    rw [hz]; exact EReal.coe_ne_bot z
  have hw : ∀ j, refScore x0 x1 b n g r i j = ⊥ ∨ x2 (ix4 b ⟨pos n j, pos_lt n.isLt j.isLt⟩ ⟨(4 * g.val + r.val) / 4, by omega⟩ d) = refVal x2 b n g d j := fun j => by
    unfold refScore refVal
    by_cases h : n.val = 0 ∧ j.val < 128
    · exact Or.inl (if_neg fun h' => h'.2.2 h)
    · rw [if_neg h]
      have hg : (⟨(4 * g.val + r.val) / 4, by omega⟩ : Fin 2) = g := Fin.ext (by dsimp only; omega)
      rw [hg]
      exact Or.inr rfl
  have hc : x3 (ix1 ⟨4 * g + r, by omega⟩) * Named.named (F := Ideal) (φ := .f32) Cert.Kernel2Ideal.κ "log2e" 0x3FB8AA3B#32
      = (((Real.log 2)⁻¹ : ℝ) : EReal) * x3 (ix1 ⟨4 * g + r, by omega⟩) := by
    rw [IdealRules.named_const.ideal_named_scalar Cert.Kernel2Ideal.κ "log2e" (φ := .f32) 0x3FB8AA3B#32 (((Real.log 2)⁻¹ : ℝ) : EReal) rfl]
    exact mul_comm _ _
  unfold kernelRow attend2 refRow
  exact attend_eq (refScore x0 x1 b n g r i) _ (refVal x2 b n g d) hw (x3 (ix1 ⟨4 * g + r, by omega⟩)) hl (hs _) _ hj
    _ _ _ (refTop x0 x1 x3 b n g r i) (fun j => score_eq x0 x1 q hq k hk b n g r i j) hc (by unfold top; rw [bits_bot]) rfl

end Cert.SwaBridge

end
-- ==== Proof.SwaFinal.lean ====
module

public import proofs.«01_k».proof.Proof.SwaBlock
public import proofs.«01_k».proof.Proof.SwaValue
public import proofs.«01_k».proof.Proof.SwaMath
public import proofs.«01_k».proof.Proof.Gen.Kernel2Ideal.Value
public import Idealize.ShloMosaic.Lib.StableHlo.ReadAt
public import Idealize.ShloMosaic.Lib.Claim

@[expose] public section

noncomputable section

namespace Cert.Swa

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- What a grid point writes back is its block of the result. -/
theorem flushed_eq (c : Dev nD) (t : Fin cfg0.N) :
    (dats m 0 c).flushed 6 t = ((cfg0.win 6).blk t).view.read (Elt Ideal) (G m c) := by
  rw [Value.flushed6]
  funext j
  obtain ⟨r, e, rfl⟩ : ∃ (r e : Fin 512), j = ix3 0 r e := ⟨j 1, j 2, by
    refine (eq_ix3 j).trans ?_; congr 1; exact Subsingleton.elim (α := Fin 1) _ _⟩
  rw [View.read_apply]
  have hj : ((cfg0.win 6).blk t).view.emb (ix3 0 r e) = ix3 ⟨t / 8, by have := pt_lt t; omega⟩ ⟨512 * (t % 8) + r, by omega⟩ e := by
    obtain ⟨-, -, -, -, -, -, -, -, -, -, -, -, -, -, -, -, -, -, -, h0, h1, h2⟩ := idx_facts t
    funext a; apply Fin.ext
    match a with
    | ⟨0, _⟩ => show win0_6.index t 0 * 1 + 1 * 0 = t.val / 8; rw [h0]; omega
    | ⟨1, _⟩ => show win0_6.index t 1 * 512 + 1 * r.val = 512 * (t.val % 8) + r.val; rw [h1]; omega
    | ⟨2, _⟩ => show win0_6.index t 2 * 512 + 1 * e.val = e.val; rw [h2]; omega
  rw [hj, ← point_at, ← out_at _ _ _ _ _ _ _ (by rw [coord1]; omega)]
  rfl

/-- Every element of the result is written back by some point. -/
theorem cover (i : S8x4096x512.Idx) : ∃ t : Fin cfg0.N, (cfg0.win 6).flush t = true ∧ i ∈ ((cfg0.win 6).blk t).view.set := by
  have hi0 : (i 0).val < 8 := (i 0).isLt
  have hi1 : (i 1).val < 4096 := (i 1).isLt
  have hi2 : (i 2).val < 512 := (i 2).isLt
  have hN : cfg0.N = 64 := N_0
  refine ⟨⟨8 * (i 0).val + (i 1).val / 512, by rw [hN]; omega⟩, flush0_6 _, ?_⟩
  generalize ht : (⟨8 * (i 0).val + (i 1).val / 512, by rw [hN]; omega⟩ : Fin cfg0.N) = t
  have htv : t.val = 8 * (i 0).val + (i 1).val / 512 := by rw [← ht]
  obtain ⟨-, -, -, -, -, -, -, -, -, -, -, -, -, -, -, -, -, -, -, h0, h1, h2⟩ := idx_facts t
  show i ∈ ((View.whole main_v25).slice (win0_6.rect t)).set
  rw [View.set_slice_whole, Rect.mem_set_unit]
  intro a
  match a with
  | ⟨0, _⟩ => show win0_6.index t 0 * 1 ≤ (i 0).val ∧ (i 0).val < win0_6.index t 0 * 1 + 1; rw [h0]; omega
  | ⟨1, _⟩ => show win0_6.index t 1 * 512 ≤ (i 1).val ∧ (i 1).val < win0_6.index t 1 * 512 + 512; rw [h1]; omega
  | ⟨2, _⟩ => show win0_6.index t 2 * 512 ≤ (i 2).val ∧ (i 2).val < win0_6.index t 2 * 512 + 512; rw [h2]; omega

/-- The array the grid leaves is the result. -/
theorem final (c : Dev nD) : (dats m 0 c).arrAt 6 cfg0.N = G m c :=
  (dats m 0 c).arrAt_eq_of_cover 6 (G m c) (fun t _ => flushed_eq m c t) cover

end Cert.Swa

end
-- ==== Proof.SwaClaim.lean ====
module

public import proofs.«01_k».proof.Defs
public import proofs.«01_k».proof.Proof.SwaBridge
public import proofs.«01_k».proof.Proof.SwaFinal
public import proofs.«01_k».proof.Proof.Gen.Pre_finite2
public import Idealize.ShloMosaic.Lib.Quiescent

@[expose] public section

noncomputable section

namespace Cert.SwaBridge

open Idealize.ShloMosaic Idealize.ShloMosaic.TcCoe Idealize.SL.Sem

/-- The bits of `∞`. -/
theorem bits_inf : Ideal.ofBits .f32 0x7F800000#32 = ⊤ := by simp [Ideal.ofBits, Ideal.ieee]

/-- A decided bit that is set decides a true proposition. -/
theorem of_bit {p : Prop} [Decidable p] (h : BitVec.ofBool (decide p) = 1#1) : p := by
  by_contra hp
  rw [decide_eq_false hp] at h
  exact absurd h (by decide)

/-- An extended real of magnitude below `⊤` is real. -/
theorem real_of_abs (x : EReal) (h : max x (-x) < ⊤) : ∃ r : ℝ, x = (r : EReal) := by
  induction x using EReal.rec with
  | bot => exact absurd h (by simp)
  | top => exact absurd h (by simp)
  | coe r => exact ⟨r, rfl⟩

/-- The precondition says that queries and keys are real and the sinks below `⊤`. -/
theorem of_pre (x0 : FVec Ideal Cert.Pre_finite2.S8x4096x8x64 .f32) (x1 x2 : FVec Ideal Cert.Pre_finite2.S8x4096x2x64 .f32) (x3 : FVec Ideal Cert.Pre_finite2.S8 .f32)
    (h0 : (@Cert.Pre_finite2.fn Cert.Pre_finite2.Gen.facts Ideal _ x0 x1 x2 x3).1 = fun _ => 1#1)
    (h1 : (@Cert.Pre_finite2.fn Cert.Pre_finite2.Gen.facts Ideal _ x0 x1 x2 x3).2.1 = fun _ => 1#1)
    (h2 : (@Cert.Pre_finite2.fn Cert.Pre_finite2.Gen.facts Ideal _ x0 x1 x2 x3).2.2 = fun _ => 1#1) :
    (∃ q : Cert.Pre_finite2.S8x4096x8x64.Idx → ℝ, ∀ y, x0 y = (q y : EReal)) ∧ (∃ k : Cert.Pre_finite2.S8x4096x2x64.Idx → ℝ, ∀ y, x1 y = (k y : EReal))
      ∧ ∀ y, x3 y ≠ (⊤ : EReal) := by
  refine ⟨?_, ?_, fun y => ?_⟩
  · have h : ∀ y, ∃ r : ℝ, x0 y = (r : EReal) := fun y => by
      have e : BitVec.ofBool (decide ((max (x0 y : EReal) (-(x0 y : EReal))) < Ideal.ofBits .f32 0x7F800000#32)) = 1#1 := congrFun h0 y
      rw [bits_inf] at e
      exact real_of_abs _ (of_bit e)
    choose q hq using h
    exact ⟨q, hq⟩
  · have h : ∀ y, ∃ r : ℝ, x1 y = (r : EReal) := fun y => by
      have e : BitVec.ofBool (decide ((max (x1 y : EReal) (-(x1 y : EReal))) < Ideal.ofBits .f32 0x7F800000#32)) = 1#1 := congrFun h1 y
      rw [bits_inf] at e
      exact real_of_abs _ (of_bit e)
    choose k hk using h
    exact ⟨k, hk⟩
  · have e : BitVec.ofBool (decide ((x3 y : EReal) < Ideal.ofBits .f32 0x7F800000#32)) = 1#1 := congrFun h2 y
    rw [bits_inf] at e
    exact (of_bit e).ne

/-- The kernel's result is the reference's, element by element, for real queries and keys and sinks below `⊤`. -/
theorem result_eq (m : (ℓ : Loc Cert.Kernel2Ideal.nD Cert.Kernel2Ideal.τ Cert.Kernel2Ideal.sig) → Buf (Elt Ideal) ℓ) (c : Dev Cert.Kernel2Ideal.nD)
    (x0 : FVec Ideal Cert.Reference2Ideal.S8x4096x8x64 .f32) (x1 x2 : FVec Ideal Cert.Reference2Ideal.S8x4096x2x64 .f32) (x3 : FVec Ideal Cert.Reference2Ideal.S8 .f32)
    (e0 : m ((c : Thread Cert.Kernel2Ideal.nD Cert.Kernel2Ideal.τ).loc Cert.Kernel2Ideal.main_arg0) = x0) (e1 : m ((c : Thread Cert.Kernel2Ideal.nD Cert.Kernel2Ideal.τ).loc Cert.Kernel2Ideal.main_arg1) = x1)
    (e2 : m ((c : Thread Cert.Kernel2Ideal.nD Cert.Kernel2Ideal.τ).loc Cert.Kernel2Ideal.main_arg2) = x2) (e3 : m ((c : Thread Cert.Kernel2Ideal.nD Cert.Kernel2Ideal.τ).loc Cert.Kernel2Ideal.main_arg3) = x3)
    (q : Cert.Reference2Ideal.S8x4096x8x64.Idx → ℝ) (hq : ∀ y, x0 y = (q y : EReal)) (k : Cert.Reference2Ideal.S8x4096x2x64.Idx → ℝ) (hk : ∀ y, x1 y = (k y : EReal))
    (hs : ∀ y, x3 y ≠ (⊤ : EReal)) (y : Cert.Reference2Ideal.S8x4096x512.Idx) :
    Cert.Reference2Ideal.Read.val_main_v69 (F := Ideal) x0 x1 x2 x3 y = Cert.Swa.G m c y := by
  obtain ⟨b, s, e, rfl⟩ : ∃ (b : Fin 8) (s : Fin 4096) (e : Fin 512), y = ix3 b s e := ⟨y 0, y 1, y 2, eq_ix3 y⟩
  have h := row_eq x0 x1 x2 x3 q hq k hk hs b ⟨s / 128, by omega⟩ ⟨e / 256, by omega⟩ ⟨e / 64 % 4, by omega⟩ ⟨s % 128, by omega⟩ ⟨e % 64, by omega⟩
  rw [Cert.SwaRef.ref_at]
  refine h.symm.trans ?_
  unfold Cert.Swa.G Cert.Swa.argQ
  rw [e0, e1, e2, e3]
  have hh : ∀ p p', (⟨4 * (e.val / 256) + e.val / 64 % 4, p⟩ : Fin 8) = ⟨e.val / 64, p'⟩ := fun _ _ => Fin.ext (by dsimp only; omega)
  exact congrArg (fun z => Cert.Swa.kernelRow (fun b s h d => x0 (ix4 b s h d)) (fun b s g d => x1 (ix4 b s g d)) (fun b s g d => x2 (ix4 b s g d)) (fun h => x3 (ix1 h)) b
    ⟨s / 128, by omega⟩ ⟨s % 128, by omega⟩ z ⟨e % 64, by omega⟩) (hh _ _)

/-- The attention kernel and its reference end with equal results, for real queries and keys and sinks below `⊤`. -/
theorem algebraic : @Cert.algebraic_Kernel2Ideal_Reference2Ideal_pre_finite2 Cert.Kernel2Ideal.Gen.facts Cert.Reference2Ideal.Gen.facts Cert.Pre_finite2.Gen.facts := by
  intro m g m' g' hpre hargs
  refine ⟨fun c => Cert.Swa.G m c, (θ_run _ _ _).mono (fun r h c => ⟨(h c).1.trans (Cert.Swa.final m c), (h c).2⟩) (Cert.Kernel2Ideal.Value.run_blocks m g),
    (θ_run _ _ _).mono (fun r h c => ⟨(h c).1.trans ?_, (h c).2⟩) (Cert.Reference2Ideal.Value.run m' g')⟩
  obtain ⟨a0, a1, a2, a3⟩ := hargs c
  obtain ⟨p0, p1, p2⟩ := hpre c
  obtain ⟨⟨q, hq⟩, ⟨k, hk⟩, hs⟩ := of_pre _ _ _ _ p0 p1 p2
  rw [Cert.Reference2Ideal.Read.val_main_v69_eq, a0, a1, a2, a3]
  exact funext fun y => result_eq m c _ _ _ _ rfl rfl rfl rfl q hq k hk hs y

/-- The reference runs, ends with its arguments unchanged and every semaphore at zero. -/
theorem ref_frame : @Cert.quiescent_Reference2Ideal Cert.Reference2Ideal.Gen.facts := by
  intro m g _
  exact (θ_run _ _ _).mono (fun r h => ⟨fun c => (h c).2, sem_eq_zero_of_no_sems rfl r.2⟩) (Cert.Reference2Ideal.Value.run m g)

/-- The same under the precondition. -/
theorem ref_frame_pre : @Cert.quiescent_Reference2Ideal_pre_finite2 Cert.Reference2Ideal.Gen.facts Cert.Pre_finite2.Gen.facts := by
  intro m g _
  exact (θ_run _ _ _).mono (fun r h => ⟨fun c => (h c).2, sem_eq_zero_of_no_sems rfl r.2⟩) (Cert.Reference2Ideal.Value.run m g)

end Cert.SwaBridge

end
-- ==== Proof.ProjCore.lean ====
module

public import proofs.«01_k».proof.Proof.Gen.Kernel3Ideal.Frame
public import Idealize.ShloMosaic.Lib.Tactic
public import Idealize.ShloMosaic.Lib.Pointwise

@[expose] public section

noncomputable section

namespace Cert.Proj

open Idealize.ShloMosaic

/-! ## Rows of numbers, over the extended reals -/

/-- The root-mean-square normalised row times the gain, the length `N` and the small number `ε` given. -/
def normed {n : ℕ} (N ε : EReal) (f g : Fin n → EReal) (k : Fin n) : EReal :=
  f k * Ideal.rsqrt (Ideal.div (∑ j : Fin n, f j * f j) N + ε) * g k

/-- The rotary embedding of a head: its two halves turned by the angles of a position. -/
def rot (f : Fin 64 → EReal) (c s : Fin 32 → EReal) (d : Fin 64) : EReal :=
  if h : d.val < 32 then f ⟨d, by omega⟩ * c ⟨d, h⟩ - f ⟨32 + d, by omega⟩ * s ⟨d, h⟩
  else f ⟨d, by omega⟩ * c ⟨d - 32, by omega⟩ + f ⟨d - 32, by omega⟩ * s ⟨d - 32, by omega⟩

/-- The small number under a root. -/
abbrev eps : EReal := Ideal.ofBits .f32 0x358637BD#32
/-- The width of the model. -/
abbrev n1024 : EReal := Ideal.ofBits .f32 0x44800000#32
/-- The width of a head. -/
abbrev n64 : EReal := Ideal.ofBits .f32 0x42800000#32

end Cert.Proj

namespace Cert.Proj

open Idealize.ShloMosaic Cert.Kernel3Ideal Cert.Kernel3Ideal.Gen

/-- The scale of the attention's queries. -/
abbrev qscale : EReal := Named.named (F := Ideal) (φ := .f32) κ "qscale" 0x3E38AA3B#32

/-! ## The steps of a head on a block, as the body writes them -/

/-- A head's rows normalised over the head and multiplied by the gain. -/
def normB (b : FVec Ideal S64x512 .f32) (g : FVec Ideal S64x1 .f32) : FVec Ideal S64x512 .f32 :=
  mulf (mulf b (broadcastTo S64x512 (rsqrt (addf (divf (shapeCast S1x512 (multiReduction .add [0] S512 (mulf b b) 0x00000000#32 reduces_S64x512_S512 (.inl rfl) rfl) shapeCasts_S512_S1x512)
    (broadcast S1x512 (Scalar.ofBits .f32 0x42800000#32))) (broadcast S1x512 (Scalar.ofBits .f32 0x358637BD#32)))) broadcasts_S1x512_S64x512))
    (broadcastTo S64x512 g broadcasts_S64x1_S64x512)

/-- A head's rows turned by the angles. -/
def ropeB (b : FVec Ideal S64x512 .f32) (c s : FVec Ideal S32x512 .f32) : FVec Ideal S64x512 .f32 :=
  concatenate S64x512 0
    [⟨S32x512, subf (mulf (extractStridedSlice S32x512 ![0, 0] b slices_S64x512_o0_0_S32x512) c) (mulf (extractStridedSlice S32x512 ![32, 0] b slices_S64x512_o32_0_S32x512) s)⟩,
     ⟨S32x512, addf (mulf (extractStridedSlice S32x512 ![32, 0] b slices_S64x512_o32_0_S32x512) c) (mulf (extractStridedSlice S32x512 ![0, 0] b slices_S64x512_o0_0_S32x512) s)⟩]
    concatenates_S32x512_S32x512_S64x512_d0

/-- A head's rows scaled. -/
def scaleB (b : FVec Ideal S64x512 .f32) : FVec Ideal S64x512 .bf16 :=
  truncf .bf16 (mulf b (broadcast S64x512 (Named.named κ "qscale" 0x3E38AA3B#32))) bitsLt_bf16_f32

/-- The normalised rows, at an element. -/
theorem normB_at (b : FVec Ideal S64x512 .f32) (g : FVec Ideal S64x1 .f32) (d : Fin 64) (p : Fin 512) :
    normB b g (ix2 d p) = normed n64 eps (fun k => b (ix2 k p)) (fun k => g (ix2 k 0)) d := by
  unfold normB
  pointwise [normed]

/-- The turned rows, at an element. -/
theorem ropeB_at (b : FVec Ideal S64x512 .f32) (c s : FVec Ideal S32x512 .f32) (d : Fin 64) (p : Fin 512) :
    ropeB b c s (ix2 d p) = rot (fun k => b (ix2 k p)) (fun k => c (ix2 k p)) (fun k => s (ix2 k p)) d := by
  unfold ropeB rot
  pointwise []
  split
  · rfl
  · have e : ∀ w, (⟨32 + (d.val - 32), w⟩ : Fin 64) = d := fun w => Fin.ext (by dsimp only; omega)
    simp only [e]

/-- The scaled rows, at an element. -/
theorem scaleB_at (b : FVec Ideal S64x512 .f32) (d : Fin 64) (p : Fin 512) : scaleB b (ix2 d p) = b (ix2 d p) * qscale := rfl

variable (z : FVec Ideal S1352x512 .f32) (c s : FVec Ideal S32x512 .f32) (g : FVec Ideal S64x1 .f32)

/-- An attention query head of the block: 64 rows of the product normalised, turned and scaled. -/
def query (h : Fin 8) (d : Fin 64) (p : Fin 512) : EReal :=
  rot (normed n64 eps (fun k => z (ix2 ⟨64 * h + k, by omega⟩ p)) (fun k => g (ix2 k 0))) (fun k => c (ix2 k p)) (fun k => s (ix2 k p)) d * qscale

/-- A query head's rows, cut out of the product from the row `64 h` on, normalised, turned and scaled. -/
theorem query_at (h : Fin 8) (off : Fin 2 → ℕ) (ho : off = ![64 * h.val, 0]) (sl : S1352x512.Slices off S64x512) (d : Fin 64) (p : Fin 512) :
    scaleB (ropeB (normB (extractStridedSlice S64x512 off z sl) g) c s) (ix2 d p) = query z c s g h d p := by
  subst ho
  rw [scaleB_at, ropeB_at]
  simp only [normB_at]
  unfold query
  have e : ∀ k : Fin 64, extractStridedSlice S64x512 ![64 * h.val, 0] z sl (ix2 k p) = z (ix2 ⟨64 * h + k, by omega⟩ p) := fun k => by
    pointwise []
  simp only [e]

/-- An index query head of the block: 64 rows of the product turned. -/
def iquery (h : Fin 8) (d : Fin 64) (p : Fin 512) : EReal :=
  rot (fun k => z (ix2 ⟨768 + 64 * h + k, by omega⟩ p)) (fun k => c (ix2 k p)) (fun k => s (ix2 k p)) d

/-- An index query head's rows, cut out of the product from the row `768 + 64 h` on and turned. -/
theorem iquery_at (h : Fin 8) (off : Fin 2 → ℕ) (ho : off = ![768 + 64 * h.val, 0]) (sl : S1352x512.Slices off S64x512) (d : Fin 64) (p : Fin 512) :
    truncf .bf16 (ropeB (extractStridedSlice S64x512 off z sl) c s) bitsLt_bf16_f32 (ix2 d p) = iquery z c s h d p := by
  subst ho
  show ropeB (extractStridedSlice S64x512 _ z sl) c s (ix2 d p) = _
  rw [ropeB_at]
  unfold iquery
  have e : ∀ k : Fin 64, extractStridedSlice S64x512 ![768 + 64 * h.val, 0] z sl (ix2 k p) = z (ix2 ⟨768 + 64 * h + k, by omega⟩ p) := fun k => by
    pointwise []
  simp only [e]

end Cert.Proj

end
-- ==== Proof.ProjBlock.lean ====
module

public import proofs.«01_k».proof.Proof.ProjCore

@[expose] public section

noncomputable section

namespace Cert.Proj

open Idealize.ShloMosaic Cert.Kernel3Ideal Cert.Kernel3Ideal.Gen

variable (z : FVec Ideal S1352x512 .f32) (c s : FVec Ideal S32x512 .f32) (g : FVec Ideal S64x1 .f32)

/-- The block of queries: 4 blocks of 128 positions, each head's 64 depths in the upper half of the rows for the first four heads
    and in the lower half for the other four, zeros elsewhere. -/
def Qblk : S1x4x128x1024.Idx → EReal := fun y =>
  if (y 2).val / 64 = (y 3).val / 128 / 4 then
    query z c s g ⟨(y 3).val / 128, by have h : (y 3).val < 1024 := (y 3).isLt; omega⟩ ⟨(y 2).val % 64, by omega⟩ ⟨128 * (y 1).val + (y 3).val % 128, by have h : (y 1).val < 4 := (y 1).isLt; omega⟩
  else 0

/-- The block of index queries: 4 blocks of 128 positions, each head's 64 depths in the upper half of the rows, zeros below. -/
def Iblk : S1x4x128x1024.Idx → EReal := fun y =>
  if (y 2).val / 64 = 0 then
    iquery z c s ⟨(y 3).val / 128, by have h : (y 3).val < 1024 := (y 3).isLt; omega⟩ ⟨(y 2).val % 64, by omega⟩ ⟨128 * (y 1).val + (y 3).val % 128, by have h : (y 1).val < 4 := (y 1).isLt; omega⟩
  else 0

/-- The 128 columns a store takes of a head start within its 512. -/
theorem cell_slices (j : Fin 4) : S64x512.Slices ![0, 128 * j.val] S64x128 := by fin_cases j <;> first | exact slices_S64x512_o0_0_S64x128 | exact slices_S64x512_o0_128_S64x128 | exact slices_S64x512_o0_256_S64x128 | exact slices_S64x512_o0_384_S64x128

/-- A store's 128 columns of a head. -/
def cell (V : FVec Ideal S64x512 .bf16) (j : Fin 4) : FVec Ideal S1x1x64x128 .bf16 :=
  shapeCast S1x1x64x128 (extractStridedSlice S64x128 ![0, 128 * j.val] V (cell_slices j)) shapeCasts_S64x128_S1x1x64x128

/-- A store's columns, at an element. -/
theorem cell_at (V : FVec Ideal S64x512 .bf16) (j : Fin 4) (d : Fin 64) (p : Fin 128) :
    cell V j (ix4 0 0 d p) = V (ix2 d ⟨128 * j + p, by omega⟩) := by
  unfold cell
  pointwise []

/-- A store's columns, at an index. -/
theorem cell_apply (V : FVec Ideal S64x512 .bf16) (j : Fin 4) (x : S1x1x64x128.Idx) (h2 : (x 2).val < 64) (h3 : (x 3).val < 128) :
    cell V j x = V (ix2 ⟨(x 2).val, h2⟩ ⟨128 * j + (x 3).val, by omega⟩) :=
  (congrArg (cell V j) ((eq_ix4 x).trans (by congr 1 <;> exact Subsingleton.elim (α := Fin 1) _ _))).trans (cell_at V j ⟨(x 2).val, h2⟩ ⟨(x 3).val, h3⟩)

/-- A store of a query head is the block there. -/
theorem qpiece (h : Fin 8) (j : Fin 4) (off : Fin 4 → ℕ) (inb : ∀ a, off a + S1x1x64x128.size a ≤ S1x4x128x1024.size a)
    (h1 : off 1 = j.val) (h2 : off 2 = 64 * (h.val / 4)) (h3 : off 3 = 128 * h.val) (V : FVec Ideal S64x512 .bf16)
    (hV : ∀ d p, V (ix2 d p) = query z c s g h d p) (x : S1x1x64x128.Idx) :
    cell V j x = Qblk z c s g ((Rect.unit (s := S1x4x128x1024) off S1x1x64x128.size inb).emb x) := by
  have x1 : (x 1).val < 1 := (x 1).isLt
  have x2 : (x 2).val < 64 := (x 2).isLt
  have x3 : (x 3).val < 128 := (x 3).isLt
  unfold Qblk
  have e1 : (((Rect.unit (s := S1x4x128x1024) off S1x1x64x128.size inb).emb x) 1).val = off 1 + 1 * (x 1).val := rfl
  have e2 : (((Rect.unit (s := S1x4x128x1024) off S1x1x64x128.size inb).emb x) 2).val = off 2 + 1 * (x 2).val := rfl
  have e3 : (((Rect.unit (s := S1x4x128x1024) off S1x1x64x128.size inb).emb x) 3).val = off 3 + 1 * (x 3).val := rfl
  rw [if_pos (by rw [e2, e3]; omega), cell_apply V j x x2 x3, hV]
  congr 1 <;> apply Fin.ext <;> dsimp only
  · rw [e3]; omega
  · rw [e2]; omega
  · rw [e1, e3]; omega

/-- A store of zeros beside the queries is the block there. -/
theorem qnone (h : Fin 8) (off : Fin 4 → ℕ) (inb : ∀ a, off a + S1x1x64x128.size a ≤ S1x4x128x1024.size a)
    (h2 : off 2 = 64 * (1 - h.val / 4)) (h3 : off 3 = 128 * h.val) (x : S1x1x64x128.Idx) :
    shapeCast S1x1x64x128 (k0_pay10 (F := Ideal)) shapeCasts_S64x128_S1x1x64x128 x = Qblk z c s g ((Rect.unit (s := S1x4x128x1024) off S1x1x64x128.size inb).emb x) := by
  have x2 : (x 2).val < 64 := (x 2).isLt
  have x3 : (x 3).val < 128 := (x 3).isLt
  unfold Qblk
  have e2 : (((Rect.unit (s := S1x4x128x1024) off S1x1x64x128.size inb).emb x) 2).val = off 2 + 1 * (x 2).val := rfl
  have e3 : (((Rect.unit (s := S1x4x128x1024) off S1x1x64x128.size inb).emb x) 3).val = off 3 + 1 * (x 3).val := rfl
  rw [if_neg (by rw [e2, e3]; omega)]
  show Ideal.ofBits .bf16 0x0000#16 = 0
  simp [Ideal.ofBits, Ideal.ieee]

/-- A store of an index query head is the block there. -/
theorem ipiece (h : Fin 8) (j : Fin 4) (off : Fin 4 → ℕ) (inb : ∀ a, off a + S1x1x64x128.size a ≤ S1x4x128x1024.size a)
    (h1 : off 1 = j.val) (h2 : off 2 = 0) (h3 : off 3 = 128 * h.val) (V : FVec Ideal S64x512 .bf16)
    (hV : ∀ d p, V (ix2 d p) = iquery z c s h d p) (x : S1x1x64x128.Idx) :
    cell V j x = Iblk z c s ((Rect.unit (s := S1x4x128x1024) off S1x1x64x128.size inb).emb x) := by
  have x1 : (x 1).val < 1 := (x 1).isLt
  have x2 : (x 2).val < 64 := (x 2).isLt
  have x3 : (x 3).val < 128 := (x 3).isLt
  unfold Iblk
  have e1 : (((Rect.unit (s := S1x4x128x1024) off S1x1x64x128.size inb).emb x) 1).val = off 1 + 1 * (x 1).val := rfl
  have e2 : (((Rect.unit (s := S1x4x128x1024) off S1x1x64x128.size inb).emb x) 2).val = off 2 + 1 * (x 2).val := rfl
  have e3 : (((Rect.unit (s := S1x4x128x1024) off S1x1x64x128.size inb).emb x) 3).val = off 3 + 1 * (x 3).val := rfl
  rw [if_pos (by rw [e2]; omega), cell_apply V j x x2 x3, hV]
  congr 1 <;> apply Fin.ext <;> dsimp only
  · rw [e3]; omega
  · rw [e2]; omega
  · rw [e1, e3]; omega

/-- A store of zeros below the index queries is the block there. -/
theorem inone (h : Fin 8) (off : Fin 4 → ℕ) (inb : ∀ a, off a + S1x1x64x128.size a ≤ S1x4x128x1024.size a)
    (h2 : off 2 = 64) (h3 : off 3 = 128 * h.val) (x : S1x1x64x128.Idx) :
    shapeCast S1x1x64x128 (k0_pay10 (F := Ideal)) shapeCasts_S64x128_S1x1x64x128 x = Iblk z c s ((Rect.unit (s := S1x4x128x1024) off S1x1x64x128.size inb).emb x) := by
  have x2 : (x 2).val < 64 := (x 2).isLt
  unfold Iblk
  have e2 : (((Rect.unit (s := S1x4x128x1024) off S1x1x64x128.size inb).emb x) 2).val = off 2 + 1 * (x 2).val := rfl
  rw [if_neg (by rw [e2]; omega)]
  show Ideal.ofBits .bf16 0x0000#16 = 0
  simp [Ideal.ofBits, Ideal.ieee]

/-- Query head 0 of the block is its rows normalised, turned and scaled. -/
theorem qhead0 (d : Fin 64) (p : Fin 512) : (k0_pay11 z c s g : FVec Ideal S64x512 .bf16) (ix2 d p) = query z c s g 0 d p :=
  (congrFun (show (k0_pay11 z c s g : FVec Ideal S64x512 .bf16) = scaleB (ropeB (normB (extractStridedSlice S64x512 ![0, 0] z slices_S1352x512_o0_0_S64x512) g) c s) from rfl) _).trans
    (query_at z c s g 0 _ rfl _ d p)

/-- Query head 1 of the block is its rows normalised, turned and scaled. -/
theorem qhead1 (d : Fin 64) (p : Fin 512) : (k0_pay22 c s (k0_pay20 z g) (k0_pay21 z g) : FVec Ideal S64x512 .bf16) (ix2 d p) = query z c s g 1 d p :=
  (congrFun (show (k0_pay22 c s (k0_pay20 z g) (k0_pay21 z g) : FVec Ideal S64x512 .bf16) = scaleB (ropeB (normB (extractStridedSlice S64x512 ![64, 0] z slices_S1352x512_o64_0_S64x512) g) c s) from rfl) _).trans
    (query_at z c s g 1 _ rfl _ d p)

/-- Query head 2 of the block is its rows normalised, turned and scaled. -/
theorem qhead2 (d : Fin 64) (p : Fin 512) : (k0_pay31 z c s g : FVec Ideal S64x512 .bf16) (ix2 d p) = query z c s g 2 d p :=
  (congrFun (show (k0_pay31 z c s g : FVec Ideal S64x512 .bf16) = scaleB (ropeB (normB (extractStridedSlice S64x512 ![128, 0] z slices_S1352x512_o128_0_S64x512) g) c s) from rfl) _).trans
    (query_at z c s g 2 _ rfl _ d p)

/-- Query head 3 of the block is its rows normalised, turned and scaled. -/
theorem qhead3 (d : Fin 64) (p : Fin 512) : (k0_pay42 c s g (k0_pay40 z) (k0_pay41 z) : FVec Ideal S64x512 .bf16) (ix2 d p) = query z c s g 3 d p :=
  (congrFun (show (k0_pay42 c s g (k0_pay40 z) (k0_pay41 z) : FVec Ideal S64x512 .bf16) = scaleB (ropeB (normB (extractStridedSlice S64x512 ![192, 0] z slices_S1352x512_o192_0_S64x512) g) c s) from rfl) _).trans
    (query_at z c s g 3 _ rfl _ d p)

/-- Query head 4 of the block is its rows normalised, turned and scaled. -/
theorem qhead4 (d : Fin 64) (p : Fin 512) : (k0_pay52 (k0_pay51 z c s g) (Named.named κ "qscale" 0x3E38AA3B#32) : FVec Ideal S64x512 .bf16) (ix2 d p) = query z c s g 4 d p :=
  (congrFun (show (k0_pay52 (k0_pay51 z c s g) (Named.named κ "qscale" 0x3E38AA3B#32) : FVec Ideal S64x512 .bf16) = scaleB (ropeB (normB (extractStridedSlice S64x512 ![256, 0] z slices_S1352x512_o256_0_S64x512) g) c s) from rfl) _).trans
    (query_at z c s g 4 _ rfl _ d p)

/-- Query head 5 of the block is its rows normalised, turned and scaled. -/
theorem qhead5 (d : Fin 64) (p : Fin 512) : (k0_pay62 z c s g : FVec Ideal S64x512 .bf16) (ix2 d p) = query z c s g 5 d p :=
  (congrFun (show (k0_pay62 z c s g : FVec Ideal S64x512 .bf16) = scaleB (ropeB (normB (extractStridedSlice S64x512 ![320, 0] z slices_S1352x512_o320_0_S64x512) g) c s) from rfl) _).trans
    (query_at z c s g 5 _ rfl _ d p)

/-- Query head 6 of the block is its rows normalised, turned and scaled. -/
theorem qhead6 (d : Fin 64) (p : Fin 512) : (k0_pay74 c s g (k0_pay72 z) (k0_pay73 z) : FVec Ideal S64x512 .bf16) (ix2 d p) = query z c s g 6 d p :=
  (congrFun (show (k0_pay74 c s g (k0_pay72 z) (k0_pay73 z) : FVec Ideal S64x512 .bf16) = scaleB (ropeB (normB (extractStridedSlice S64x512 ![384, 0] z slices_S1352x512_o384_0_S64x512) g) c s) from rfl) _).trans
    (query_at z c s g 6 _ rfl _ d p)

/-- Query head 7 of the block is its rows normalised, turned and scaled. -/
theorem qhead7 (d : Fin 64) (p : Fin 512) : (k0_pay83 z c s g : FVec Ideal S64x512 .bf16) (ix2 d p) = query z c s g 7 d p :=
  (congrFun (show (k0_pay83 z c s g : FVec Ideal S64x512 .bf16) = scaleB (ropeB (normB (extractStridedSlice S64x512 ![448, 0] z slices_S1352x512_o448_0_S64x512) g) c s) from rfl) _).trans
    (query_at z c s g 7 _ rfl _ d p)

/-- Index query head 0 of the block is its rows turned. -/
theorem ihead0 (d : Fin 64) (p : Fin 512) : (k0_pay96 z c s : FVec Ideal S64x512 .bf16) (ix2 d p) = iquery z c s 0 d p :=
  (congrFun (show (k0_pay96 z c s : FVec Ideal S64x512 .bf16) = truncf .bf16 (ropeB (extractStridedSlice S64x512 ![768, 0] z slices_S1352x512_o768_0_S64x512) c s) bitsLt_bf16_f32 from rfl) _).trans
    (iquery_at z c s 0 _ rfl _ d p)

/-- Index query head 1 of the block is its rows turned. -/
theorem ihead1 (d : Fin 64) (p : Fin 512) : (k0_pay106 z c s : FVec Ideal S64x512 .bf16) (ix2 d p) = iquery z c s 1 d p :=
  (congrFun (show (k0_pay106 z c s : FVec Ideal S64x512 .bf16) = truncf .bf16 (ropeB (extractStridedSlice S64x512 ![832, 0] z slices_S1352x512_o832_0_S64x512) c s) bitsLt_bf16_f32 from rfl) _).trans
    (iquery_at z c s 1 _ rfl _ d p)

/-- Index query head 2 of the block is its rows turned. -/
theorem ihead2 (d : Fin 64) (p : Fin 512) : (k0_pay116 z c s : FVec Ideal S64x512 .bf16) (ix2 d p) = iquery z c s 2 d p :=
  (congrFun (show (k0_pay116 z c s : FVec Ideal S64x512 .bf16) = truncf .bf16 (ropeB (extractStridedSlice S64x512 ![896, 0] z slices_S1352x512_o896_0_S64x512) c s) bitsLt_bf16_f32 from rfl) _).trans
    (iquery_at z c s 2 _ rfl _ d p)

/-- Index query head 3 of the block is its rows turned. -/
theorem ihead3 (d : Fin 64) (p : Fin 512) : (k0_pay125 z c s : FVec Ideal S64x512 .bf16) (ix2 d p) = iquery z c s 3 d p :=
  (congrFun (show (k0_pay125 z c s : FVec Ideal S64x512 .bf16) = truncf .bf16 (ropeB (extractStridedSlice S64x512 ![960, 0] z slices_S1352x512_o960_0_S64x512) c s) bitsLt_bf16_f32 from rfl) _).trans
    (iquery_at z c s 3 _ rfl _ d p)

/-- Index query head 4 of the block is its rows turned. -/
theorem ihead4 (d : Fin 64) (p : Fin 512) : (k0_pay135 z c s : FVec Ideal S64x512 .bf16) (ix2 d p) = iquery z c s 4 d p :=
  (congrFun (show (k0_pay135 z c s : FVec Ideal S64x512 .bf16) = truncf .bf16 (ropeB (extractStridedSlice S64x512 ![1024, 0] z slices_S1352x512_o1024_0_S64x512) c s) bitsLt_bf16_f32 from rfl) _).trans
    (iquery_at z c s 4 _ rfl _ d p)

/-- Index query head 5 of the block is its rows turned. -/
theorem ihead5 (d : Fin 64) (p : Fin 512) : (k0_pay145 z c s : FVec Ideal S64x512 .bf16) (ix2 d p) = iquery z c s 5 d p :=
  (congrFun (show (k0_pay145 z c s : FVec Ideal S64x512 .bf16) = truncf .bf16 (ropeB (extractStridedSlice S64x512 ![1088, 0] z slices_S1352x512_o1088_0_S64x512) c s) bitsLt_bf16_f32 from rfl) _).trans
    (iquery_at z c s 5 _ rfl _ d p)

/-- Index query head 6 of the block is its rows turned. -/
theorem ihead6 (d : Fin 64) (p : Fin 512) : (k0_pay155 z c s : FVec Ideal S64x512 .bf16) (ix2 d p) = iquery z c s 6 d p :=
  (congrFun (show (k0_pay155 z c s : FVec Ideal S64x512 .bf16) = truncf .bf16 (ropeB (extractStridedSlice S64x512 ![1152, 0] z slices_S1352x512_o1152_0_S64x512) c s) bitsLt_bf16_f32 from rfl) _).trans
    (iquery_at z c s 6 _ rfl _ d p)

/-- Index query head 7 of the block is its rows turned. -/
theorem ihead7 (d : Fin 64) (p : Fin 512) : (k0_pay164 z c s : FVec Ideal S64x512 .bf16) (ix2 d p) = iquery z c s 7 d p :=
  (congrFun (show (k0_pay164 z c s : FVec Ideal S64x512 .bf16) = truncf .bf16 (ropeB (extractStridedSlice S64x512 ![1216, 0] z slices_S1352x512_o1216_0_S64x512) c s) bitsLt_bf16_f32 from rfl) _).trans
    (iquery_at z c s 7 _ rfl _ d p)

/-- The stores of the queries, one after the other, leave the block stated. -/
theorem qstores (y : S1x4x128x1024.Idx) : View.canon (⟨r0_70, k0_pay92 (k0_pay10 (F := Ideal))⟩ ::
    ⟨r0_69, k0_pay91 (k0_pay83 z c s g)⟩ ::
    ⟨r0_68, k0_pay90 (k0_pay10 (F := Ideal))⟩ ::
    ⟨r0_67, k0_pay89 (k0_pay83 z c s g)⟩ ::
    ⟨r0_66, k0_pay88 (k0_pay10 (F := Ideal))⟩ ::
    ⟨r0_65, k0_pay87 (k0_pay83 z c s g)⟩ ::
    ⟨r0_64, k0_pay86 (k0_pay10 (F := Ideal))⟩ ::
    ⟨r0_63, k0_pay85 (k0_pay84 z c s g)⟩ ::
    ⟨r0_62, k0_pay82 (k0_pay10 (F := Ideal))⟩ ::
    ⟨r0_61, k0_pay81 (k0_pay74 c s g (k0_pay72 z) (k0_pay73 z))⟩ ::
    ⟨r0_60, k0_pay80 (k0_pay10 (F := Ideal))⟩ ::
    ⟨r0_59, k0_pay79 c s g (k0_pay72 z) (k0_pay73 z)⟩ ::
    ⟨r0_58, k0_pay78 (k0_pay10 (F := Ideal))⟩ ::
    ⟨r0_57, k0_pay77 c s g (k0_pay72 z) (k0_pay73 z)⟩ ::
    ⟨r0_56, k0_pay76 (k0_pay10 (F := Ideal))⟩ ::
    ⟨r0_55, k0_pay75 c s g (k0_pay72 z) (k0_pay73 z)⟩ ::
    ⟨r0_54, k0_pay71 (k0_pay10 (F := Ideal))⟩ ::
    ⟨r0_53, k0_pay70 (k0_pay62 z c s g)⟩ ::
    ⟨r0_52, k0_pay69 (k0_pay10 (F := Ideal))⟩ ::
    ⟨r0_51, k0_pay68 (k0_pay62 z c s g)⟩ ::
    ⟨r0_50, k0_pay67 (k0_pay10 (F := Ideal))⟩ ::
    ⟨r0_49, k0_pay66 (k0_pay65 z c s g)⟩ ::
    ⟨r0_48, k0_pay64 (k0_pay10 (F := Ideal))⟩ ::
    ⟨r0_47, k0_pay63 z c s g⟩ ::
    ⟨r0_46, k0_pay61 (k0_pay10 (F := Ideal))⟩ ::
    ⟨r0_45, k0_pay60 (k0_pay59 (k0_pay51 z c s g) (Named.named κ "qscale" 0x3E38AA3B#32))⟩ ::
    ⟨r0_44, k0_pay58 (k0_pay10 (F := Ideal))⟩ ::
    ⟨r0_43, k0_pay57 (k0_pay51 z c s g) (Named.named κ "qscale" 0x3E38AA3B#32)⟩ ::
    ⟨r0_42, k0_pay56 (k0_pay10 (F := Ideal))⟩ ::
    ⟨r0_41, k0_pay55 (k0_pay51 z c s g) (Named.named κ "qscale" 0x3E38AA3B#32)⟩ ::
    ⟨r0_40, k0_pay54 (k0_pay10 (F := Ideal))⟩ ::
    ⟨r0_39, k0_pay53 (k0_pay51 z c s g) (Named.named κ "qscale" 0x3E38AA3B#32)⟩ ::
    ⟨r0_38, k0_pay50 (k0_pay10 (F := Ideal))⟩ ::
    ⟨r0_37, k0_pay49 (k0_pay42 c s g (k0_pay40 z) (k0_pay41 z))⟩ ::
    ⟨r0_36, k0_pay48 (k0_pay10 (F := Ideal))⟩ ::
    ⟨r0_35, k0_pay47 (k0_pay42 c s g (k0_pay40 z) (k0_pay41 z))⟩ ::
    ⟨r0_34, k0_pay46 (k0_pay10 (F := Ideal))⟩ ::
    ⟨r0_33, k0_pay45 c s g (k0_pay40 z) (k0_pay41 z)⟩ ::
    ⟨r0_32, k0_pay44 (k0_pay10 (F := Ideal))⟩ ::
    ⟨r0_31, k0_pay43 c s g (k0_pay40 z) (k0_pay41 z)⟩ ::
    ⟨r0_30, k0_pay39 (k0_pay10 (F := Ideal))⟩ ::
    ⟨r0_29, k0_pay38 (k0_pay31 z c s g)⟩ ::
    ⟨r0_28, k0_pay37 (k0_pay10 (F := Ideal))⟩ ::
    ⟨r0_27, k0_pay36 (k0_pay31 z c s g)⟩ ::
    ⟨r0_26, k0_pay35 (k0_pay10 (F := Ideal))⟩ ::
    ⟨r0_25, k0_pay34 (k0_pay31 z c s g)⟩ ::
    ⟨r0_24, k0_pay33 (k0_pay10 (F := Ideal))⟩ ::
    ⟨r0_23, k0_pay32 z c s g⟩ ::
    ⟨r0_22, k0_pay30 (k0_pay10 (F := Ideal))⟩ ::
    ⟨r0_21, k0_pay29 (k0_pay22 c s (k0_pay20 z g) (k0_pay21 z g))⟩ ::
    ⟨r0_20, k0_pay28 (k0_pay10 (F := Ideal))⟩ ::
    ⟨r0_19, k0_pay27 c s (k0_pay20 z g) (k0_pay21 z g)⟩ ::
    ⟨r0_18, k0_pay26 (k0_pay10 (F := Ideal))⟩ ::
    ⟨r0_17, k0_pay25 c s (k0_pay20 z g) (k0_pay21 z g)⟩ ::
    ⟨r0_16, k0_pay24 (k0_pay10 (F := Ideal))⟩ ::
    ⟨r0_15, k0_pay23 c s (k0_pay20 z g) (k0_pay21 z g)⟩ ::
    ⟨r0_14, k0_pay19 (k0_pay10 (F := Ideal))⟩ ::
    ⟨r0_13, k0_pay18 (k0_pay11 z c s g)⟩ ::
    ⟨r0_12, k0_pay17 (k0_pay10 (F := Ideal))⟩ ::
    ⟨r0_11, k0_pay16 (k0_pay11 z c s g)⟩ ::
    ⟨r0_10, k0_pay15 (k0_pay10 (F := Ideal))⟩ ::
    ⟨r0_9, k0_pay14 z c s g⟩ ::
    ⟨r0_8, k0_pay13 (F := Ideal)⟩ ::
    ⟨r0_7, k0_pay12 z c s g⟩ :: [] : List (View.Piece (Elt Ideal) S1x4x128x1024 .bf16)) y = Qblk z c s g y := by
  refine View.canon_apply_of_pieces (Val := Elt Ideal) (Qblk z c s g) _ ?_ y (cover0_8 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  intro pc hpc
  rcases List.mem_cons.mp hpc with rfl | hpc
  · exact fun x => qnone z c s g 7 ![0, 3, 0, 896] inb_S1x4x128x1024_S1x1x64x128_0_3_0_896 rfl rfl x
  rcases List.mem_cons.mp hpc with rfl | hpc
  · exact fun x => (congrFun (show k0_pay91 (k0_pay83 z c s g) = cell (k0_pay83 z c s g) 3 from rfl) x).trans (qpiece z c s g 7 3 ![0, 3, 64, 896] inb_S1x4x128x1024_S1x1x64x128_0_3_64_896 rfl rfl rfl _ (qhead7 z c s g) x)
  rcases List.mem_cons.mp hpc with rfl | hpc
  · exact fun x => qnone z c s g 7 ![0, 2, 0, 896] inb_S1x4x128x1024_S1x1x64x128_0_2_0_896 rfl rfl x
  rcases List.mem_cons.mp hpc with rfl | hpc
  · exact fun x => (congrFun (show k0_pay89 (k0_pay83 z c s g) = cell (k0_pay83 z c s g) 2 from rfl) x).trans (qpiece z c s g 7 2 ![0, 2, 64, 896] inb_S1x4x128x1024_S1x1x64x128_0_2_64_896 rfl rfl rfl _ (qhead7 z c s g) x)
  rcases List.mem_cons.mp hpc with rfl | hpc
  · exact fun x => qnone z c s g 7 ![0, 1, 0, 896] inb_S1x4x128x1024_S1x1x64x128_0_1_0_896 rfl rfl x
  rcases List.mem_cons.mp hpc with rfl | hpc
  · exact fun x => (congrFun (show k0_pay87 (k0_pay83 z c s g) = cell (k0_pay83 z c s g) 1 from rfl) x).trans (qpiece z c s g 7 1 ![0, 1, 64, 896] inb_S1x4x128x1024_S1x1x64x128_0_1_64_896 rfl rfl rfl _ (qhead7 z c s g) x)
  rcases List.mem_cons.mp hpc with rfl | hpc
  · exact fun x => qnone z c s g 7 ![0, 0, 0, 896] inb_S1x4x128x1024_S1x1x64x128_0_0_0_896 rfl rfl x
  rcases List.mem_cons.mp hpc with rfl | hpc
  · exact fun x => (congrFun (show k0_pay85 (k0_pay84 z c s g) = cell (k0_pay83 z c s g) 0 from rfl) x).trans (qpiece z c s g 7 0 ![0, 0, 64, 896] inb_S1x4x128x1024_S1x1x64x128_0_0_64_896 rfl rfl rfl _ (qhead7 z c s g) x)
  rcases List.mem_cons.mp hpc with rfl | hpc
  · exact fun x => qnone z c s g 6 ![0, 3, 0, 768] inb_S1x4x128x1024_S1x1x64x128_0_3_0_768 rfl rfl x
  rcases List.mem_cons.mp hpc with rfl | hpc
  · exact fun x => (congrFun (show k0_pay81 (k0_pay74 c s g (k0_pay72 z) (k0_pay73 z)) = cell (k0_pay74 c s g (k0_pay72 z) (k0_pay73 z)) 3 from rfl) x).trans (qpiece z c s g 6 3 ![0, 3, 64, 768] inb_S1x4x128x1024_S1x1x64x128_0_3_64_768 rfl rfl rfl _ (qhead6 z c s g) x)
  rcases List.mem_cons.mp hpc with rfl | hpc
  · exact fun x => qnone z c s g 6 ![0, 2, 0, 768] inb_S1x4x128x1024_S1x1x64x128_0_2_0_768 rfl rfl x
  rcases List.mem_cons.mp hpc with rfl | hpc
  · exact fun x => (congrFun (show k0_pay79 c s g (k0_pay72 z) (k0_pay73 z) = cell (k0_pay74 c s g (k0_pay72 z) (k0_pay73 z)) 2 from rfl) x).trans (qpiece z c s g 6 2 ![0, 2, 64, 768] inb_S1x4x128x1024_S1x1x64x128_0_2_64_768 rfl rfl rfl _ (qhead6 z c s g) x)
  rcases List.mem_cons.mp hpc with rfl | hpc
  · exact fun x => qnone z c s g 6 ![0, 1, 0, 768] inb_S1x4x128x1024_S1x1x64x128_0_1_0_768 rfl rfl x
  rcases List.mem_cons.mp hpc with rfl | hpc
  · exact fun x => (congrFun (show k0_pay77 c s g (k0_pay72 z) (k0_pay73 z) = cell (k0_pay74 c s g (k0_pay72 z) (k0_pay73 z)) 1 from rfl) x).trans (qpiece z c s g 6 1 ![0, 1, 64, 768] inb_S1x4x128x1024_S1x1x64x128_0_1_64_768 rfl rfl rfl _ (qhead6 z c s g) x)
  rcases List.mem_cons.mp hpc with rfl | hpc
  · exact fun x => qnone z c s g 6 ![0, 0, 0, 768] inb_S1x4x128x1024_S1x1x64x128_0_0_0_768 rfl rfl x
  rcases List.mem_cons.mp hpc with rfl | hpc
  · exact fun x => (congrFun (show k0_pay75 c s g (k0_pay72 z) (k0_pay73 z) = cell (k0_pay74 c s g (k0_pay72 z) (k0_pay73 z)) 0 from rfl) x).trans (qpiece z c s g 6 0 ![0, 0, 64, 768] inb_S1x4x128x1024_S1x1x64x128_0_0_64_768 rfl rfl rfl _ (qhead6 z c s g) x)
  rcases List.mem_cons.mp hpc with rfl | hpc
  · exact fun x => qnone z c s g 5 ![0, 3, 0, 640] inb_S1x4x128x1024_S1x1x64x128_0_3_0_640 rfl rfl x
  rcases List.mem_cons.mp hpc with rfl | hpc
  · exact fun x => (congrFun (show k0_pay70 (k0_pay62 z c s g) = cell (k0_pay62 z c s g) 3 from rfl) x).trans (qpiece z c s g 5 3 ![0, 3, 64, 640] inb_S1x4x128x1024_S1x1x64x128_0_3_64_640 rfl rfl rfl _ (qhead5 z c s g) x)
  rcases List.mem_cons.mp hpc with rfl | hpc
  · exact fun x => qnone z c s g 5 ![0, 2, 0, 640] inb_S1x4x128x1024_S1x1x64x128_0_2_0_640 rfl rfl x
  rcases List.mem_cons.mp hpc with rfl | hpc
  · exact fun x => (congrFun (show k0_pay68 (k0_pay62 z c s g) = cell (k0_pay62 z c s g) 2 from rfl) x).trans (qpiece z c s g 5 2 ![0, 2, 64, 640] inb_S1x4x128x1024_S1x1x64x128_0_2_64_640 rfl rfl rfl _ (qhead5 z c s g) x)
  rcases List.mem_cons.mp hpc with rfl | hpc
  · exact fun x => qnone z c s g 5 ![0, 1, 0, 640] inb_S1x4x128x1024_S1x1x64x128_0_1_0_640 rfl rfl x
  rcases List.mem_cons.mp hpc with rfl | hpc
  · exact fun x => (congrFun (show k0_pay66 (k0_pay65 z c s g) = cell (k0_pay62 z c s g) 1 from rfl) x).trans (qpiece z c s g 5 1 ![0, 1, 64, 640] inb_S1x4x128x1024_S1x1x64x128_0_1_64_640 rfl rfl rfl _ (qhead5 z c s g) x)
  rcases List.mem_cons.mp hpc with rfl | hpc
  · exact fun x => qnone z c s g 5 ![0, 0, 0, 640] inb_S1x4x128x1024_S1x1x64x128_0_0_0_640 rfl rfl x
  rcases List.mem_cons.mp hpc with rfl | hpc
  · exact fun x => (congrFun (show k0_pay63 z c s g = cell (k0_pay62 z c s g) 0 from rfl) x).trans (qpiece z c s g 5 0 ![0, 0, 64, 640] inb_S1x4x128x1024_S1x1x64x128_0_0_64_640 rfl rfl rfl _ (qhead5 z c s g) x)
  rcases List.mem_cons.mp hpc with rfl | hpc
  · exact fun x => qnone z c s g 4 ![0, 3, 0, 512] inb_S1x4x128x1024_S1x1x64x128_0_3_0_512 rfl rfl x
  rcases List.mem_cons.mp hpc with rfl | hpc
  · exact fun x => (congrFun (show k0_pay60 (k0_pay59 (k0_pay51 z c s g) (Named.named κ "qscale" 0x3E38AA3B#32)) = cell (k0_pay52 (k0_pay51 z c s g) (Named.named κ "qscale" 0x3E38AA3B#32)) 3 from rfl) x).trans (qpiece z c s g 4 3 ![0, 3, 64, 512] inb_S1x4x128x1024_S1x1x64x128_0_3_64_512 rfl rfl rfl _ (qhead4 z c s g) x)
  rcases List.mem_cons.mp hpc with rfl | hpc
  · exact fun x => qnone z c s g 4 ![0, 2, 0, 512] inb_S1x4x128x1024_S1x1x64x128_0_2_0_512 rfl rfl x
  rcases List.mem_cons.mp hpc with rfl | hpc
  · exact fun x => (congrFun (show k0_pay57 (k0_pay51 z c s g) (Named.named κ "qscale" 0x3E38AA3B#32) = cell (k0_pay52 (k0_pay51 z c s g) (Named.named κ "qscale" 0x3E38AA3B#32)) 2 from rfl) x).trans (qpiece z c s g 4 2 ![0, 2, 64, 512] inb_S1x4x128x1024_S1x1x64x128_0_2_64_512 rfl rfl rfl _ (qhead4 z c s g) x)
  rcases List.mem_cons.mp hpc with rfl | hpc
  · exact fun x => qnone z c s g 4 ![0, 1, 0, 512] inb_S1x4x128x1024_S1x1x64x128_0_1_0_512 rfl rfl x
  rcases List.mem_cons.mp hpc with rfl | hpc
  · exact fun x => (congrFun (show k0_pay55 (k0_pay51 z c s g) (Named.named κ "qscale" 0x3E38AA3B#32) = cell (k0_pay52 (k0_pay51 z c s g) (Named.named κ "qscale" 0x3E38AA3B#32)) 1 from rfl) x).trans (qpiece z c s g 4 1 ![0, 1, 64, 512] inb_S1x4x128x1024_S1x1x64x128_0_1_64_512 rfl rfl rfl _ (qhead4 z c s g) x)
  rcases List.mem_cons.mp hpc with rfl | hpc
  · exact fun x => qnone z c s g 4 ![0, 0, 0, 512] inb_S1x4x128x1024_S1x1x64x128_0_0_0_512 rfl rfl x
  rcases List.mem_cons.mp hpc with rfl | hpc
  · exact fun x => (congrFun (show k0_pay53 (k0_pay51 z c s g) (Named.named κ "qscale" 0x3E38AA3B#32) = cell (k0_pay52 (k0_pay51 z c s g) (Named.named κ "qscale" 0x3E38AA3B#32)) 0 from rfl) x).trans (qpiece z c s g 4 0 ![0, 0, 64, 512] inb_S1x4x128x1024_S1x1x64x128_0_0_64_512 rfl rfl rfl _ (qhead4 z c s g) x)
  rcases List.mem_cons.mp hpc with rfl | hpc
  · exact fun x => qnone z c s g 3 ![0, 3, 64, 384] inb_S1x4x128x1024_S1x1x64x128_0_3_64_384 rfl rfl x
  rcases List.mem_cons.mp hpc with rfl | hpc
  · exact fun x => (congrFun (show k0_pay49 (k0_pay42 c s g (k0_pay40 z) (k0_pay41 z)) = cell (k0_pay42 c s g (k0_pay40 z) (k0_pay41 z)) 3 from rfl) x).trans (qpiece z c s g 3 3 ![0, 3, 0, 384] inb_S1x4x128x1024_S1x1x64x128_0_3_0_384 rfl rfl rfl _ (qhead3 z c s g) x)
  rcases List.mem_cons.mp hpc with rfl | hpc
  · exact fun x => qnone z c s g 3 ![0, 2, 64, 384] inb_S1x4x128x1024_S1x1x64x128_0_2_64_384 rfl rfl x
  rcases List.mem_cons.mp hpc with rfl | hpc
  · exact fun x => (congrFun (show k0_pay47 (k0_pay42 c s g (k0_pay40 z) (k0_pay41 z)) = cell (k0_pay42 c s g (k0_pay40 z) (k0_pay41 z)) 2 from rfl) x).trans (qpiece z c s g 3 2 ![0, 2, 0, 384] inb_S1x4x128x1024_S1x1x64x128_0_2_0_384 rfl rfl rfl _ (qhead3 z c s g) x)
  rcases List.mem_cons.mp hpc with rfl | hpc
  · exact fun x => qnone z c s g 3 ![0, 1, 64, 384] inb_S1x4x128x1024_S1x1x64x128_0_1_64_384 rfl rfl x
  rcases List.mem_cons.mp hpc with rfl | hpc
  · exact fun x => (congrFun (show k0_pay45 c s g (k0_pay40 z) (k0_pay41 z) = cell (k0_pay42 c s g (k0_pay40 z) (k0_pay41 z)) 1 from rfl) x).trans (qpiece z c s g 3 1 ![0, 1, 0, 384] inb_S1x4x128x1024_S1x1x64x128_0_1_0_384 rfl rfl rfl _ (qhead3 z c s g) x)
  rcases List.mem_cons.mp hpc with rfl | hpc
  · exact fun x => qnone z c s g 3 ![0, 0, 64, 384] inb_S1x4x128x1024_S1x1x64x128_0_0_64_384 rfl rfl x
  rcases List.mem_cons.mp hpc with rfl | hpc
  · exact fun x => (congrFun (show k0_pay43 c s g (k0_pay40 z) (k0_pay41 z) = cell (k0_pay42 c s g (k0_pay40 z) (k0_pay41 z)) 0 from rfl) x).trans (qpiece z c s g 3 0 ![0, 0, 0, 384] inb_S1x4x128x1024_S1x1x64x128_0_0_0_384 rfl rfl rfl _ (qhead3 z c s g) x)
  rcases List.mem_cons.mp hpc with rfl | hpc
  · exact fun x => qnone z c s g 2 ![0, 3, 64, 256] inb_S1x4x128x1024_S1x1x64x128_0_3_64_256 rfl rfl x
  rcases List.mem_cons.mp hpc with rfl | hpc
  · exact fun x => (congrFun (show k0_pay38 (k0_pay31 z c s g) = cell (k0_pay31 z c s g) 3 from rfl) x).trans (qpiece z c s g 2 3 ![0, 3, 0, 256] inb_S1x4x128x1024_S1x1x64x128_0_3_0_256 rfl rfl rfl _ (qhead2 z c s g) x)
  rcases List.mem_cons.mp hpc with rfl | hpc
  · exact fun x => qnone z c s g 2 ![0, 2, 64, 256] inb_S1x4x128x1024_S1x1x64x128_0_2_64_256 rfl rfl x
  rcases List.mem_cons.mp hpc with rfl | hpc
  · exact fun x => (congrFun (show k0_pay36 (k0_pay31 z c s g) = cell (k0_pay31 z c s g) 2 from rfl) x).trans (qpiece z c s g 2 2 ![0, 2, 0, 256] inb_S1x4x128x1024_S1x1x64x128_0_2_0_256 rfl rfl rfl _ (qhead2 z c s g) x)
  rcases List.mem_cons.mp hpc with rfl | hpc
  · exact fun x => qnone z c s g 2 ![0, 1, 64, 256] inb_S1x4x128x1024_S1x1x64x128_0_1_64_256 rfl rfl x
  rcases List.mem_cons.mp hpc with rfl | hpc
  · exact fun x => (congrFun (show k0_pay34 (k0_pay31 z c s g) = cell (k0_pay31 z c s g) 1 from rfl) x).trans (qpiece z c s g 2 1 ![0, 1, 0, 256] inb_S1x4x128x1024_S1x1x64x128_0_1_0_256 rfl rfl rfl _ (qhead2 z c s g) x)
  rcases List.mem_cons.mp hpc with rfl | hpc
  · exact fun x => qnone z c s g 2 ![0, 0, 64, 256] inb_S1x4x128x1024_S1x1x64x128_0_0_64_256 rfl rfl x
  rcases List.mem_cons.mp hpc with rfl | hpc
  · exact fun x => (congrFun (show k0_pay32 z c s g = cell (k0_pay31 z c s g) 0 from rfl) x).trans (qpiece z c s g 2 0 ![0, 0, 0, 256] inb_S1x4x128x1024_S1x1x64x128_0_0_0_256 rfl rfl rfl _ (qhead2 z c s g) x)
  rcases List.mem_cons.mp hpc with rfl | hpc
  · exact fun x => qnone z c s g 1 ![0, 3, 64, 128] inb_S1x4x128x1024_S1x1x64x128_0_3_64_128 rfl rfl x
  rcases List.mem_cons.mp hpc with rfl | hpc
  · exact fun x => (congrFun (show k0_pay29 (k0_pay22 c s (k0_pay20 z g) (k0_pay21 z g)) = cell (k0_pay22 c s (k0_pay20 z g) (k0_pay21 z g)) 3 from rfl) x).trans (qpiece z c s g 1 3 ![0, 3, 0, 128] inb_S1x4x128x1024_S1x1x64x128_0_3_0_128 rfl rfl rfl _ (qhead1 z c s g) x)
  rcases List.mem_cons.mp hpc with rfl | hpc
  · exact fun x => qnone z c s g 1 ![0, 2, 64, 128] inb_S1x4x128x1024_S1x1x64x128_0_2_64_128 rfl rfl x
  rcases List.mem_cons.mp hpc with rfl | hpc
  · exact fun x => (congrFun (show k0_pay27 c s (k0_pay20 z g) (k0_pay21 z g) = cell (k0_pay22 c s (k0_pay20 z g) (k0_pay21 z g)) 2 from rfl) x).trans (qpiece z c s g 1 2 ![0, 2, 0, 128] inb_S1x4x128x1024_S1x1x64x128_0_2_0_128 rfl rfl rfl _ (qhead1 z c s g) x)
  rcases List.mem_cons.mp hpc with rfl | hpc
  · exact fun x => qnone z c s g 1 ![0, 1, 64, 128] inb_S1x4x128x1024_S1x1x64x128_0_1_64_128 rfl rfl x
  rcases List.mem_cons.mp hpc with rfl | hpc
  · exact fun x => (congrFun (show k0_pay25 c s (k0_pay20 z g) (k0_pay21 z g) = cell (k0_pay22 c s (k0_pay20 z g) (k0_pay21 z g)) 1 from rfl) x).trans (qpiece z c s g 1 1 ![0, 1, 0, 128] inb_S1x4x128x1024_S1x1x64x128_0_1_0_128 rfl rfl rfl _ (qhead1 z c s g) x)
  rcases List.mem_cons.mp hpc with rfl | hpc
  · exact fun x => qnone z c s g 1 ![0, 0, 64, 128] inb_S1x4x128x1024_S1x1x64x128_0_0_64_128 rfl rfl x
  rcases List.mem_cons.mp hpc with rfl | hpc
  · exact fun x => (congrFun (show k0_pay23 c s (k0_pay20 z g) (k0_pay21 z g) = cell (k0_pay22 c s (k0_pay20 z g) (k0_pay21 z g)) 0 from rfl) x).trans (qpiece z c s g 1 0 ![0, 0, 0, 128] inb_S1x4x128x1024_S1x1x64x128_0_0_0_128 rfl rfl rfl _ (qhead1 z c s g) x)
  rcases List.mem_cons.mp hpc with rfl | hpc
  · exact fun x => qnone z c s g 0 ![0, 3, 64, 0] inb_S1x4x128x1024_S1x1x64x128_0_3_64_0 rfl rfl x
  rcases List.mem_cons.mp hpc with rfl | hpc
  · exact fun x => (congrFun (show k0_pay18 (k0_pay11 z c s g) = cell (k0_pay11 z c s g) 3 from rfl) x).trans (qpiece z c s g 0 3 ![0, 3, 0, 0] inb_S1x4x128x1024_S1x1x64x128_0_3_0_0 rfl rfl rfl _ (qhead0 z c s g) x)
  rcases List.mem_cons.mp hpc with rfl | hpc
  · exact fun x => qnone z c s g 0 ![0, 2, 64, 0] inb_S1x4x128x1024_S1x1x64x128_0_2_64_0 rfl rfl x
  rcases List.mem_cons.mp hpc with rfl | hpc
  · exact fun x => (congrFun (show k0_pay16 (k0_pay11 z c s g) = cell (k0_pay11 z c s g) 2 from rfl) x).trans (qpiece z c s g 0 2 ![0, 2, 0, 0] inb_S1x4x128x1024_S1x1x64x128_0_2_0_0 rfl rfl rfl _ (qhead0 z c s g) x)
  rcases List.mem_cons.mp hpc with rfl | hpc
  · exact fun x => qnone z c s g 0 ![0, 1, 64, 0] inb_S1x4x128x1024_S1x1x64x128_0_1_64_0 rfl rfl x
  rcases List.mem_cons.mp hpc with rfl | hpc
  · exact fun x => (congrFun (show k0_pay14 z c s g = cell (k0_pay11 z c s g) 1 from rfl) x).trans (qpiece z c s g 0 1 ![0, 1, 0, 0] inb_S1x4x128x1024_S1x1x64x128_0_1_0_0 rfl rfl rfl _ (qhead0 z c s g) x)
  rcases List.mem_cons.mp hpc with rfl | hpc
  · exact fun x => qnone z c s g 0 ![0, 0, 64, 0] inb_S1x4x128x1024_S1x1x64x128_0_0_64_0 rfl rfl x
  rcases List.mem_cons.mp hpc with rfl | hpc
  · exact fun x => (congrFun (show k0_pay12 z c s g = cell (k0_pay11 z c s g) 0 from rfl) x).trans (qpiece z c s g 0 0 ![0, 0, 0, 0] inb_S1x4x128x1024_S1x1x64x128_0_0_0_0 rfl rfl rfl _ (qhead0 z c s g) x)
  nomatch hpc

/-- The stores of the index queries, one after the other, leave the block stated. -/
theorem istores (y : S1x4x128x1024.Idx) : View.canon (⟨r0_69, k0_pay172 (k0_pay10 (F := Ideal))⟩ ::
    ⟨r0_70, k0_pay171 (k0_pay164 z c s)⟩ ::
    ⟨r0_67, k0_pay170 (k0_pay10 (F := Ideal))⟩ ::
    ⟨r0_68, k0_pay169 (k0_pay164 z c s)⟩ ::
    ⟨r0_65, k0_pay168 (k0_pay10 (F := Ideal))⟩ ::
    ⟨r0_66, k0_pay167 z c s⟩ ::
    ⟨r0_63, k0_pay166 (k0_pay10 (F := Ideal))⟩ ::
    ⟨r0_64, k0_pay165 z c s⟩ ::
    ⟨r0_61, k0_pay163 (k0_pay10 (F := Ideal))⟩ ::
    ⟨r0_62, k0_pay162 (k0_pay155 z c s)⟩ ::
    ⟨r0_59, k0_pay161 (k0_pay10 (F := Ideal))⟩ ::
    ⟨r0_60, k0_pay160 z c s⟩ ::
    ⟨r0_57, k0_pay159 (k0_pay10 (F := Ideal))⟩ ::
    ⟨r0_58, k0_pay158 z c s⟩ ::
    ⟨r0_55, k0_pay157 (k0_pay10 (F := Ideal))⟩ ::
    ⟨r0_56, k0_pay156 z c s⟩ ::
    ⟨r0_53, k0_pay154 (k0_pay10 (F := Ideal))⟩ ::
    ⟨r0_54, k0_pay153 (k0_pay145 z c s)⟩ ::
    ⟨r0_51, k0_pay152 (k0_pay10 (F := Ideal))⟩ ::
    ⟨r0_52, k0_pay151 (k0_pay145 z c s)⟩ ::
    ⟨r0_49, k0_pay150 (k0_pay10 (F := Ideal))⟩ ::
    ⟨r0_50, k0_pay149 (k0_pay145 z c s)⟩ ::
    ⟨r0_47, k0_pay148 (k0_pay10 (F := Ideal))⟩ ::
    ⟨r0_48, k0_pay147 (k0_pay146 z c s)⟩ ::
    ⟨r0_45, k0_pay144 (k0_pay10 (F := Ideal))⟩ ::
    ⟨r0_46, k0_pay143 (k0_pay135 z c s)⟩ ::
    ⟨r0_43, k0_pay142 (k0_pay10 (F := Ideal))⟩ ::
    ⟨r0_44, k0_pay141 (k0_pay135 z c s)⟩ ::
    ⟨r0_41, k0_pay140 (k0_pay10 (F := Ideal))⟩ ::
    ⟨r0_42, k0_pay139 (k0_pay138 z c s)⟩ ::
    ⟨r0_39, k0_pay137 (k0_pay10 (F := Ideal))⟩ ::
    ⟨r0_40, k0_pay136 z c s⟩ ::
    ⟨r0_38, k0_pay134 (k0_pay10 (F := Ideal))⟩ ::
    ⟨r0_37, k0_pay133 (k0_pay125 z c s)⟩ ::
    ⟨r0_36, k0_pay132 (k0_pay10 (F := Ideal))⟩ ::
    ⟨r0_35, k0_pay131 (k0_pay130 z c s)⟩ ::
    ⟨r0_34, k0_pay129 (k0_pay10 (F := Ideal))⟩ ::
    ⟨r0_33, k0_pay128 z c s⟩ ::
    ⟨r0_32, k0_pay127 (k0_pay10 (F := Ideal))⟩ ::
    ⟨r0_31, k0_pay126 z c s⟩ ::
    ⟨r0_30, k0_pay124 (k0_pay10 (F := Ideal))⟩ ::
    ⟨r0_29, k0_pay123 (k0_pay116 z c s)⟩ ::
    ⟨r0_28, k0_pay122 (k0_pay10 (F := Ideal))⟩ ::
    ⟨r0_27, k0_pay121 (k0_pay116 z c s)⟩ ::
    ⟨r0_26, k0_pay120 (k0_pay10 (F := Ideal))⟩ ::
    ⟨r0_25, k0_pay119 (k0_pay116 z c s)⟩ ::
    ⟨r0_24, k0_pay118 (k0_pay10 (F := Ideal))⟩ ::
    ⟨r0_23, k0_pay117 (k0_pay116 z c s)⟩ ::
    ⟨r0_22, k0_pay115 (k0_pay10 (F := Ideal))⟩ ::
    ⟨r0_21, k0_pay114 (k0_pay106 z c s)⟩ ::
    ⟨r0_20, k0_pay113 (k0_pay10 (F := Ideal))⟩ ::
    ⟨r0_19, k0_pay112 (k0_pay106 z c s)⟩ ::
    ⟨r0_18, k0_pay111 (k0_pay10 (F := Ideal))⟩ ::
    ⟨r0_17, k0_pay110 (k0_pay109 z c s)⟩ ::
    ⟨r0_16, k0_pay108 (k0_pay10 (F := Ideal))⟩ ::
    ⟨r0_15, k0_pay107 z c s⟩ ::
    ⟨r0_14, k0_pay105 (k0_pay10 (F := Ideal))⟩ ::
    ⟨r0_13, k0_pay104 (k0_pay96 z c s)⟩ ::
    ⟨r0_12, k0_pay103 (k0_pay10 (F := Ideal))⟩ ::
    ⟨r0_11, k0_pay102 (k0_pay101 z c s)⟩ ::
    ⟨r0_10, k0_pay100 (k0_pay10 (F := Ideal))⟩ ::
    ⟨r0_9, k0_pay99 z c s⟩ ::
    ⟨r0_8, k0_pay98 (k0_pay10 (F := Ideal))⟩ ::
    ⟨r0_7, k0_pay97 z c s⟩ :: [] : List (View.Piece (Elt Ideal) S1x4x128x1024 .bf16)) y = Iblk z c s y := by
  refine View.canon_apply_of_pieces (Val := Elt Ideal) (Iblk z c s) _ ?_ y (cover0_11 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  intro pc hpc
  rcases List.mem_cons.mp hpc with rfl | hpc
  · exact fun x => inone z c s 7 ![0, 3, 64, 896] inb_S1x4x128x1024_S1x1x64x128_0_3_64_896 rfl rfl x
  rcases List.mem_cons.mp hpc with rfl | hpc
  · exact fun x => (congrFun (show k0_pay171 (k0_pay164 z c s) = cell (k0_pay164 z c s) 3 from rfl) x).trans (ipiece z c s 7 3 ![0, 3, 0, 896] inb_S1x4x128x1024_S1x1x64x128_0_3_0_896 rfl rfl rfl _ (ihead7 z c s) x)
  rcases List.mem_cons.mp hpc with rfl | hpc
  · exact fun x => inone z c s 7 ![0, 2, 64, 896] inb_S1x4x128x1024_S1x1x64x128_0_2_64_896 rfl rfl x
  rcases List.mem_cons.mp hpc with rfl | hpc
  · exact fun x => (congrFun (show k0_pay169 (k0_pay164 z c s) = cell (k0_pay164 z c s) 2 from rfl) x).trans (ipiece z c s 7 2 ![0, 2, 0, 896] inb_S1x4x128x1024_S1x1x64x128_0_2_0_896 rfl rfl rfl _ (ihead7 z c s) x)
  rcases List.mem_cons.mp hpc with rfl | hpc
  · exact fun x => inone z c s 7 ![0, 1, 64, 896] inb_S1x4x128x1024_S1x1x64x128_0_1_64_896 rfl rfl x
  rcases List.mem_cons.mp hpc with rfl | hpc
  · exact fun x => (congrFun (show k0_pay167 z c s = cell (k0_pay164 z c s) 1 from rfl) x).trans (ipiece z c s 7 1 ![0, 1, 0, 896] inb_S1x4x128x1024_S1x1x64x128_0_1_0_896 rfl rfl rfl _ (ihead7 z c s) x)
  rcases List.mem_cons.mp hpc with rfl | hpc
  · exact fun x => inone z c s 7 ![0, 0, 64, 896] inb_S1x4x128x1024_S1x1x64x128_0_0_64_896 rfl rfl x
  rcases List.mem_cons.mp hpc with rfl | hpc
  · exact fun x => (congrFun (show k0_pay165 z c s = cell (k0_pay164 z c s) 0 from rfl) x).trans (ipiece z c s 7 0 ![0, 0, 0, 896] inb_S1x4x128x1024_S1x1x64x128_0_0_0_896 rfl rfl rfl _ (ihead7 z c s) x)
  rcases List.mem_cons.mp hpc with rfl | hpc
  · exact fun x => inone z c s 6 ![0, 3, 64, 768] inb_S1x4x128x1024_S1x1x64x128_0_3_64_768 rfl rfl x
  rcases List.mem_cons.mp hpc with rfl | hpc
  · exact fun x => (congrFun (show k0_pay162 (k0_pay155 z c s) = cell (k0_pay155 z c s) 3 from rfl) x).trans (ipiece z c s 6 3 ![0, 3, 0, 768] inb_S1x4x128x1024_S1x1x64x128_0_3_0_768 rfl rfl rfl _ (ihead6 z c s) x)
  rcases List.mem_cons.mp hpc with rfl | hpc
  · exact fun x => inone z c s 6 ![0, 2, 64, 768] inb_S1x4x128x1024_S1x1x64x128_0_2_64_768 rfl rfl x
  rcases List.mem_cons.mp hpc with rfl | hpc
  · exact fun x => (congrFun (show k0_pay160 z c s = cell (k0_pay155 z c s) 2 from rfl) x).trans (ipiece z c s 6 2 ![0, 2, 0, 768] inb_S1x4x128x1024_S1x1x64x128_0_2_0_768 rfl rfl rfl _ (ihead6 z c s) x)
  rcases List.mem_cons.mp hpc with rfl | hpc
  · exact fun x => inone z c s 6 ![0, 1, 64, 768] inb_S1x4x128x1024_S1x1x64x128_0_1_64_768 rfl rfl x
  rcases List.mem_cons.mp hpc with rfl | hpc
  · exact fun x => (congrFun (show k0_pay158 z c s = cell (k0_pay155 z c s) 1 from rfl) x).trans (ipiece z c s 6 1 ![0, 1, 0, 768] inb_S1x4x128x1024_S1x1x64x128_0_1_0_768 rfl rfl rfl _ (ihead6 z c s) x)
  rcases List.mem_cons.mp hpc with rfl | hpc
  · exact fun x => inone z c s 6 ![0, 0, 64, 768] inb_S1x4x128x1024_S1x1x64x128_0_0_64_768 rfl rfl x
  rcases List.mem_cons.mp hpc with rfl | hpc
  · exact fun x => (congrFun (show k0_pay156 z c s = cell (k0_pay155 z c s) 0 from rfl) x).trans (ipiece z c s 6 0 ![0, 0, 0, 768] inb_S1x4x128x1024_S1x1x64x128_0_0_0_768 rfl rfl rfl _ (ihead6 z c s) x)
  rcases List.mem_cons.mp hpc with rfl | hpc
  · exact fun x => inone z c s 5 ![0, 3, 64, 640] inb_S1x4x128x1024_S1x1x64x128_0_3_64_640 rfl rfl x
  rcases List.mem_cons.mp hpc with rfl | hpc
  · exact fun x => (congrFun (show k0_pay153 (k0_pay145 z c s) = cell (k0_pay145 z c s) 3 from rfl) x).trans (ipiece z c s 5 3 ![0, 3, 0, 640] inb_S1x4x128x1024_S1x1x64x128_0_3_0_640 rfl rfl rfl _ (ihead5 z c s) x)
  rcases List.mem_cons.mp hpc with rfl | hpc
  · exact fun x => inone z c s 5 ![0, 2, 64, 640] inb_S1x4x128x1024_S1x1x64x128_0_2_64_640 rfl rfl x
  rcases List.mem_cons.mp hpc with rfl | hpc
  · exact fun x => (congrFun (show k0_pay151 (k0_pay145 z c s) = cell (k0_pay145 z c s) 2 from rfl) x).trans (ipiece z c s 5 2 ![0, 2, 0, 640] inb_S1x4x128x1024_S1x1x64x128_0_2_0_640 rfl rfl rfl _ (ihead5 z c s) x)
  rcases List.mem_cons.mp hpc with rfl | hpc
  · exact fun x => inone z c s 5 ![0, 1, 64, 640] inb_S1x4x128x1024_S1x1x64x128_0_1_64_640 rfl rfl x
  rcases List.mem_cons.mp hpc with rfl | hpc
  · exact fun x => (congrFun (show k0_pay149 (k0_pay145 z c s) = cell (k0_pay145 z c s) 1 from rfl) x).trans (ipiece z c s 5 1 ![0, 1, 0, 640] inb_S1x4x128x1024_S1x1x64x128_0_1_0_640 rfl rfl rfl _ (ihead5 z c s) x)
  rcases List.mem_cons.mp hpc with rfl | hpc
  · exact fun x => inone z c s 5 ![0, 0, 64, 640] inb_S1x4x128x1024_S1x1x64x128_0_0_64_640 rfl rfl x
  rcases List.mem_cons.mp hpc with rfl | hpc
  · exact fun x => (congrFun (show k0_pay147 (k0_pay146 z c s) = cell (k0_pay145 z c s) 0 from rfl) x).trans (ipiece z c s 5 0 ![0, 0, 0, 640] inb_S1x4x128x1024_S1x1x64x128_0_0_0_640 rfl rfl rfl _ (ihead5 z c s) x)
  rcases List.mem_cons.mp hpc with rfl | hpc
  · exact fun x => inone z c s 4 ![0, 3, 64, 512] inb_S1x4x128x1024_S1x1x64x128_0_3_64_512 rfl rfl x
  rcases List.mem_cons.mp hpc with rfl | hpc
  · exact fun x => (congrFun (show k0_pay143 (k0_pay135 z c s) = cell (k0_pay135 z c s) 3 from rfl) x).trans (ipiece z c s 4 3 ![0, 3, 0, 512] inb_S1x4x128x1024_S1x1x64x128_0_3_0_512 rfl rfl rfl _ (ihead4 z c s) x)
  rcases List.mem_cons.mp hpc with rfl | hpc
  · exact fun x => inone z c s 4 ![0, 2, 64, 512] inb_S1x4x128x1024_S1x1x64x128_0_2_64_512 rfl rfl x
  rcases List.mem_cons.mp hpc with rfl | hpc
  · exact fun x => (congrFun (show k0_pay141 (k0_pay135 z c s) = cell (k0_pay135 z c s) 2 from rfl) x).trans (ipiece z c s 4 2 ![0, 2, 0, 512] inb_S1x4x128x1024_S1x1x64x128_0_2_0_512 rfl rfl rfl _ (ihead4 z c s) x)
  rcases List.mem_cons.mp hpc with rfl | hpc
  · exact fun x => inone z c s 4 ![0, 1, 64, 512] inb_S1x4x128x1024_S1x1x64x128_0_1_64_512 rfl rfl x
  rcases List.mem_cons.mp hpc with rfl | hpc
  · exact fun x => (congrFun (show k0_pay139 (k0_pay138 z c s) = cell (k0_pay135 z c s) 1 from rfl) x).trans (ipiece z c s 4 1 ![0, 1, 0, 512] inb_S1x4x128x1024_S1x1x64x128_0_1_0_512 rfl rfl rfl _ (ihead4 z c s) x)
  rcases List.mem_cons.mp hpc with rfl | hpc
  · exact fun x => inone z c s 4 ![0, 0, 64, 512] inb_S1x4x128x1024_S1x1x64x128_0_0_64_512 rfl rfl x
  rcases List.mem_cons.mp hpc with rfl | hpc
  · exact fun x => (congrFun (show k0_pay136 z c s = cell (k0_pay135 z c s) 0 from rfl) x).trans (ipiece z c s 4 0 ![0, 0, 0, 512] inb_S1x4x128x1024_S1x1x64x128_0_0_0_512 rfl rfl rfl _ (ihead4 z c s) x)
  rcases List.mem_cons.mp hpc with rfl | hpc
  · exact fun x => inone z c s 3 ![0, 3, 64, 384] inb_S1x4x128x1024_S1x1x64x128_0_3_64_384 rfl rfl x
  rcases List.mem_cons.mp hpc with rfl | hpc
  · exact fun x => (congrFun (show k0_pay133 (k0_pay125 z c s) = cell (k0_pay125 z c s) 3 from rfl) x).trans (ipiece z c s 3 3 ![0, 3, 0, 384] inb_S1x4x128x1024_S1x1x64x128_0_3_0_384 rfl rfl rfl _ (ihead3 z c s) x)
  rcases List.mem_cons.mp hpc with rfl | hpc
  · exact fun x => inone z c s 3 ![0, 2, 64, 384] inb_S1x4x128x1024_S1x1x64x128_0_2_64_384 rfl rfl x
  rcases List.mem_cons.mp hpc with rfl | hpc
  · exact fun x => (congrFun (show k0_pay131 (k0_pay130 z c s) = cell (k0_pay125 z c s) 2 from rfl) x).trans (ipiece z c s 3 2 ![0, 2, 0, 384] inb_S1x4x128x1024_S1x1x64x128_0_2_0_384 rfl rfl rfl _ (ihead3 z c s) x)
  rcases List.mem_cons.mp hpc with rfl | hpc
  · exact fun x => inone z c s 3 ![0, 1, 64, 384] inb_S1x4x128x1024_S1x1x64x128_0_1_64_384 rfl rfl x
  rcases List.mem_cons.mp hpc with rfl | hpc
  · exact fun x => (congrFun (show k0_pay128 z c s = cell (k0_pay125 z c s) 1 from rfl) x).trans (ipiece z c s 3 1 ![0, 1, 0, 384] inb_S1x4x128x1024_S1x1x64x128_0_1_0_384 rfl rfl rfl _ (ihead3 z c s) x)
  rcases List.mem_cons.mp hpc with rfl | hpc
  · exact fun x => inone z c s 3 ![0, 0, 64, 384] inb_S1x4x128x1024_S1x1x64x128_0_0_64_384 rfl rfl x
  rcases List.mem_cons.mp hpc with rfl | hpc
  · exact fun x => (congrFun (show k0_pay126 z c s = cell (k0_pay125 z c s) 0 from rfl) x).trans (ipiece z c s 3 0 ![0, 0, 0, 384] inb_S1x4x128x1024_S1x1x64x128_0_0_0_384 rfl rfl rfl _ (ihead3 z c s) x)
  rcases List.mem_cons.mp hpc with rfl | hpc
  · exact fun x => inone z c s 2 ![0, 3, 64, 256] inb_S1x4x128x1024_S1x1x64x128_0_3_64_256 rfl rfl x
  rcases List.mem_cons.mp hpc with rfl | hpc
  · exact fun x => (congrFun (show k0_pay123 (k0_pay116 z c s) = cell (k0_pay116 z c s) 3 from rfl) x).trans (ipiece z c s 2 3 ![0, 3, 0, 256] inb_S1x4x128x1024_S1x1x64x128_0_3_0_256 rfl rfl rfl _ (ihead2 z c s) x)
  rcases List.mem_cons.mp hpc with rfl | hpc
  · exact fun x => inone z c s 2 ![0, 2, 64, 256] inb_S1x4x128x1024_S1x1x64x128_0_2_64_256 rfl rfl x
  rcases List.mem_cons.mp hpc with rfl | hpc
  · exact fun x => (congrFun (show k0_pay121 (k0_pay116 z c s) = cell (k0_pay116 z c s) 2 from rfl) x).trans (ipiece z c s 2 2 ![0, 2, 0, 256] inb_S1x4x128x1024_S1x1x64x128_0_2_0_256 rfl rfl rfl _ (ihead2 z c s) x)
  rcases List.mem_cons.mp hpc with rfl | hpc
  · exact fun x => inone z c s 2 ![0, 1, 64, 256] inb_S1x4x128x1024_S1x1x64x128_0_1_64_256 rfl rfl x
  rcases List.mem_cons.mp hpc with rfl | hpc
  · exact fun x => (congrFun (show k0_pay119 (k0_pay116 z c s) = cell (k0_pay116 z c s) 1 from rfl) x).trans (ipiece z c s 2 1 ![0, 1, 0, 256] inb_S1x4x128x1024_S1x1x64x128_0_1_0_256 rfl rfl rfl _ (ihead2 z c s) x)
  rcases List.mem_cons.mp hpc with rfl | hpc
  · exact fun x => inone z c s 2 ![0, 0, 64, 256] inb_S1x4x128x1024_S1x1x64x128_0_0_64_256 rfl rfl x
  rcases List.mem_cons.mp hpc with rfl | hpc
  · exact fun x => (congrFun (show k0_pay117 (k0_pay116 z c s) = cell (k0_pay116 z c s) 0 from rfl) x).trans (ipiece z c s 2 0 ![0, 0, 0, 256] inb_S1x4x128x1024_S1x1x64x128_0_0_0_256 rfl rfl rfl _ (ihead2 z c s) x)
  rcases List.mem_cons.mp hpc with rfl | hpc
  · exact fun x => inone z c s 1 ![0, 3, 64, 128] inb_S1x4x128x1024_S1x1x64x128_0_3_64_128 rfl rfl x
  rcases List.mem_cons.mp hpc with rfl | hpc
  · exact fun x => (congrFun (show k0_pay114 (k0_pay106 z c s) = cell (k0_pay106 z c s) 3 from rfl) x).trans (ipiece z c s 1 3 ![0, 3, 0, 128] inb_S1x4x128x1024_S1x1x64x128_0_3_0_128 rfl rfl rfl _ (ihead1 z c s) x)
  rcases List.mem_cons.mp hpc with rfl | hpc
  · exact fun x => inone z c s 1 ![0, 2, 64, 128] inb_S1x4x128x1024_S1x1x64x128_0_2_64_128 rfl rfl x
  rcases List.mem_cons.mp hpc with rfl | hpc
  · exact fun x => (congrFun (show k0_pay112 (k0_pay106 z c s) = cell (k0_pay106 z c s) 2 from rfl) x).trans (ipiece z c s 1 2 ![0, 2, 0, 128] inb_S1x4x128x1024_S1x1x64x128_0_2_0_128 rfl rfl rfl _ (ihead1 z c s) x)
  rcases List.mem_cons.mp hpc with rfl | hpc
  · exact fun x => inone z c s 1 ![0, 1, 64, 128] inb_S1x4x128x1024_S1x1x64x128_0_1_64_128 rfl rfl x
  rcases List.mem_cons.mp hpc with rfl | hpc
  · exact fun x => (congrFun (show k0_pay110 (k0_pay109 z c s) = cell (k0_pay106 z c s) 1 from rfl) x).trans (ipiece z c s 1 1 ![0, 1, 0, 128] inb_S1x4x128x1024_S1x1x64x128_0_1_0_128 rfl rfl rfl _ (ihead1 z c s) x)
  rcases List.mem_cons.mp hpc with rfl | hpc
  · exact fun x => inone z c s 1 ![0, 0, 64, 128] inb_S1x4x128x1024_S1x1x64x128_0_0_64_128 rfl rfl x
  rcases List.mem_cons.mp hpc with rfl | hpc
  · exact fun x => (congrFun (show k0_pay107 z c s = cell (k0_pay106 z c s) 0 from rfl) x).trans (ipiece z c s 1 0 ![0, 0, 0, 128] inb_S1x4x128x1024_S1x1x64x128_0_0_0_128 rfl rfl rfl _ (ihead1 z c s) x)
  rcases List.mem_cons.mp hpc with rfl | hpc
  · exact fun x => inone z c s 0 ![0, 3, 64, 0] inb_S1x4x128x1024_S1x1x64x128_0_3_64_0 rfl rfl x
  rcases List.mem_cons.mp hpc with rfl | hpc
  · exact fun x => (congrFun (show k0_pay104 (k0_pay96 z c s) = cell (k0_pay96 z c s) 3 from rfl) x).trans (ipiece z c s 0 3 ![0, 3, 0, 0] inb_S1x4x128x1024_S1x1x64x128_0_3_0_0 rfl rfl rfl _ (ihead0 z c s) x)
  rcases List.mem_cons.mp hpc with rfl | hpc
  · exact fun x => inone z c s 0 ![0, 2, 64, 0] inb_S1x4x128x1024_S1x1x64x128_0_2_64_0 rfl rfl x
  rcases List.mem_cons.mp hpc with rfl | hpc
  · exact fun x => (congrFun (show k0_pay102 (k0_pay101 z c s) = cell (k0_pay96 z c s) 2 from rfl) x).trans (ipiece z c s 0 2 ![0, 2, 0, 0] inb_S1x4x128x1024_S1x1x64x128_0_2_0_0 rfl rfl rfl _ (ihead0 z c s) x)
  rcases List.mem_cons.mp hpc with rfl | hpc
  · exact fun x => inone z c s 0 ![0, 1, 64, 0] inb_S1x4x128x1024_S1x1x64x128_0_1_64_0 rfl rfl x
  rcases List.mem_cons.mp hpc with rfl | hpc
  · exact fun x => (congrFun (show k0_pay99 z c s = cell (k0_pay96 z c s) 1 from rfl) x).trans (ipiece z c s 0 1 ![0, 1, 0, 0] inb_S1x4x128x1024_S1x1x64x128_0_1_0_0 rfl rfl rfl _ (ihead0 z c s) x)
  rcases List.mem_cons.mp hpc with rfl | hpc
  · exact fun x => inone z c s 0 ![0, 0, 64, 0] inb_S1x4x128x1024_S1x1x64x128_0_0_64_0 rfl rfl x
  rcases List.mem_cons.mp hpc with rfl | hpc
  · exact fun x => (congrFun (show k0_pay97 z c s = cell (k0_pay96 z c s) 0 from rfl) x).trans (ipiece z c s 0 0 ![0, 0, 0, 0] inb_S1x4x128x1024_S1x1x64x128_0_0_0_0 rfl rfl rfl _ (ihead0 z c s) x)
  nomatch hpc

end Cert.Proj

end
-- ==== Proof.ProjPoint.lean ====
module

public import proofs.«01_k».proof.Proof.ProjBlock

@[expose] public section

noncomputable section

namespace Cert.Proj

open Idealize.ShloMosaic Cert.Kernel3Ideal Cert.Kernel3Ideal.Gen

/-- A normalised row times a column of the weights. -/
def dot (x g w : Fin 1024 → EReal) : EReal := ∑ k : Fin 1024, normed n1024 eps x g k * w k

/-- Two zero offsets are the constant zero. -/
theorem zero2 : (![0, 0] : Fin 2 → Nat) = fun _ => 0 := funext fun a => by fin_cases a <;> rfl
/-- Three zero offsets are the constant zero. -/
theorem zero3 : (![0, 0, 0] : Fin 3 → Nat) = fun _ => 0 := funext fun a => by fin_cases a <;> rfl

/-- The normalised rows of the block, at an element. -/
theorem pay3_at (x : Vec Ideal S1x512x1024 .f32) (g : Vec Ideal S1x1024 .f32) (r : Fin 512) (k : Fin 1024) :
    k0_pay3 x g (ix2 r k) = normed n1024 eps (fun k => x (ix3 0 r k)) (fun k => g (ix2 0 k)) k := by
  unfold k0_pay3
  pointwise [normed]

/-- The transposed product, at an element: the row's dot product with a row of the weights. -/
theorem pay4_at (x : Vec Ideal S1x512x1024 .f32) (g : Vec Ideal S1x1024 .f32) (w : Vec Ideal S1352x1024 .bf16) (n : Fin 1352) (r : Fin 512) :
    k0_pay4 x g w (ix2 n r) = dot (fun k => x (ix3 0 r k)) (fun k => g (ix2 0 k)) (fun k => w (ix2 n k)) := by
  have e : k0_pay4 x g w (ix2 n r) = ∑ k : Fin 1024, w (ix2 n k) * k0_pay3 x g (ix2 r k) := by
    unfold k0_pay4
    generalize k0_pay3 x g = y
    pointwise []
  rw [e]
  unfold dot
  refine Finset.sum_congr rfl fun k _ => ?_
  rw [pay3_at]
  exact mul_comm _ _

/-- The other product, at an element. -/
theorem pay5_at (x : Vec Ideal S1x512x1024 .f32) (g : Vec Ideal S1x1024 .f32) (w : Vec Ideal S1024x2048 .bf16) (r : Fin 512) (n : Fin 2048) :
    k0_pay5 x g w (ix3 0 r n) = dot (fun k => x (ix3 0 r k)) (fun k => g (ix2 0 k)) (fun k => w (ix2 k n)) := by
  have e : k0_pay5 x g w (ix3 0 r n) = ∑ k : Fin 1024, k0_pay3 x g (ix2 r k) * w (ix2 k n) := by
    unfold k0_pay5
    generalize k0_pay3 x g = y
    pointwise []
  rw [e]
  unfold dot
  refine Finset.sum_congr rfl fun k _ => ?_
  rw [pay3_at]

variable (z : FVec Ideal S1352x512 .f32) (c s : FVec Ideal S32x512 .f32) (g : FVec Ideal S64x1 .f32)

/-- A key head of the block: 64 rows of the product normalised and turned. -/
def key (h : Fin 2) (d : Fin 64) (p : Fin 512) : EReal :=
  rot (normed n64 eps (fun k => z (ix2 ⟨512 + 64 * h + k, by omega⟩ p)) (fun k => g (ix2 k 0))) (fun k => c (ix2 k p)) (fun k => s (ix2 k p)) d

/-- A key head's rows, cut out of the product from the row `512 + 64 h` on, normalised and turned. -/
theorem key_at (h : Fin 2) (off : Fin 2 → ℕ) (ho : off = ![512 + 64 * h.val, 0]) (sl : S1352x512.Slices off S64x512) (d : Fin 64) (p : Fin 512) :
    ropeB (normB (extractStridedSlice S64x512 off z sl) g) c s (ix2 d p) = key z c s g h d p := by
  subst ho
  rw [ropeB_at]
  simp only [normB_at]
  unfold key
  have e : ∀ k : Fin 64, extractStridedSlice S64x512 ![512 + 64 * h.val, 0] z sl (ix2 k p) = z (ix2 ⟨512 + 64 * h + k, by omega⟩ p) := fun k => by
    pointwise []
  simp only [e]

/-- Two blocks of 64 rows one above the other, turned to columns. -/
def pair (a b : FVec Ideal S64x512 .f32) : FVec Ideal S512x128 .bf16 :=
  truncf .bf16 (transpose S512x128 [1, 0] (concatenate S128x512 0 [⟨S64x512, a⟩, ⟨S64x512, b⟩] concatenates_S64x512_S64x512_S128x512_d0) transposes_S128x512_p1_0_S512x128) bitsLt_bf16_f32

/-- The columns of two blocks, at an element. -/
theorem pair_at (a b : FVec Ideal S64x512 .f32) (p : Fin 512) (d : Fin 128) :
    pair a b (ix2 p d) = if h : d.val < 64 then a (ix2 ⟨d, h⟩ p) else b (ix2 ⟨d - 64, by omega⟩ p) := by
  unfold pair
  pointwise []

/-- The keys of the block, at an element. -/
theorem pay93_at (p : Fin 512) (d : Fin 128) :
    k0_pay94 (k0_pay93 z c s g) (ix3 0 p d) = key z c s g ⟨d / 64, by omega⟩ ⟨d % 64, by omega⟩ p := by
  have e : k0_pay94 (k0_pay93 z c s g) (ix3 0 p d) = k0_pay93 z c s g (ix2 p d) := by
    unfold k0_pay94
    generalize k0_pay93 z c s g = y
    pointwise []
  rw [e, show k0_pay93 z c s g = pair (ropeB (normB (extractStridedSlice S64x512 ![512, 0] z slices_S1352x512_o512_0_S64x512) g) c s)
      (ropeB (normB (extractStridedSlice S64x512 ![576, 0] z slices_S1352x512_o576_0_S64x512) g) c s) from rfl, pair_at]
  split
  · refine (key_at z c s g 0 ![512, 0] rfl _ _ _).trans ?_
    congr 1 <;> apply Fin.ext <;> dsimp only <;> omega
  · refine (key_at z c s g 1 ![576, 0] rfl _ _ _).trans ?_
    congr 1 <;> apply Fin.ext <;> dsimp only <;> omega

/-- The values of the block, at an element. -/
theorem pay95_at (d : Fin 128) (p : Fin 512) : k0_pay95 z (ix3 0 d p) = z (ix2 ⟨640 + d, by omega⟩ p) := by
  unfold k0_pay95
  pointwise []

/-- The index key of the block, at an element: a head turned, zeros beside it. -/
theorem pay173_at (p : Fin 512) (d : Fin 128) :
    k0_pay1 (k0_pay173 z c s) (ix3 0 p d) = if h : d.val < 64 then rot (fun k => z (ix2 ⟨1280 + k, by omega⟩ p)) (fun k => c (ix2 k p)) (fun k => s (ix2 k p)) ⟨d, h⟩ else 0 := by
  have e : k0_pay1 (k0_pay173 z c s) (ix3 0 p d) = k0_pay173 z c s (ix2 p d) := by
    unfold k0_pay1
    generalize k0_pay173 z c s = y
    pointwise []
  have e2 : ∀ k : Fin 64, extractStridedSlice S64x512 ![1280, 0] z slices_S1352x512_o1280_0_S64x512 (ix2 k p) = z (ix2 ⟨1280 + k, by omega⟩ p) := fun k => by
    pointwise []
  rw [e, show k0_pay173 z c s = pair (ropeB (extractStridedSlice S64x512 ![1280, 0] z slices_S1352x512_o1280_0_S64x512) c s)
      (broadcast S64x512 (Scalar.ofBits .f32 0x00000000#32)) from rfl, pair_at]
  split
  · rw [ropeB_at]
    simp only [e2]
  · show Ideal.ofBits .f32 0x00000000#32 = 0
    simp [Ideal.ofBits, Ideal.ieee]

/-- The index weights of the block, at an element. -/
theorem pay2_at (h : Fin 8) (p : Fin 512) : k0_pay2 z (ix3 0 h p) = z (ix2 ⟨1344 + h, by omega⟩ p) * Ideal.ofBits .f32 0x3D3504F3#32 := by
  unfold k0_pay2
  pointwise []

/-! ## What a grid point leaves, from its input blocks -/

variable (x0 : Vec Ideal S1x512x1024 .f32) (x1 : Vec Ideal S1x1024 .f32) (x2 : Vec Ideal S1352x1024 .bf16) (x3 : Vec Ideal S1024x2048 .bf16)
  (x4 x5 : Vec Ideal S1x32x512 .f32) (x6 x7 : Vec Ideal S64x1 .f32)

/-- The product of the block, at an element. -/
theorem prod_at (n : Fin 1352) (p : Fin 512) :
    k0_pay174 x0 x1 x2 x3 x4 x5 x6 x7 (ix2 n p) = dot (fun k => x0 (ix3 0 p k)) (fun k => x1 (ix2 0 k)) (fun k => x2 (ix2 n k)) := by
  unfold k0_pay174
  rw [View.ld_unit_zero (S := S1x512x1024) zero3, View.ld_unit_zero (S := S1x1024) zero2, View.ld_unit_zero (S := S1352x1024) zero2, pay4_at]

/-- The cosines of the block, at an element. -/
theorem cos_at (k : Fin 32) (p : Fin 512) : k0_pay175 x0 x1 x2 x3 x4 x5 x6 x7 (ix2 k p) = x4 (ix3 0 k p) := by
  unfold k0_pay175
  rw [View.ld_unit_zero (S := S1x32x512) zero3]
  unfold k0_pay6
  pointwise []

/-- The sines of the block, at an element. -/
theorem sin_at (k : Fin 32) (p : Fin 512) : k0_pay176 x0 x1 x2 x3 x4 x5 x6 x7 (ix2 k p) = x5 (ix3 0 k p) := by
  unfold k0_pay176
  rw [View.ld_unit_zero (S := S1x32x512) zero3]
  unfold k0_pay7
  pointwise []

/-- The gain of the queries, at an element. -/
theorem gain_at (k : Fin 64) : k0_pay177 x0 x1 x2 x3 x4 x5 x6 x7 (ix2 k 0) = x6 (ix2 k 0) := by
  unfold k0_pay177
  rw [View.ld_unit_zero (S := S64x1) zero2]
  unfold k0_pay8
  pointwise []

/-- The gain of the keys, at an element. -/
theorem gain9_at (k : Fin 64) : k0_pay9 (View.ld x7 r0_6) (ix2 k 0) = x7 (ix2 k 0) := by
  rw [View.ld_unit_zero (S := S64x1) zero2]
  unfold k0_pay9
  pointwise []

/-- The point's queries, at an element. -/
theorem out8_at (u : Fin 4) (r : Fin 128) (e : Fin 1024) :
    out0_8 x0 x1 x2 x3 x4 x5 x6 x7 (ix4 0 u r e) = if r.val / 64 = e.val / 128 / 4 then
      rot (normed n64 eps (fun k => dot (fun l => x0 (ix3 0 ⟨128 * u + e % 128, by omega⟩ l)) (fun l => x1 (ix2 0 l)) (fun l => x2 (ix2 ⟨64 * (e / 128) + k, by omega⟩ l))) (fun k => x6 (ix2 k 0)))
        (fun k => x4 (ix3 0 k ⟨128 * u + e % 128, by omega⟩)) (fun k => x5 (ix3 0 k ⟨128 * u + e % 128, by omega⟩)) ⟨r % 64, by omega⟩ * qscale else 0 := by
  have h : out0_8 x0 x1 x2 x3 x4 x5 x6 x7 (ix4 0 u r e) = Qblk (k0_pay174 x0 x1 x2 x3 x4 x5 x6 x7) (k0_pay175 x0 x1 x2 x3 x4 x5 x6 x7) (k0_pay176 x0 x1 x2 x3 x4 x5 x6 x7) (k0_pay177 x0 x1 x2 x3 x4 x5 x6 x7) (ix4 0 u r e) :=
    qstores _ _ _ _ _
  rw [h]
  unfold Qblk query
  simp only [prod_at, cos_at, sin_at, gain_at]
  rfl

/-- The point's keys, at an element. -/
theorem out9_at (p : Fin 512) (d : Fin 128) :
    out0_9 x0 x1 x2 x3 x4 x5 x6 x7 (ix3 0 p d) =
      rot (normed n64 eps (fun k => dot (fun l => x0 (ix3 0 p l)) (fun l => x1 (ix2 0 l)) (fun l => x2 (ix2 ⟨512 + 64 * (d / 64) + k, by omega⟩ l))) (fun k => x7 (ix2 k 0)))
        (fun k => x4 (ix3 0 k p)) (fun k => x5 (ix3 0 k p)) ⟨d % 64, by omega⟩ := by
  unfold out0_9
  rw [View.canon_cons_unit_zero (S := S1x512x128) zero3, pay93_at]
  unfold key
  simp only [prod_at, cos_at, sin_at, gain9_at]

/-- The point's values, at an element. -/
theorem out10_at (d : Fin 128) (p : Fin 512) :
    out0_10 x0 x1 x2 x3 x4 x5 x6 x7 (ix3 0 d p) = dot (fun l => x0 (ix3 0 p l)) (fun l => x1 (ix2 0 l)) (fun l => x2 (ix2 ⟨640 + d, by omega⟩ l)) := by
  unfold out0_10
  rw [View.canon_cons_unit_zero (S := S1x128x512) zero3, pay95_at, prod_at]

/-- The point's index queries, at an element. -/
theorem out11_at (u : Fin 4) (r : Fin 128) (e : Fin 1024) :
    out0_11 x0 x1 x2 x3 x4 x5 x6 x7 (ix4 0 u r e) = if r.val / 64 = 0 then
      rot (fun k => dot (fun l => x0 (ix3 0 ⟨128 * u + e % 128, by omega⟩ l)) (fun l => x1 (ix2 0 l)) (fun l => x2 (ix2 ⟨768 + 64 * (e / 128) + k, by omega⟩ l)))
        (fun k => x4 (ix3 0 k ⟨128 * u + e % 128, by omega⟩)) (fun k => x5 (ix3 0 k ⟨128 * u + e % 128, by omega⟩)) ⟨r % 64, by omega⟩ else 0 := by
  have h : out0_11 x0 x1 x2 x3 x4 x5 x6 x7 (ix4 0 u r e) = Iblk (k0_pay174 x0 x1 x2 x3 x4 x5 x6 x7) (k0_pay175 x0 x1 x2 x3 x4 x5 x6 x7) (k0_pay176 x0 x1 x2 x3 x4 x5 x6 x7) (ix4 0 u r e) :=
    istores _ _ _ _
  rw [h]
  unfold Iblk iquery
  simp only [prod_at, cos_at, sin_at]
  rfl

/-- The point's index key, at an element. -/
theorem out12_at (p : Fin 512) (d : Fin 128) :
    out0_12 x0 x1 x2 x3 x4 x5 x6 x7 (ix3 0 p d) = if h : d.val < 64 then
      rot (fun k => dot (fun l => x0 (ix3 0 p l)) (fun l => x1 (ix2 0 l)) (fun l => x2 (ix2 ⟨1280 + k, by omega⟩ l)))
        (fun k => x4 (ix3 0 k p)) (fun k => x5 (ix3 0 k p)) ⟨d, h⟩ else 0 := by
  unfold out0_12
  rw [View.canon_cons_unit_zero (S := S1x512x128) zero3, pay173_at]
  simp only [prod_at, cos_at, sin_at]

/-- The point's index weights, at an element. -/
theorem out13_at (h : Fin 8) (p : Fin 512) :
    out0_13 x0 x1 x2 x3 x4 x5 x6 x7 (ix3 0 h p) = dot (fun l => x0 (ix3 0 p l)) (fun l => x1 (ix2 0 l)) (fun l => x2 (ix2 ⟨1344 + h, by omega⟩ l)) * Ideal.ofBits .f32 0x3D3504F3#32 := by
  unfold out0_13
  rw [View.canon_cons_unit_zero (S := S1x8x512) zero3, pay2_at, prod_at]

/-- The rest of the point's product, at an element. -/
theorem out14_at (p : Fin 512) (n : Fin 2048) :
    out0_14 x0 x1 x2 x3 x4 x5 x6 x7 (ix3 0 p n) = dot (fun l => x0 (ix3 0 p l)) (fun l => x1 (ix2 0 l)) (fun l => x3 (ix2 l n)) := by
  unfold out0_14
  rw [View.canon_cons_unit_zero (S := S1x512x2048) zero3, View.ld_unit_zero (S := S1x512x1024) zero3, View.ld_unit_zero (S := S1x1024) zero2, View.ld_unit_zero (S := S1024x2048) zero2, pay5_at]

end Cert.Proj

end
-- ==== Proof.ProjSpec.lean ====
module

public import proofs.«01_k».proof.Proof.ProjPoint

@[expose] public section

noncomputable section

namespace Cert.Proj

open Idealize.ShloMosaic

/-! ## The seven results of the input projection, over the extended reals

The rows `X`, the gain `g` and the weights `W` give one product row for each position; the cosines `C` and sines `S`
turn its heads, the gains `qg` and `kg` weigh the normalised heads, `q` scales the queries. -/

variable (X : Fin 8 → Fin 4096 → Fin 1024 → EReal) (g : Fin 1024 → EReal) (W : Fin 1024 → Fin 3400 → EReal)
  (C S : Fin 8 → Fin 4096 → Fin 32 → EReal) (qg kg : Fin 64 → EReal) (q : EReal)

/-- The product row of a position, at a column. -/
def prodr (b : Fin 8) (t : Fin 4096) (n : Fin 3400) : EReal := dot (X b t) g (fun k => W k n)

/-- The head of 64 columns from the column `o` on, turned. -/
def plain (o : ℕ) (ho : o + 64 ≤ 3400) (b : Fin 8) (t : Fin 4096) : Fin 64 → EReal :=
  rot (fun k => prodr X g W b t ⟨o + k, by omega⟩) (C b t) (S b t)

/-- The head of 64 columns from the column `o` on, normalised and turned. -/
def unit (o : ℕ) (ho : o + 64 ≤ 3400) (w : Fin 64 → EReal) (b : Fin 8) (t : Fin 4096) : Fin 64 → EReal :=
  rot (normed n64 eps (fun k => prodr X g W b t ⟨o + k, by omega⟩) w) (C b t) (S b t)

/-- The queries: in blocks of 128 positions, one row a depth, one column a head and a position, the heads of the second key head below those of the first. -/
def res0 (b : Fin 8) (u : Fin 32) (r : Fin 128) (e : Fin 1024) : EReal :=
  if r.val / 64 = e.val / 128 / 4 then
    unit X g W C S (64 * (e.val / 128)) (by omega) qg b ⟨128 * u + e % 128, by omega⟩ ⟨r % 64, by omega⟩ * q
  else 0

/-- The keys, the two heads side by side. -/
def res1 (b : Fin 8) (t : Fin 4096) (d : Fin 128) : EReal :=
  unit X g W C S (512 + 64 * (d.val / 64)) (by omega) kg b t ⟨d % 64, by omega⟩

/-- The values, one column a position. -/
def res2 (b : Fin 8) (d : Fin 128) (t : Fin 4096) : EReal := prodr X g W b t ⟨640 + d, by omega⟩

/-- The index queries, laid out as the queries, zeros below. -/
def res3 (b : Fin 8) (u : Fin 32) (r : Fin 128) (e : Fin 1024) : EReal :=
  if r.val / 64 = 0 then
    plain X g W C S (768 + 64 * (e.val / 128)) (by omega) b ⟨128 * u + e % 128, by omega⟩ ⟨r % 64, by omega⟩
  else 0

/-- The index keys, zeros beside them. -/
def res4 (b : Fin 8) (t : Fin 4096) (d : Fin 128) : EReal :=
  if h : d.val < 64 then plain X g W C S 1280 (by omega) b t ⟨d, h⟩ else 0

/-- The index weights, one column a position. -/
def res5 (b : Fin 8) (h : Fin 8) (t : Fin 4096) : EReal := prodr X g W b t ⟨1344 + h, by omega⟩ * Ideal.ofBits .f32 0x3D3504F3#32

/-- The rest of the product. -/
def res6 (b : Fin 8) (t : Fin 4096) (n : Fin 2048) : EReal := prodr X g W b t ⟨1352 + n, by omega⟩

end Cert.Proj

end
-- ==== Proof.ProjRef.lean ====
module

public import proofs.«01_k».proof.Proof.ProjSpec
public import proofs.«01_k».proof.Proof.Gen.Reference3Ideal.Read
public import Idealize.ShloMosaic.Lib.Pointwise

@[expose] public section

noncomputable section

namespace Cert.ProjRef

open Idealize.ShloMosaic Cert.Reference3Ideal Cert.Reference3Ideal.Gen Cert.Reference3Ideal.Read
open Cert.Proj (normed rot dot prodr plain unit n1024 n64 eps res0 res1 res2 res3 res4 res5 res6)

variable (x0 : FVec Ideal S8x4096x1024 .f32) (x1 : FVec Ideal S1024 .f32) (x2 : FVec Ideal S1024x3400 .f32)
  (x3 x4 : FVec Ideal S8x4096x1x32 .f32) (x5 x6 : FVec Ideal S64 .f32)

/-- The rows. -/
abbrev aX : Fin 8 → Fin 4096 → Fin 1024 → EReal := fun b t k => x0 (ix3 b t k)
/-- The gain of the rows. -/
abbrev aG : Fin 1024 → EReal := fun k => x1 (ix1 k)
/-- The weights. -/
abbrev aW : Fin 1024 → Fin 3400 → EReal := fun k n => x2 (ix2 k n)
/-- A table of angles' functions. -/
abbrev aT (x : FVec Ideal S8x4096x1x32 .f32) : Fin 8 → Fin 4096 → Fin 32 → EReal := fun b t k => x (ix4 b t 0 k)
/-- A gain of heads. -/
abbrev aH (x : FVec Ideal S64 .f32) : Fin 64 → EReal := fun k => x (ix1 k)

/-- The mean of a row's squares. -/
theorem v1_at (b : Fin 8) (t : Fin 4096) : val_main_v1 (F := Ideal) x0 (ix2 b t) = ∑ k : Fin 1024, x0 (ix3 b t k) * x0 (ix3 b t k) := by
  unfold val_main_v1 val_main_v0 val_main_cst
  pointwise []

/-- The normalised rows. -/
theorem v12_at (b : Fin 8) (t : Fin 4096) (k : Fin 1024) :
    val_main_v12 (F := Ideal) x0 x1 (ix3 b t k) = normed n1024 eps (aX x0 b t) (aG x1) k := by
  unfold val_main_v12 val_main_v11 val_main_v10 val_main_v9 val_main_v8 val_main_v7 val_main_v6 val_main_v5 val_main_v4 val_main_v3 val_main_v2 val_main_cst_0 val_main_cst_1
  have h := v1_at x0 b t
  generalize val_main_v1 (F := Ideal) x0 = y at h ⊢
  pointwise [normed]
  rw [h]

/-- The product. -/
theorem v13_at (b : Fin 8) (t : Fin 4096) (n : Fin 3400) :
    val_main_v13 (F := Ideal) x0 x1 x2 (ix3 b t n) = prodr (aX x0) (aG x1) (aW x2) b t n := by
  have e : val_main_v13 (F := Ideal) x0 x1 x2 (ix3 b t n) = ∑ k : Fin 1024, val_main_v12 (F := Ideal) x0 x1 (ix3 b t k) * x2 (ix2 k n) := by
    unfold val_main_v13
    generalize val_main_v12 (F := Ideal) x0 x1 = y
    pointwise []
  rw [e]
  unfold prodr dot
  simp only [v12_at]

/-- The query heads of the product. -/
theorem v21_at (b : Fin 8) (t : Fin 4096) (h : Fin 8) (d : Fin 64) :
    val_main_v21 (F := Ideal) x0 x1 x2 (ix4 b t h d) = prodr (aX x0) (aG x1) (aW x2) b t ⟨64 * h + d, by omega⟩ := by
  rw [← v13_at]
  unfold val_main_v21 val_main_v14
  generalize val_main_v13 (F := Ideal) x0 x1 x2 = y
  pointwise []
  congr 2; apply Fin.ext; dsimp only; omega

/-- The key heads of the product. -/
theorem v48_at (b : Fin 8) (t : Fin 4096) (h : Fin 2) (d : Fin 64) :
    val_main_v48 (F := Ideal) x0 x1 x2 (ix4 b t h d) = prodr (aX x0) (aG x1) (aW x2) b t ⟨512 + 64 * h + d, by omega⟩ := by
  rw [← v13_at]
  unfold val_main_v48 val_main_v15
  generalize val_main_v13 (F := Ideal) x0 x1 x2 = y
  pointwise []
  congr 2; apply Fin.ext; dsimp only; omega

/-- The index query heads of the product. -/
theorem v75_at (b : Fin 8) (t : Fin 4096) (h : Fin 8) (d : Fin 64) :
    val_main_v75 (F := Ideal) x0 x1 x2 (ix4 b t h d) = prodr (aX x0) (aG x1) (aW x2) b t ⟨768 + 64 * h + d, by omega⟩ := by
  rw [← v13_at]
  unfold val_main_v75 val_main_v17
  generalize val_main_v13 (F := Ideal) x0 x1 x2 = y
  pointwise []
  congr 2; apply Fin.ext; dsimp only; omega

/-- The index key of the product. -/
theorem v89_at (b : Fin 8) (t : Fin 4096) (d : Fin 64) :
    val_main_v89 (F := Ideal) x0 x1 x2 (ix4 b t 0 d) = prodr (aX x0) (aG x1) (aW x2) b t ⟨1280 + d, by omega⟩ := by
  rw [← v13_at]
  unfold val_main_v89 val_main_v18
  generalize val_main_v13 (F := Ideal) x0 x1 x2 = y
  pointwise []

/-- The sum of a query head's squares. -/
theorem v23_at (b : Fin 8) (t : Fin 4096) (h : Fin 8) :
    val_main_v23 (F := Ideal) x0 x1 x2 (ix3 b t h) = ∑ k : Fin 64, val_main_v21 (F := Ideal) x0 x1 x2 (ix4 b t h k) * val_main_v21 (F := Ideal) x0 x1 x2 (ix4 b t h k) := by
  unfold val_main_v23 val_main_v22 val_main_cst_2
  generalize val_main_v21 (F := Ideal) x0 x1 x2 = y
  pointwise []

/-- The normalised query heads. -/
theorem v34_at (b : Fin 8) (t : Fin 4096) (h : Fin 8) (d : Fin 64) :
    val_main_v34 (F := Ideal) x0 x1 x2 x5 (ix4 b t h d) = normed n64 eps (fun k => val_main_v21 (F := Ideal) x0 x1 x2 (ix4 b t h k)) (aH x5) d := by
  have e := v23_at x0 x1 x2 b t h
  unfold val_main_v34 val_main_v33 val_main_v32 val_main_v31 val_main_v30 val_main_v29 val_main_v28 val_main_v27 val_main_v26 val_main_v25 val_main_v24 val_main_cst_3 val_main_cst_4
  generalize val_main_v23 (F := Ideal) x0 x1 x2 = y at e ⊢
  generalize val_main_v21 (F := Ideal) x0 x1 x2 = y' at e ⊢
  pointwise [normed]
  rw [e]

/-- The sum of a key head's squares. -/
theorem v50_at (b : Fin 8) (t : Fin 4096) (h : Fin 2) :
    val_main_v50 (F := Ideal) x0 x1 x2 (ix3 b t h) = ∑ k : Fin 64, val_main_v48 (F := Ideal) x0 x1 x2 (ix4 b t h k) * val_main_v48 (F := Ideal) x0 x1 x2 (ix4 b t h k) := by
  unfold val_main_v50 val_main_v49 val_main_cst_5
  generalize val_main_v48 (F := Ideal) x0 x1 x2 = y
  pointwise []

/-- The normalised key heads. -/
theorem v61_at (b : Fin 8) (t : Fin 4096) (h : Fin 2) (d : Fin 64) :
    val_main_v61 (F := Ideal) x0 x1 x2 x6 (ix4 b t h d) = normed n64 eps (fun k => val_main_v48 (F := Ideal) x0 x1 x2 (ix4 b t h k)) (aH x6) d := by
  have e := v50_at x0 x1 x2 b t h
  unfold val_main_v61 val_main_v60 val_main_v59 val_main_v58 val_main_v57 val_main_v56 val_main_v55 val_main_v54 val_main_v53 val_main_v52 val_main_v51 val_main_cst_6 val_main_cst_7
  generalize val_main_v50 (F := Ideal) x0 x1 x2 = y at e ⊢
  generalize val_main_v48 (F := Ideal) x0 x1 x2 = y' at e ⊢
  pointwise [normed]
  rw [e]

/-- The position past the half of a head. -/
theorem half (d : Fin 64) (h : ¬ d.val < 32) (w : 32 + (d.val - 32) < 64) : (⟨32 + (d.val - 32), w⟩ : Fin 64) = d := Fin.ext (by dsimp only; omega)

/-- The query heads turned. -/
theorem v47_at (b : Fin 8) (t : Fin 4096) (h : Fin 8) (d : Fin 64) :
    val_main_v47 (F := Ideal) x0 x1 x2 x3 x4 x5 (ix4 b t h d) = rot (fun k => val_main_v34 (F := Ideal) x0 x1 x2 x5 (ix4 b t h k)) (aT x3 b t) (aT x4 b t) d := by
  unfold val_main_v47 val_main_v46 val_main_v45 val_main_v44 val_main_v43 val_main_v42 val_main_v41 val_main_v40 val_main_v39 val_main_v38 val_main_v37 val_main_v36 val_main_v35
  generalize val_main_v34 (F := Ideal) x0 x1 x2 x5 = y
  unfold rot
  pointwise []
  split
  · rfl
  · rename_i hd
    simp only [half d hd]

/-- The key heads turned. -/
theorem v74_at (b : Fin 8) (t : Fin 4096) (h : Fin 2) (d : Fin 64) :
    val_main_v74 (F := Ideal) x0 x1 x2 x3 x4 x6 (ix4 b t h d) = rot (fun k => val_main_v61 (F := Ideal) x0 x1 x2 x6 (ix4 b t h k)) (aT x3 b t) (aT x4 b t) d := by
  unfold val_main_v74 val_main_v73 val_main_v72 val_main_v71 val_main_v70 val_main_v69 val_main_v68 val_main_v67 val_main_v66 val_main_v65 val_main_v64 val_main_v63 val_main_v62
  generalize val_main_v61 (F := Ideal) x0 x1 x2 x6 = y
  unfold rot
  pointwise []
  split
  · rfl
  · rename_i hd
    simp only [half d hd]

/-- The index query heads turned. -/
theorem v88_at (b : Fin 8) (t : Fin 4096) (h : Fin 8) (d : Fin 64) :
    val_main_v88 (F := Ideal) x0 x1 x2 x3 x4 (ix4 b t h d) = rot (fun k => val_main_v75 (F := Ideal) x0 x1 x2 (ix4 b t h k)) (aT x3 b t) (aT x4 b t) d := by
  unfold val_main_v88 val_main_v87 val_main_v86 val_main_v85 val_main_v84 val_main_v83 val_main_v82 val_main_v81 val_main_v80 val_main_v79 val_main_v78 val_main_v77 val_main_v76
  generalize val_main_v75 (F := Ideal) x0 x1 x2 = y
  unfold rot
  pointwise []
  split
  · rfl
  · rename_i hd
    simp only [half d hd]

/-- The index key turned. -/
theorem v99_at (b : Fin 8) (t : Fin 4096) (d : Fin 64) :
    val_main_v99 (F := Ideal) x0 x1 x2 x3 x4 (ix3 b t d) = rot (fun k => val_main_v89 (F := Ideal) x0 x1 x2 (ix4 b t 0 k)) (aT x3 b t) (aT x4 b t) d := by
  unfold val_main_v99 val_main_v98 val_main_v97 val_main_v96 val_main_v95 val_main_v94 val_main_v93 val_main_v92 val_main_v91 val_main_v90
  generalize val_main_v89 (F := Ideal) x0 x1 x2 = y
  unfold rot
  pointwise []
  split
  · rfl
  · rename_i hd
    simp only [half d hd]

/-- The scale of the queries, as the reference computes it. -/
abbrev scale : EReal := Ideal.div (Ideal.ofBits .f32 0x3E000000#32) (Ideal.log (Ideal.ofBits .f32 0x40000000#32))

/-- The queries scaled, in blocks of 128 positions, the depth first. -/
theorem v108_at (b : Fin 8) (u : Fin 32) (d : Fin 64) (h : Fin 8) (r : Fin 128) :
    val_main_v108 (F := Ideal) x0 x1 x2 x3 x4 x5 (ix5 b u d h r) = val_main_v47 (F := Ideal) x0 x1 x2 x3 x4 x5 (ix4 b ⟨128 * u + r, by omega⟩ h d) * scale := by
  unfold val_main_v108 val_main_v107 val_main_v106 val_main_v105 val_main_v104 val_main_v103 val_main_v102 val_main_cst_9 val_main_cst_10
  generalize val_main_v47 (F := Ideal) x0 x1 x2 x3 x4 x5 = y
  pointwise []
  exact congrArg₂ (· * ·) (congrArg y (by congr 1; apply Fin.ext; dsimp only; omega)) rfl

end Cert.ProjRef

end
-- ==== Proof.ProjRes.lean ====
module

public import proofs.«01_k».proof.Proof.ProjRef
public import Idealize.ShloMosaic.Lib.Pointwise

@[expose] public section

noncomputable section

namespace Cert.ProjRef

open Idealize.ShloMosaic Cert.Reference3Ideal Cert.Reference3Ideal.Gen Cert.Reference3Ideal.Read
open Cert.Proj (normed rot dot prodr plain unit n1024 n64 eps res0 res1 res2 res3 res4 res5 res6)

variable (x0 : FVec Ideal S8x4096x1024 .f32) (x1 : FVec Ideal S1024 .f32) (x2 : FVec Ideal S1024x3400 .f32)
  (x3 x4 : FVec Ideal S8x4096x1x32 .f32) (x5 x6 : FVec Ideal S64 .f32)

/-- Equal coordinates read the same number. -/
theorem cong5 (y : FVec Ideal S8x32x64x8x128 .f32) (b : Fin 8) (u : Fin 32) (r : Fin 128) {d d' : Fin 64} {h h' : Fin 8} (e : d.val = d'.val) (e' : h.val = h'.val) :
    y (ix5 b u d h r) = y (ix5 b u d' h' r) := by
  rw [Fin.ext e, Fin.ext e']

/-- Positions cut in blocks of 128. -/
theorem cut_at (y : FVec Ideal S8x4096x8x64 .f32) (b : Fin 8) (u : Fin 32) (r : Fin 128) (h : Fin 8) (d : Fin 64) :
    shapeCast S8x32x128x8x64 y shapeCasts_S8x4096x8x64_S8x32x128x8x64 (ix5 b u r h d) = y (ix4 b ⟨128 * u + r, by omega⟩ h d) := by
  refine shapeCast_apply y _ _ _ ?_
  rewrite [Shape.rowMajor_val_four, Shape.rowMajor_val_five]
  show (((b.val * 4096 + (128 * u.val + r.val)) * 8 + h.val) * 64 + d.val) = ((((b.val * 32 + u.val) * 128 + r.val) * 8 + h.val) * 64 + d.val)
  omega

/-- Heads and rows joined. -/
theorem join_at (y : FVec Ideal S8x32x128x8x128 .f32) (b : Fin 8) (u : Fin 32) (r : Fin 128) (e : Fin 1024) :
    shapeCast S8x32x128x1024 y shapeCasts_S8x32x128x8x128_S8x32x128x1024 (ix4 b u r e) = y (ix5 b u r ⟨e / 128, by omega⟩ ⟨e % 128, by omega⟩) := by
  refine shapeCast_apply y _ _ _ ?_
  rewrite [Shape.rowMajor_val_four, Shape.rowMajor_val_five]
  show ((((b.val * 32 + u.val) * 128 + r.val) * 8 + e.val / 128) * 128 + e.val % 128) = (((b.val * 32 + u.val) * 128 + r.val) * 1024 + e.val)
  omega

/-- Depth and rows exchanged. -/
theorem sw_at (y : FVec Ideal S8x32x128x8x64 .f32) (b : Fin 8) (u : Fin 32) (d : Fin 64) (h : Fin 8) (r : Fin 128) :
    transpose S8x32x64x8x128 [0, 1, 4, 3, 2] y transposes_S8x32x128x8x64_S8x32x64x8x128_0_1_4_3_2 (ix5 b u d h r) = y (ix5 b u r h d) := by
  pointwise []

/-- A narrower float is the same number. -/
theorem narrow_at {S : Shape} (y : FVec Ideal S .f32) (i : S.Idx) : truncf .bf16 y bitsLt_bf16_f32 i = y i := rfl

/-- Key heads joined. -/
theorem heads_at (y : FVec Ideal S8x4096x2x64 .f32) (b : Fin 8) (t : Fin 4096) (d : Fin 128) :
    shapeCast S8x4096x128 y shapeCasts_S8x4096x2x64_S8x4096x128 (ix3 b t d) = y (ix4 b t ⟨d / 64, by omega⟩ ⟨d % 64, by omega⟩) := by
  refine shapeCast_apply y _ _ _ ?_
  rewrite [Shape.rowMajor_val_four, Shape.rowMajor_val_three]
  show (((b.val * 4096 + t.val) * 2 + d.val / 64) * 64 + d.val % 64) = ((b.val * 4096 + t.val) * 128 + d.val)
  omega

/-- The queries of the first key head above those of the second. -/
theorem v115_at (b : Fin 8) (u : Fin 32) (d : Fin 128) (h : Fin 8) (r : Fin 128) :
    val_main_v115 (F := Ideal) x0 x1 x2 x3 x4 x5 (ix5 b u d h r) = if d.val / 64 = h.val / 4 then val_main_v108 (F := Ideal) x0 x1 x2 x3 x4 x5 (ix5 b u ⟨d % 64, by omega⟩ h r) else 0 := by
  have hz : Ideal.ofBits .f32 0x00000000#32 = 0 := by simp [Ideal.ofBits, Ideal.ieee]
  unfold val_main_v115 val_main_v114 val_main_v113 val_main_v112 val_main_v111 val_main_v110 val_main_cst_11
  generalize val_main_v108 (F := Ideal) x0 x1 x2 x3 x4 x5 = y
  pointwise []
  by_cases hd : d.val < 64
  · by_cases hh : h.val < 4
    · rw [dif_pos hd, dif_pos hh, if_pos (show d.val / 64 = h.val / 4 by omega)]
      exact cong5 y b u r (by dsimp only; omega) rfl
    · rw [dif_pos hd, dif_neg hh, if_neg (by omega)]
  · by_cases hh : h.val < 4
    · rw [dif_neg hd, dif_pos hh, if_neg (by omega)]
    · rw [dif_neg hd, dif_neg hh, if_pos (show d.val / 64 = h.val / 4 by omega)]
      exact cong5 y b u r (by dsimp only; omega) (by dsimp only; omega)

/-- The index queries in blocks of 128 positions, the depth first. -/
theorem v117_at (b : Fin 8) (u : Fin 32) (d : Fin 64) (h : Fin 8) (r : Fin 128) :
    val_main_v117 (F := Ideal) x0 x1 x2 x3 x4 (ix5 b u d h r) = val_main_v88 (F := Ideal) x0 x1 x2 x3 x4 (ix4 b ⟨128 * u + r, by omega⟩ h d) := by
  have e : val_main_v116 (F := Ideal) x0 x1 x2 x3 x4 (ix5 b u r h d) = val_main_v88 (F := Ideal) x0 x1 x2 x3 x4 (ix4 b ⟨128 * u + r, by omega⟩ h d) := by
    unfold val_main_v116
    generalize val_main_v88 (F := Ideal) x0 x1 x2 x3 x4 = y
    exact cut_at y b u r h d
  refine Eq.trans ?_ e
  clear e
  unfold val_main_v117
  exact sw_at _ b u d h r

/-- The index queries above zeros. -/
theorem v119_at (b : Fin 8) (u : Fin 32) (d : Fin 128) (h : Fin 8) (r : Fin 128) :
    val_main_v119 (F := Ideal) x0 x1 x2 x3 x4 (ix5 b u d h r) = if d.val / 64 = 0 then val_main_v117 (F := Ideal) x0 x1 x2 x3 x4 (ix5 b u ⟨d % 64, by omega⟩ h r) else 0 := by
  unfold val_main_v119 val_main_v118 val_main_cst_12
  generalize val_main_v117 (F := Ideal) x0 x1 x2 x3 x4 = y
  pointwise []
  split_ifs <;> first | (exfalso; omega) | with_reducible rfl | (congr 2 <;> apply Fin.ext <;> dsimp only <;> omega)

/-! ## The results of the reference -/

/-- The reference's queries. -/
theorem v123_at (b : Fin 8) (u : Fin 32) (r : Fin 128) (e : Fin 1024) :
    val_main_v123 (F := Ideal) x0 x1 x2 x3 x4 x5 (ix4 b u r e) = res0 (aX x0) (aG x1) (aW x2) (aT x3) (aT x4) (aH x5) scale b u r e := by
  have h : val_main_v123 (F := Ideal) x0 x1 x2 x3 x4 x5 (ix4 b u r e) = val_main_v115 (F := Ideal) x0 x1 x2 x3 x4 x5 (ix5 b u r ⟨e / 128, by omega⟩ ⟨e % 128, by omega⟩) := by
    have s : val_main_v123 (F := Ideal) x0 x1 x2 x3 x4 x5 (ix4 b u r e) = val_main_v122 (F := Ideal) x0 x1 x2 x3 x4 x5 (ix4 b u r e) := by
      unfold val_main_v123
      exact narrow_at _ _
    rw [s]
    unfold val_main_v122
    generalize val_main_v115 (F := Ideal) x0 x1 x2 x3 x4 x5 = y
    exact join_at y b u r e
  rw [h, v115_at, v108_at, v47_at]
  simp only [v34_at, v21_at]
  unfold res0 unit
  with_reducible rfl

/-- The reference's keys. -/
theorem v125_at (b : Fin 8) (t : Fin 4096) (d : Fin 128) :
    val_main_v125 (F := Ideal) x0 x1 x2 x3 x4 x6 (ix3 b t d) = res1 (aX x0) (aG x1) (aW x2) (aT x3) (aT x4) (aH x6) b t d := by
  have h : val_main_v125 (F := Ideal) x0 x1 x2 x3 x4 x6 (ix3 b t d) = val_main_v74 (F := Ideal) x0 x1 x2 x3 x4 x6 (ix4 b t ⟨d / 64, by omega⟩ ⟨d % 64, by omega⟩) := by
    have s : val_main_v125 (F := Ideal) x0 x1 x2 x3 x4 x6 (ix3 b t d) = val_main_v124 (F := Ideal) x0 x1 x2 x3 x4 x6 (ix3 b t d) := by
      unfold val_main_v125
      exact narrow_at _ _
    rw [s]
    unfold val_main_v124
    generalize val_main_v74 (F := Ideal) x0 x1 x2 x3 x4 x6 = y
    exact heads_at y b t d
  rw [h, v74_at]
  simp only [v61_at, v48_at]
  unfold res1 unit
  with_reducible rfl

/-- The reference's values. -/
theorem v127_at (b : Fin 8) (d : Fin 128) (t : Fin 4096) :
    val_main_v127 (F := Ideal) x0 x1 x2 (ix3 b d t) = res2 (aX x0) (aG x1) (aW x2) b d t := by
  unfold res2
  rw [← v13_at]
  unfold val_main_v127 val_main_v126 val_main_v16
  generalize val_main_v13 (F := Ideal) x0 x1 x2 = y
  pointwise []

/-- The reference's index queries. -/
theorem v129_at (b : Fin 8) (u : Fin 32) (r : Fin 128) (e : Fin 1024) :
    val_main_v129 (F := Ideal) x0 x1 x2 x3 x4 (ix4 b u r e) = res3 (aX x0) (aG x1) (aW x2) (aT x3) (aT x4) b u r e := by
  have h : val_main_v129 (F := Ideal) x0 x1 x2 x3 x4 (ix4 b u r e) = val_main_v119 (F := Ideal) x0 x1 x2 x3 x4 (ix5 b u r ⟨e / 128, by omega⟩ ⟨e % 128, by omega⟩) := by
    have s : val_main_v129 (F := Ideal) x0 x1 x2 x3 x4 (ix4 b u r e) = val_main_v128 (F := Ideal) x0 x1 x2 x3 x4 (ix4 b u r e) := by
      unfold val_main_v129
      exact narrow_at _ _
    rw [s]
    unfold val_main_v128
    generalize val_main_v119 (F := Ideal) x0 x1 x2 x3 x4 = y
    exact join_at y b u r e
  rw [h, v119_at, v117_at, v88_at]
  simp only [v75_at]
  unfold res3 plain
  with_reducible rfl

/-- The reference's index keys. -/
theorem v130_at (b : Fin 8) (t : Fin 4096) (d : Fin 128) :
    val_main_v130 (F := Ideal) x0 x1 x2 x3 x4 (ix3 b t d) = res4 (aX x0) (aG x1) (aW x2) (aT x3) (aT x4) b t d := by
  have h : val_main_v130 (F := Ideal) x0 x1 x2 x3 x4 (ix3 b t d) = if h : d.val < 64 then val_main_v99 (F := Ideal) x0 x1 x2 x3 x4 (ix3 b t ⟨d, h⟩) else 0 := by
    unfold val_main_v130 val_main_v121 val_main_v120 val_main_cst_13
    generalize val_main_v99 (F := Ideal) x0 x1 x2 x3 x4 = y
    pointwise []
  rw [h]
  simp only [v99_at, v89_at]
  unfold res4 plain
  with_reducible rfl

/-- The reference's index weights. -/
theorem v131_at (b : Fin 8) (h : Fin 8) (t : Fin 4096) :
    val_main_v131 (F := Ideal) x0 x1 x2 (ix3 b h t) = res5 (aX x0) (aG x1) (aW x2) b h t := by
  unfold res5
  rw [← v13_at]
  unfold val_main_v131 val_main_v101 val_main_v100 val_main_cst_8 val_main_v19
  generalize val_main_v13 (F := Ideal) x0 x1 x2 = y
  pointwise []

/-- The rest of the reference's product. -/
theorem v20_at (b : Fin 8) (t : Fin 4096) (n : Fin 2048) :
    val_main_v20 (F := Ideal) x0 x1 x2 (ix3 b t n) = res6 (aX x0) (aG x1) (aW x2) b t n := by
  unfold res6
  rw [← v13_at]
  unfold val_main_v20
  generalize val_main_v13 (F := Ideal) x0 x1 x2 = y
  pointwise []

end Cert.ProjRef

end
-- ==== Proof.ProjArrays.lean ====
module

public import proofs.«01_k».proof.Proof.ProjSpec
public import proofs.«01_k».proof.Proof.Gen.Kernel3Ideal.Value
public import Idealize.ShloMosaic.Lib.StableHlo.ReadAt
public import Idealize.ShloMosaic.Lib.Claim

@[expose] public section

noncomputable section

namespace Cert.Proj

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-! ## The arguments, element by element -/

/-- The rows. -/
def argX (c : Dev nD) (b : Fin 8) (t : Fin 4096) (k : Fin 1024) : EReal := m ((c : Thread nD τ).loc main_arg0) (ix3 b t k)
/-- The gain of the rows. -/
def argG (c : Dev nD) (k : Fin 1024) : EReal := m ((c : Thread nD τ).loc main_arg1) (ix1 k)
/-- The weights. -/
def argW (c : Dev nD) (k : Fin 1024) (n : Fin 3400) : EReal := m ((c : Thread nD τ).loc main_arg2) (ix2 k n)
/-- The cosines. -/
def argC (c : Dev nD) (b : Fin 8) (t : Fin 4096) (k : Fin 32) : EReal := m ((c : Thread nD τ).loc main_arg3) (ix4 b t 0 k)
/-- The sines. -/
def argS (c : Dev nD) (b : Fin 8) (t : Fin 4096) (k : Fin 32) : EReal := m ((c : Thread nD τ).loc main_arg4) (ix4 b t 0 k)
/-- The gain of the queries. -/
def argQ (c : Dev nD) (k : Fin 64) : EReal := m ((c : Thread nD τ).loc main_arg5) (ix1 k)
/-- The gain of the keys. -/
def argK (c : Dev nD) (k : Fin 64) : EReal := m ((c : Thread nD τ).loc main_arg6) (ix1 k)

/-! ## The arrays the host hands to the grid -/

/-- The rows. -/
theorem V0_at (c : Dev nD) (b : Fin 8) (t : Fin 4096) (k : Fin 1024) : V m c main_arg0 (ix3 b t k) = argX m c b t k := by
  unfold V; after_reads_at; rfl

/-- The gain as a row. -/
theorem V9_at (c : Dev nD) (k : Fin 1024) : V m c main_v9 (ix2 0 k) = argG m c k := by
  unfold V; after_reads_at; rfl

/-- The first columns of the weights, as rows. -/
theorem V6_at (c : Dev nD) (n : Fin 1352) (k : Fin 1024) : V m c main_v6 (ix2 n k) = argW m c k ⟨n, by omega⟩ := by
  unfold V; after_reads_at; rfl

/-- The other columns of the weights. -/
theorem V8_at (c : Dev nD) (k : Fin 1024) (n : Fin 2048) : V m c main_v8 (ix2 k n) = argW m c k ⟨1352 + n, by omega⟩ := by
  unfold V; after_reads_at; rfl

/-- The cosines, one column a position. -/
theorem V1_at (c : Dev nD) (b : Fin 8) (k : Fin 32) (t : Fin 4096) : V m c main_v1 (ix3 b k t) = argC m c b t k := by
  unfold V; after_reads_at; rfl

/-- The sines, one column a position. -/
theorem V3_at (c : Dev nD) (b : Fin 8) (k : Fin 32) (t : Fin 4096) : V m c main_v3 (ix3 b k t) = argS m c b t k := by
  unfold V; after_reads_at; rfl

/-- The gain of the queries as a column. -/
theorem V10_at (c : Dev nD) (k : Fin 64) : V m c main_v10 (ix2 k 0) = argQ m c k := by
  unfold V; after_reads_at; rfl

/-- The gain of the keys as a column. -/
theorem V11_at (c : Dev nD) (k : Fin 64) : V m c main_v11 (ix2 k 0) = argK m c k := by
  unfold V; after_reads_at; rfl

end Cert.Proj

end
-- ==== Proof.ProjFinal.lean ====
module

public import proofs.«01_k».proof.Proof.ProjArrays

@[expose] public section

noncomputable section

namespace Cert.Proj

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- A grid point's number is below 64. -/
theorem pt_lt (t : Fin cfg0.N) : t.val < 64 := lt_of_lt_of_eq t.isLt N_0

/-! ## Where each window's block lies at a grid point -/

/-- Where window 0 lies. -/
theorem at0 : ∀ t : Fin grid0.N, win0_0.index t 0 = t.val / 8 ∧ win0_0.index t 1 = t.val % 8 ∧ win0_0.index t 2 = 0 := by decide +kernel

/-- Where window 1 lies. -/
theorem at1 : ∀ t : Fin grid0.N, win0_1.index t 0 = 0 ∧ win0_1.index t 1 = 0 := by decide +kernel

/-- Where window 2 lies. -/
theorem at2 : ∀ t : Fin grid0.N, win0_2.index t 0 = 0 ∧ win0_2.index t 1 = 0 := by decide +kernel

/-- Where window 3 lies. -/
theorem at3 : ∀ t : Fin grid0.N, win0_3.index t 0 = 0 ∧ win0_3.index t 1 = 0 := by decide +kernel

/-- Where window 4 lies. -/
theorem at4 : ∀ t : Fin grid0.N, win0_4.index t 0 = t.val / 8 ∧ win0_4.index t 1 = 0 ∧ win0_4.index t 2 = t.val % 8 := by decide +kernel

/-- Where window 5 lies. -/
theorem at5 : ∀ t : Fin grid0.N, win0_5.index t 0 = t.val / 8 ∧ win0_5.index t 1 = 0 ∧ win0_5.index t 2 = t.val % 8 := by decide +kernel

/-- Where window 6 lies. -/
theorem at6 : ∀ t : Fin grid0.N, win0_6.index t 0 = 0 ∧ win0_6.index t 1 = 0 := by decide +kernel

/-- Where window 7 lies. -/
theorem at7 : ∀ t : Fin grid0.N, win0_7.index t 0 = 0 ∧ win0_7.index t 1 = 0 := by decide +kernel

/-- Where window 8 lies. -/
theorem at8 : ∀ t : Fin grid0.N, win0_8.index t 0 = t.val / 8 ∧ win0_8.index t 1 = t.val % 8 ∧ win0_8.index t 2 = 0 ∧ win0_8.index t 3 = 0 := by decide +kernel

/-- Where window 9 lies. -/
theorem at9 : ∀ t : Fin grid0.N, win0_9.index t 0 = t.val / 8 ∧ win0_9.index t 1 = t.val % 8 ∧ win0_9.index t 2 = 0 := by decide +kernel

/-- Where window 10 lies. -/
theorem at10 : ∀ t : Fin grid0.N, win0_10.index t 0 = t.val / 8 ∧ win0_10.index t 1 = 0 ∧ win0_10.index t 2 = t.val % 8 := by decide +kernel

/-- Where window 11 lies. -/
theorem at11 : ∀ t : Fin grid0.N, win0_11.index t 0 = t.val / 8 ∧ win0_11.index t 1 = t.val % 8 ∧ win0_11.index t 2 = 0 ∧ win0_11.index t 3 = 0 := by decide +kernel

/-- Where window 12 lies. -/
theorem at12 : ∀ t : Fin grid0.N, win0_12.index t 0 = t.val / 8 ∧ win0_12.index t 1 = t.val % 8 ∧ win0_12.index t 2 = 0 := by decide +kernel

/-- Where window 13 lies. -/
theorem at13 : ∀ t : Fin grid0.N, win0_13.index t 0 = t.val / 8 ∧ win0_13.index t 1 = 0 ∧ win0_13.index t 2 = t.val % 8 := by decide +kernel

/-- Where window 14 lies. -/
theorem at14 : ∀ t : Fin grid0.N, win0_14.index t 0 = t.val / 8 ∧ win0_14.index t 1 = t.val % 8 ∧ win0_14.index t 2 = 0 := by decide +kernel

/-! ## The blocks a grid point reads -/

/-- The point's block of window 0, at an element. -/
theorem in0 (c : Dev nD) (t : Fin cfg0.N) (p : Fin 512) (k : Fin 1024) :
    (iblk m c 0 t : Vec Ideal S1x512x1024 .f32) (ix3 0 p k) = argX m c ⟨t / 8, by have := pt_lt t; omega⟩ ⟨512 * (t % 8) + p, by omega⟩ k := by
  have ht := pt_lt t
  obtain ⟨h0, h1, h2⟩ := at0 t
  rw [← V0_at]
  unfold iblk; rw [View.read_apply]
  show V m c main_arg0 _ = _
  congr 1; funext a; apply Fin.ext
  match a with
  | ⟨0, _⟩ => show win0_0.index t 0 * 1 + 1 * 0 = t.val / 8; rw [h0] <;> omega
  | ⟨1, _⟩ => show win0_0.index t 1 * 512 + 1 * p.val = 512 * (t.val % 8) + p.val; rw [h1] <;> omega
  | ⟨2, _⟩ => show win0_0.index t 2 * 1024 + 1 * k.val = k.val; rw [h2] <;> omega

/-- The point's block of window 1, at an element. -/
theorem in1 (c : Dev nD) (t : Fin cfg0.N) (k : Fin 1024) :
    (iblk m c 1 t : Vec Ideal S1x1024 .f32) (ix2 0 k) = argG m c k := by
  have ht := pt_lt t
  obtain ⟨h0, h1⟩ := at1 t
  rw [← V9_at]
  unfold iblk; rw [View.read_apply]
  show V m c main_v9 _ = _
  congr 1; funext a; apply Fin.ext
  match a with
  | ⟨0, _⟩ => show win0_1.index t 0 * 1 + 1 * 0 = 0; rw [h0] <;> omega
  | ⟨1, _⟩ => show win0_1.index t 1 * 1024 + 1 * k.val = k.val; rw [h1] <;> omega

/-- The point's block of window 2, at an element. -/
theorem in2 (c : Dev nD) (t : Fin cfg0.N) (n : Fin 1352) (k : Fin 1024) :
    (iblk m c 2 t : Vec Ideal S1352x1024 .bf16) (ix2 n k) = argW m c k ⟨n, by omega⟩ := by
  have ht := pt_lt t
  obtain ⟨h0, h1⟩ := at2 t
  rw [← V6_at]
  unfold iblk; rw [View.read_apply]
  show V m c main_v6 _ = _
  congr 1; funext a; apply Fin.ext
  match a with
  | ⟨0, _⟩ => show win0_2.index t 0 * 1352 + 1 * n.val = n.val; rw [h0] <;> omega
  | ⟨1, _⟩ => show win0_2.index t 1 * 1024 + 1 * k.val = k.val; rw [h1] <;> omega

/-- The point's block of window 3, at an element. -/
theorem in3 (c : Dev nD) (t : Fin cfg0.N) (k : Fin 1024) (n : Fin 2048) :
    (iblk m c 3 t : Vec Ideal S1024x2048 .bf16) (ix2 k n) = argW m c k ⟨1352 + n, by omega⟩ := by
  have ht := pt_lt t
  obtain ⟨h0, h1⟩ := at3 t
  rw [← V8_at]
  unfold iblk; rw [View.read_apply]
  show V m c main_v8 _ = _
  congr 1; funext a; apply Fin.ext
  match a with
  | ⟨0, _⟩ => show win0_3.index t 0 * 1024 + 1 * k.val = k.val; rw [h0] <;> omega
  | ⟨1, _⟩ => show win0_3.index t 1 * 2048 + 1 * n.val = n.val; rw [h1] <;> omega

/-- The point's block of window 4, at an element. -/
theorem in4 (c : Dev nD) (t : Fin cfg0.N) (k : Fin 32) (p : Fin 512) :
    (iblk m c 4 t : Vec Ideal S1x32x512 .f32) (ix3 0 k p) = argC m c ⟨t / 8, by have := pt_lt t; omega⟩ ⟨512 * (t % 8) + p, by omega⟩ k := by
  have ht := pt_lt t
  obtain ⟨h0, h1, h2⟩ := at4 t
  rw [← V1_at]
  unfold iblk; rw [View.read_apply]
  show V m c main_v1 _ = _
  congr 1; funext a; apply Fin.ext
  match a with
  | ⟨0, _⟩ => show win0_4.index t 0 * 1 + 1 * 0 = t.val / 8; rw [h0] <;> omega
  | ⟨1, _⟩ => show win0_4.index t 1 * 32 + 1 * k.val = k.val; rw [h1] <;> omega
  | ⟨2, _⟩ => show win0_4.index t 2 * 512 + 1 * p.val = 512 * (t.val % 8) + p.val; rw [h2] <;> omega

/-- The point's block of window 5, at an element. -/
theorem in5 (c : Dev nD) (t : Fin cfg0.N) (k : Fin 32) (p : Fin 512) :
    (iblk m c 5 t : Vec Ideal S1x32x512 .f32) (ix3 0 k p) = argS m c ⟨t / 8, by have := pt_lt t; omega⟩ ⟨512 * (t % 8) + p, by omega⟩ k := by
  have ht := pt_lt t
  obtain ⟨h0, h1, h2⟩ := at5 t
  rw [← V3_at]
  unfold iblk; rw [View.read_apply]
  show V m c main_v3 _ = _
  congr 1; funext a; apply Fin.ext
  match a with
  | ⟨0, _⟩ => show win0_5.index t 0 * 1 + 1 * 0 = t.val / 8; rw [h0] <;> omega
  | ⟨1, _⟩ => show win0_5.index t 1 * 32 + 1 * k.val = k.val; rw [h1] <;> omega
  | ⟨2, _⟩ => show win0_5.index t 2 * 512 + 1 * p.val = 512 * (t.val % 8) + p.val; rw [h2] <;> omega

/-- The point's block of window 6, at an element. -/
theorem in6 (c : Dev nD) (t : Fin cfg0.N) (k : Fin 64) :
    (iblk m c 6 t : Vec Ideal S64x1 .f32) (ix2 k 0) = argQ m c k := by
  have ht := pt_lt t
  obtain ⟨h0, h1⟩ := at6 t
  rw [← V10_at]
  unfold iblk; rw [View.read_apply]
  show V m c main_v10 _ = _
  congr 1; funext a; apply Fin.ext
  match a with
  | ⟨0, _⟩ => show win0_6.index t 0 * 64 + 1 * k.val = k.val; rw [h0] <;> omega
  | ⟨1, _⟩ => show win0_6.index t 1 * 1 + 1 * 0 = 0; rw [h1] <;> omega

/-- The point's block of window 7, at an element. -/
theorem in7 (c : Dev nD) (t : Fin cfg0.N) (k : Fin 64) :
    (iblk m c 7 t : Vec Ideal S64x1 .f32) (ix2 k 0) = argK m c k := by
  have ht := pt_lt t
  obtain ⟨h0, h1⟩ := at7 t
  rw [← V11_at]
  unfold iblk; rw [View.read_apply]
  show V m c main_v11 _ = _
  congr 1; funext a; apply Fin.ext
  match a with
  | ⟨0, _⟩ => show win0_7.index t 0 * 64 + 1 * k.val = k.val; rw [h0] <;> omega
  | ⟨1, _⟩ => show win0_7.index t 1 * 1 + 1 * 0 = 0; rw [h1] <;> omega

/-! ## The results, window by window -/

/-- The queries. -/
def G8 (c : Dev nD) : S8x32x128x1024.Idx → EReal := fun y => res0 (argX m c) (argG m c) (argW m c) (argC m c) (argS m c) (argQ m c) qscale (y 0) (y 1) (y 2) (y 3)

/-- What a grid point writes back of the queries is its block of them. -/
theorem flushed8_eq (c : Dev nD) (t : Fin cfg0.N) :
    (dats m 0 c).flushed 8 t = ((cfg0.win 8).blk t).view.read (Elt Ideal) (G8 m c) := by
  have ht := pt_lt t
  rw [Value.flushed8]
  funext j
  obtain ⟨u, r, e, rfl⟩ : ∃ (u : Fin 4) (r : Fin 128) (e : Fin 1024), j = ix4 0 u r e := ⟨j 1, j 2, j 3, by
    refine (eq_ix4 j).trans ?_; congr 1; exact Subsingleton.elim (α := Fin 1) _ _⟩
  rw [View.read_apply]
  have hj : ((cfg0.win 8).blk t).view.emb (ix4 0 u r e) = ix4 ⟨t / 8, by have := pt_lt t; omega⟩ ⟨4 * (t % 8) + u, by omega⟩ r e := by
    obtain ⟨h0, h1, h2, h3⟩ := at8 t
    funext a; apply Fin.ext
    match a with
    | ⟨0, _⟩ => show win0_8.index t 0 * 1 + 1 * 0 = t.val / 8; rw [h0] <;> omega
    | ⟨1, _⟩ => show win0_8.index t 1 * 4 + 1 * u.val = 4 * (t.val % 8) + u.val; rw [h1] <;> omega
    | ⟨2, _⟩ => show win0_8.index t 2 * 128 + 1 * r.val = r.val; rw [h2] <;> omega
    | ⟨3, _⟩ => show win0_8.index t 3 * 1024 + 1 * e.val = e.val; rw [h3] <;> omega
  rw [hj]
  show out0_8 (iblk m c 0 t : Vec Ideal S1x512x1024 .f32) (iblk m c 1 t : Vec Ideal S1x1024 .f32) (iblk m c 2 t : Vec Ideal S1352x1024 .bf16) (iblk m c 3 t : Vec Ideal S1024x2048 .bf16) (iblk m c 4 t : Vec Ideal S1x32x512 .f32) (iblk m c 5 t : Vec Ideal S1x32x512 .f32) (iblk m c 6 t : Vec Ideal S64x1 .f32) (iblk m c 7 t : Vec Ideal S64x1 .f32) (ix4 0 u r e) = res0 (argX m c) (argG m c) (argW m c) (argC m c) (argS m c) (argQ m c) qscale ⟨t / 8, by have := pt_lt t; omega⟩ ⟨4 * (t % 8) + u, by omega⟩ r e
  have hp : ∀ w, (⟨128 * (4 * (t.val % 8) + u.val) + e.val % 128, w⟩ : Fin 4096) = ⟨512 * (t.val % 8) + (128 * u.val + e.val % 128), by omega⟩ := fun w => Fin.ext (by dsimp only; omega)
  rw [out8_at]
  unfold res0 unit prodr
  simp only [in0, in1, in2, in3, in4, in5, in6, in7, hp]

/-- Every element of the queries is written back by some point. -/
theorem cover8 (i : S8x32x128x1024.Idx) : ∃ t : Fin cfg0.N, (cfg0.win 8).flush t = true ∧ i ∈ ((cfg0.win 8).blk t).view.set := by
  have hi0 : (i 0).val < 8 := (i 0).isLt
  have hi1 : (i 1).val < 32 := (i 1).isLt
  have hi2 : (i 2).val < 128 := (i 2).isLt
  have hi3 : (i 3).val < 1024 := (i 3).isLt
  have hN : cfg0.N = 64 := N_0
  refine ⟨⟨8 * (i 0).val + (i 1).val / 4, by rw [hN]; omega⟩, flush0_8 _, ?_⟩
  generalize ht : (⟨8 * (i 0).val + (i 1).val / 4, by rw [hN]; omega⟩ : Fin cfg0.N) = t
  have htv : t.val = 8 * (i 0).val + (i 1).val / 4 := by rw [← ht]
  obtain ⟨h0, h1, h2, h3⟩ := at8 t
  show i ∈ ((View.whole main_v12_0).slice (win0_8.rect t)).set
  rw [View.set_slice_whole, Rect.mem_set_unit]
  intro a
  match a with
  | ⟨0, _⟩ => show win0_8.index t 0 * 1 ≤ (i 0).val ∧ (i 0).val < win0_8.index t 0 * 1 + 1; rw [h0] <;> omega
  | ⟨1, _⟩ => show win0_8.index t 1 * 4 ≤ (i 1).val ∧ (i 1).val < win0_8.index t 1 * 4 + 4; rw [h1] <;> omega
  | ⟨2, _⟩ => show win0_8.index t 2 * 128 ≤ (i 2).val ∧ (i 2).val < win0_8.index t 2 * 128 + 128; rw [h2] <;> omega
  | ⟨3, _⟩ => show win0_8.index t 3 * 1024 ≤ (i 3).val ∧ (i 3).val < win0_8.index t 3 * 1024 + 1024; rw [h3] <;> omega

/-- The array the grid leaves is the queries. -/
theorem final8 (c : Dev nD) : (dats m 0 c).arrAt 8 cfg0.N = G8 m c :=
  (dats m 0 c).arrAt_eq_of_cover 8 (G8 m c) (fun t _ => flushed8_eq m c t) cover8

/-- The keys. -/
def G9 (c : Dev nD) : S8x4096x128.Idx → EReal := fun y => res1 (argX m c) (argG m c) (argW m c) (argC m c) (argS m c) (argK m c) (y 0) (y 1) (y 2)

/-- What a grid point writes back of the keys is its block of them. -/
theorem flushed9_eq (c : Dev nD) (t : Fin cfg0.N) :
    (dats m 0 c).flushed 9 t = ((cfg0.win 9).blk t).view.read (Elt Ideal) (G9 m c) := by
  have ht := pt_lt t
  rw [Value.flushed9]
  funext j
  obtain ⟨p, d, rfl⟩ : ∃ (p : Fin 512) (d : Fin 128), j = ix3 0 p d := ⟨j 1, j 2, by
    refine (eq_ix3 j).trans ?_; congr 1; exact Subsingleton.elim (α := Fin 1) _ _⟩
  rw [View.read_apply]
  have hj : ((cfg0.win 9).blk t).view.emb (ix3 0 p d) = ix3 ⟨t / 8, by have := pt_lt t; omega⟩ ⟨512 * (t % 8) + p, by omega⟩ d := by
    obtain ⟨h0, h1, h2⟩ := at9 t
    funext a; apply Fin.ext
    match a with
    | ⟨0, _⟩ => show win0_9.index t 0 * 1 + 1 * 0 = t.val / 8; rw [h0] <;> omega
    | ⟨1, _⟩ => show win0_9.index t 1 * 512 + 1 * p.val = 512 * (t.val % 8) + p.val; rw [h1] <;> omega
    | ⟨2, _⟩ => show win0_9.index t 2 * 128 + 1 * d.val = d.val; rw [h2] <;> omega
  rw [hj]
  show out0_9 (iblk m c 0 t : Vec Ideal S1x512x1024 .f32) (iblk m c 1 t : Vec Ideal S1x1024 .f32) (iblk m c 2 t : Vec Ideal S1352x1024 .bf16) (iblk m c 3 t : Vec Ideal S1024x2048 .bf16) (iblk m c 4 t : Vec Ideal S1x32x512 .f32) (iblk m c 5 t : Vec Ideal S1x32x512 .f32) (iblk m c 6 t : Vec Ideal S64x1 .f32) (iblk m c 7 t : Vec Ideal S64x1 .f32) (ix3 0 p d) = res1 (argX m c) (argG m c) (argW m c) (argC m c) (argS m c) (argK m c) ⟨t / 8, by have := pt_lt t; omega⟩ ⟨512 * (t % 8) + p, by omega⟩ d
  rw [out9_at]
  unfold res1 unit prodr
  simp only [in0, in1, in2, in3, in4, in5, in6, in7]

/-- Every element of the keys is written back by some point. -/
theorem cover9 (i : S8x4096x128.Idx) : ∃ t : Fin cfg0.N, (cfg0.win 9).flush t = true ∧ i ∈ ((cfg0.win 9).blk t).view.set := by
  have hi0 : (i 0).val < 8 := (i 0).isLt
  have hi1 : (i 1).val < 4096 := (i 1).isLt
  have hi2 : (i 2).val < 128 := (i 2).isLt
  have hN : cfg0.N = 64 := N_0
  refine ⟨⟨8 * (i 0).val + (i 1).val / 512, by rw [hN]; omega⟩, flush0_9 _, ?_⟩
  generalize ht : (⟨8 * (i 0).val + (i 1).val / 512, by rw [hN]; omega⟩ : Fin cfg0.N) = t
  have htv : t.val = 8 * (i 0).val + (i 1).val / 512 := by rw [← ht]
  obtain ⟨h0, h1, h2⟩ := at9 t
  show i ∈ ((View.whole main_v12_1).slice (win0_9.rect t)).set
  rw [View.set_slice_whole, Rect.mem_set_unit]
  intro a
  match a with
  | ⟨0, _⟩ => show win0_9.index t 0 * 1 ≤ (i 0).val ∧ (i 0).val < win0_9.index t 0 * 1 + 1; rw [h0] <;> omega
  | ⟨1, _⟩ => show win0_9.index t 1 * 512 ≤ (i 1).val ∧ (i 1).val < win0_9.index t 1 * 512 + 512; rw [h1] <;> omega
  | ⟨2, _⟩ => show win0_9.index t 2 * 128 ≤ (i 2).val ∧ (i 2).val < win0_9.index t 2 * 128 + 128; rw [h2] <;> omega

/-- The array the grid leaves is the keys. -/
theorem final9 (c : Dev nD) : (dats m 0 c).arrAt 9 cfg0.N = G9 m c :=
  (dats m 0 c).arrAt_eq_of_cover 9 (G9 m c) (fun t _ => flushed9_eq m c t) cover9

/-- The values. -/
def G10 (c : Dev nD) : S8x128x4096.Idx → EReal := fun y => res2 (argX m c) (argG m c) (argW m c) (y 0) (y 1) (y 2)

/-- What a grid point writes back of the values is its block of them. -/
theorem flushed10_eq (c : Dev nD) (t : Fin cfg0.N) :
    (dats m 0 c).flushed 10 t = ((cfg0.win 10).blk t).view.read (Elt Ideal) (G10 m c) := by
  have ht := pt_lt t
  rw [Value.flushed10]
  funext j
  obtain ⟨d, p, rfl⟩ : ∃ (d : Fin 128) (p : Fin 512), j = ix3 0 d p := ⟨j 1, j 2, by
    refine (eq_ix3 j).trans ?_; congr 1; exact Subsingleton.elim (α := Fin 1) _ _⟩
  rw [View.read_apply]
  have hj : ((cfg0.win 10).blk t).view.emb (ix3 0 d p) = ix3 ⟨t / 8, by have := pt_lt t; omega⟩ d ⟨512 * (t % 8) + p, by omega⟩ := by
    obtain ⟨h0, h1, h2⟩ := at10 t
    funext a; apply Fin.ext
    match a with
    | ⟨0, _⟩ => show win0_10.index t 0 * 1 + 1 * 0 = t.val / 8; rw [h0] <;> omega
    | ⟨1, _⟩ => show win0_10.index t 1 * 128 + 1 * d.val = d.val; rw [h1] <;> omega
    | ⟨2, _⟩ => show win0_10.index t 2 * 512 + 1 * p.val = 512 * (t.val % 8) + p.val; rw [h2] <;> omega
  rw [hj]
  show out0_10 (iblk m c 0 t : Vec Ideal S1x512x1024 .f32) (iblk m c 1 t : Vec Ideal S1x1024 .f32) (iblk m c 2 t : Vec Ideal S1352x1024 .bf16) (iblk m c 3 t : Vec Ideal S1024x2048 .bf16) (iblk m c 4 t : Vec Ideal S1x32x512 .f32) (iblk m c 5 t : Vec Ideal S1x32x512 .f32) (iblk m c 6 t : Vec Ideal S64x1 .f32) (iblk m c 7 t : Vec Ideal S64x1 .f32) (ix3 0 d p) = res2 (argX m c) (argG m c) (argW m c) ⟨t / 8, by have := pt_lt t; omega⟩ d ⟨512 * (t % 8) + p, by omega⟩
  rw [out10_at]
  unfold res2 prodr
  simp only [in0, in1, in2, in3, in4, in5, in6, in7]

/-- Every element of the values is written back by some point. -/
theorem cover10 (i : S8x128x4096.Idx) : ∃ t : Fin cfg0.N, (cfg0.win 10).flush t = true ∧ i ∈ ((cfg0.win 10).blk t).view.set := by
  have hi0 : (i 0).val < 8 := (i 0).isLt
  have hi1 : (i 1).val < 128 := (i 1).isLt
  have hi2 : (i 2).val < 4096 := (i 2).isLt
  have hN : cfg0.N = 64 := N_0
  refine ⟨⟨8 * (i 0).val + (i 2).val / 512, by rw [hN]; omega⟩, flush0_10 _, ?_⟩
  generalize ht : (⟨8 * (i 0).val + (i 2).val / 512, by rw [hN]; omega⟩ : Fin cfg0.N) = t
  have htv : t.val = 8 * (i 0).val + (i 2).val / 512 := by rw [← ht]
  obtain ⟨h0, h1, h2⟩ := at10 t
  show i ∈ ((View.whole main_v12_2).slice (win0_10.rect t)).set
  rw [View.set_slice_whole, Rect.mem_set_unit]
  intro a
  match a with
  | ⟨0, _⟩ => show win0_10.index t 0 * 1 ≤ (i 0).val ∧ (i 0).val < win0_10.index t 0 * 1 + 1; rw [h0] <;> omega
  | ⟨1, _⟩ => show win0_10.index t 1 * 128 ≤ (i 1).val ∧ (i 1).val < win0_10.index t 1 * 128 + 128; rw [h1] <;> omega
  | ⟨2, _⟩ => show win0_10.index t 2 * 512 ≤ (i 2).val ∧ (i 2).val < win0_10.index t 2 * 512 + 512; rw [h2] <;> omega

/-- The array the grid leaves is the values. -/
theorem final10 (c : Dev nD) : (dats m 0 c).arrAt 10 cfg0.N = G10 m c :=
  (dats m 0 c).arrAt_eq_of_cover 10 (G10 m c) (fun t _ => flushed10_eq m c t) cover10

/-- The index queries. -/
def G11 (c : Dev nD) : S8x32x128x1024.Idx → EReal := fun y => res3 (argX m c) (argG m c) (argW m c) (argC m c) (argS m c) (y 0) (y 1) (y 2) (y 3)

/-- What a grid point writes back of the index queries is its block of them. -/
theorem flushed11_eq (c : Dev nD) (t : Fin cfg0.N) :
    (dats m 0 c).flushed 11 t = ((cfg0.win 11).blk t).view.read (Elt Ideal) (G11 m c) := by
  have ht := pt_lt t
  rw [Value.flushed11]
  funext j
  obtain ⟨u, r, e, rfl⟩ : ∃ (u : Fin 4) (r : Fin 128) (e : Fin 1024), j = ix4 0 u r e := ⟨j 1, j 2, j 3, by
    refine (eq_ix4 j).trans ?_; congr 1; exact Subsingleton.elim (α := Fin 1) _ _⟩
  rw [View.read_apply]
  have hj : ((cfg0.win 11).blk t).view.emb (ix4 0 u r e) = ix4 ⟨t / 8, by have := pt_lt t; omega⟩ ⟨4 * (t % 8) + u, by omega⟩ r e := by
    obtain ⟨h0, h1, h2, h3⟩ := at11 t
    funext a; apply Fin.ext
    match a with
    | ⟨0, _⟩ => show win0_11.index t 0 * 1 + 1 * 0 = t.val / 8; rw [h0] <;> omega
    | ⟨1, _⟩ => show win0_11.index t 1 * 4 + 1 * u.val = 4 * (t.val % 8) + u.val; rw [h1] <;> omega
    | ⟨2, _⟩ => show win0_11.index t 2 * 128 + 1 * r.val = r.val; rw [h2] <;> omega
    | ⟨3, _⟩ => show win0_11.index t 3 * 1024 + 1 * e.val = e.val; rw [h3] <;> omega
  rw [hj]
  show out0_11 (iblk m c 0 t : Vec Ideal S1x512x1024 .f32) (iblk m c 1 t : Vec Ideal S1x1024 .f32) (iblk m c 2 t : Vec Ideal S1352x1024 .bf16) (iblk m c 3 t : Vec Ideal S1024x2048 .bf16) (iblk m c 4 t : Vec Ideal S1x32x512 .f32) (iblk m c 5 t : Vec Ideal S1x32x512 .f32) (iblk m c 6 t : Vec Ideal S64x1 .f32) (iblk m c 7 t : Vec Ideal S64x1 .f32) (ix4 0 u r e) = res3 (argX m c) (argG m c) (argW m c) (argC m c) (argS m c) ⟨t / 8, by have := pt_lt t; omega⟩ ⟨4 * (t % 8) + u, by omega⟩ r e
  have hp : ∀ w, (⟨128 * (4 * (t.val % 8) + u.val) + e.val % 128, w⟩ : Fin 4096) = ⟨512 * (t.val % 8) + (128 * u.val + e.val % 128), by omega⟩ := fun w => Fin.ext (by dsimp only; omega)
  rw [out11_at]
  unfold res3 plain prodr
  simp only [in0, in1, in2, in3, in4, in5, in6, in7, hp]

/-- Every element of the index queries is written back by some point. -/
theorem cover11 (i : S8x32x128x1024.Idx) : ∃ t : Fin cfg0.N, (cfg0.win 11).flush t = true ∧ i ∈ ((cfg0.win 11).blk t).view.set := by
  have hi0 : (i 0).val < 8 := (i 0).isLt
  have hi1 : (i 1).val < 32 := (i 1).isLt
  have hi2 : (i 2).val < 128 := (i 2).isLt
  have hi3 : (i 3).val < 1024 := (i 3).isLt
  have hN : cfg0.N = 64 := N_0
  refine ⟨⟨8 * (i 0).val + (i 1).val / 4, by rw [hN]; omega⟩, flush0_11 _, ?_⟩
  generalize ht : (⟨8 * (i 0).val + (i 1).val / 4, by rw [hN]; omega⟩ : Fin cfg0.N) = t
  have htv : t.val = 8 * (i 0).val + (i 1).val / 4 := by rw [← ht]
  obtain ⟨h0, h1, h2, h3⟩ := at11 t
  show i ∈ ((View.whole main_v12_3).slice (win0_11.rect t)).set
  rw [View.set_slice_whole, Rect.mem_set_unit]
  intro a
  match a with
  | ⟨0, _⟩ => show win0_11.index t 0 * 1 ≤ (i 0).val ∧ (i 0).val < win0_11.index t 0 * 1 + 1; rw [h0] <;> omega
  | ⟨1, _⟩ => show win0_11.index t 1 * 4 ≤ (i 1).val ∧ (i 1).val < win0_11.index t 1 * 4 + 4; rw [h1] <;> omega
  | ⟨2, _⟩ => show win0_11.index t 2 * 128 ≤ (i 2).val ∧ (i 2).val < win0_11.index t 2 * 128 + 128; rw [h2] <;> omega
  | ⟨3, _⟩ => show win0_11.index t 3 * 1024 ≤ (i 3).val ∧ (i 3).val < win0_11.index t 3 * 1024 + 1024; rw [h3] <;> omega

/-- The array the grid leaves is the index queries. -/
theorem final11 (c : Dev nD) : (dats m 0 c).arrAt 11 cfg0.N = G11 m c :=
  (dats m 0 c).arrAt_eq_of_cover 11 (G11 m c) (fun t _ => flushed11_eq m c t) cover11

/-- The index keys. -/
def G12 (c : Dev nD) : S8x4096x128.Idx → EReal := fun y => res4 (argX m c) (argG m c) (argW m c) (argC m c) (argS m c) (y 0) (y 1) (y 2)

/-- What a grid point writes back of the index keys is its block of them. -/
theorem flushed12_eq (c : Dev nD) (t : Fin cfg0.N) :
    (dats m 0 c).flushed 12 t = ((cfg0.win 12).blk t).view.read (Elt Ideal) (G12 m c) := by
  have ht := pt_lt t
  rw [Value.flushed12]
  funext j
  obtain ⟨p, d, rfl⟩ : ∃ (p : Fin 512) (d : Fin 128), j = ix3 0 p d := ⟨j 1, j 2, by
    refine (eq_ix3 j).trans ?_; congr 1; exact Subsingleton.elim (α := Fin 1) _ _⟩
  rw [View.read_apply]
  have hj : ((cfg0.win 12).blk t).view.emb (ix3 0 p d) = ix3 ⟨t / 8, by have := pt_lt t; omega⟩ ⟨512 * (t % 8) + p, by omega⟩ d := by
    obtain ⟨h0, h1, h2⟩ := at12 t
    funext a; apply Fin.ext
    match a with
    | ⟨0, _⟩ => show win0_12.index t 0 * 1 + 1 * 0 = t.val / 8; rw [h0] <;> omega
    | ⟨1, _⟩ => show win0_12.index t 1 * 512 + 1 * p.val = 512 * (t.val % 8) + p.val; rw [h1] <;> omega
    | ⟨2, _⟩ => show win0_12.index t 2 * 128 + 1 * d.val = d.val; rw [h2] <;> omega
  rw [hj]
  show out0_12 (iblk m c 0 t : Vec Ideal S1x512x1024 .f32) (iblk m c 1 t : Vec Ideal S1x1024 .f32) (iblk m c 2 t : Vec Ideal S1352x1024 .bf16) (iblk m c 3 t : Vec Ideal S1024x2048 .bf16) (iblk m c 4 t : Vec Ideal S1x32x512 .f32) (iblk m c 5 t : Vec Ideal S1x32x512 .f32) (iblk m c 6 t : Vec Ideal S64x1 .f32) (iblk m c 7 t : Vec Ideal S64x1 .f32) (ix3 0 p d) = res4 (argX m c) (argG m c) (argW m c) (argC m c) (argS m c) ⟨t / 8, by have := pt_lt t; omega⟩ ⟨512 * (t % 8) + p, by omega⟩ d
  rw [out12_at]
  unfold res4 plain prodr
  simp only [in0, in1, in2, in3, in4, in5, in6, in7]

/-- Every element of the index keys is written back by some point. -/
theorem cover12 (i : S8x4096x128.Idx) : ∃ t : Fin cfg0.N, (cfg0.win 12).flush t = true ∧ i ∈ ((cfg0.win 12).blk t).view.set := by
  have hi0 : (i 0).val < 8 := (i 0).isLt
  have hi1 : (i 1).val < 4096 := (i 1).isLt
  have hi2 : (i 2).val < 128 := (i 2).isLt
  have hN : cfg0.N = 64 := N_0
  refine ⟨⟨8 * (i 0).val + (i 1).val / 512, by rw [hN]; omega⟩, flush0_12 _, ?_⟩
  generalize ht : (⟨8 * (i 0).val + (i 1).val / 512, by rw [hN]; omega⟩ : Fin cfg0.N) = t
  have htv : t.val = 8 * (i 0).val + (i 1).val / 512 := by rw [← ht]
  obtain ⟨h0, h1, h2⟩ := at12 t
  show i ∈ ((View.whole main_v12_4).slice (win0_12.rect t)).set
  rw [View.set_slice_whole, Rect.mem_set_unit]
  intro a
  match a with
  | ⟨0, _⟩ => show win0_12.index t 0 * 1 ≤ (i 0).val ∧ (i 0).val < win0_12.index t 0 * 1 + 1; rw [h0] <;> omega
  | ⟨1, _⟩ => show win0_12.index t 1 * 512 ≤ (i 1).val ∧ (i 1).val < win0_12.index t 1 * 512 + 512; rw [h1] <;> omega
  | ⟨2, _⟩ => show win0_12.index t 2 * 128 ≤ (i 2).val ∧ (i 2).val < win0_12.index t 2 * 128 + 128; rw [h2] <;> omega

/-- The array the grid leaves is the index keys. -/
theorem final12 (c : Dev nD) : (dats m 0 c).arrAt 12 cfg0.N = G12 m c :=
  (dats m 0 c).arrAt_eq_of_cover 12 (G12 m c) (fun t _ => flushed12_eq m c t) cover12

/-- The index weights. -/
def G13 (c : Dev nD) : S8x8x4096.Idx → EReal := fun y => res5 (argX m c) (argG m c) (argW m c) (y 0) (y 1) (y 2)

/-- What a grid point writes back of the index weights is its block of them. -/
theorem flushed13_eq (c : Dev nD) (t : Fin cfg0.N) :
    (dats m 0 c).flushed 13 t = ((cfg0.win 13).blk t).view.read (Elt Ideal) (G13 m c) := by
  have ht := pt_lt t
  rw [Value.flushed13]
  funext j
  obtain ⟨h, p, rfl⟩ : ∃ (h : Fin 8) (p : Fin 512), j = ix3 0 h p := ⟨j 1, j 2, by
    refine (eq_ix3 j).trans ?_; congr 1; exact Subsingleton.elim (α := Fin 1) _ _⟩
  rw [View.read_apply]
  have hj : ((cfg0.win 13).blk t).view.emb (ix3 0 h p) = ix3 ⟨t / 8, by have := pt_lt t; omega⟩ h ⟨512 * (t % 8) + p, by omega⟩ := by
    obtain ⟨h0, h1, h2⟩ := at13 t
    funext a; apply Fin.ext
    match a with
    | ⟨0, _⟩ => show win0_13.index t 0 * 1 + 1 * 0 = t.val / 8; rw [h0] <;> omega
    | ⟨1, _⟩ => show win0_13.index t 1 * 8 + 1 * h.val = h.val; rw [h1] <;> omega
    | ⟨2, _⟩ => show win0_13.index t 2 * 512 + 1 * p.val = 512 * (t.val % 8) + p.val; rw [h2] <;> omega
  rw [hj]
  show out0_13 (iblk m c 0 t : Vec Ideal S1x512x1024 .f32) (iblk m c 1 t : Vec Ideal S1x1024 .f32) (iblk m c 2 t : Vec Ideal S1352x1024 .bf16) (iblk m c 3 t : Vec Ideal S1024x2048 .bf16) (iblk m c 4 t : Vec Ideal S1x32x512 .f32) (iblk m c 5 t : Vec Ideal S1x32x512 .f32) (iblk m c 6 t : Vec Ideal S64x1 .f32) (iblk m c 7 t : Vec Ideal S64x1 .f32) (ix3 0 h p) = res5 (argX m c) (argG m c) (argW m c) ⟨t / 8, by have := pt_lt t; omega⟩ h ⟨512 * (t % 8) + p, by omega⟩
  rw [out13_at]
  unfold res5 prodr
  simp only [in0, in1, in2, in3, in4, in5, in6, in7]

/-- Every element of the index weights is written back by some point. -/
theorem cover13 (i : S8x8x4096.Idx) : ∃ t : Fin cfg0.N, (cfg0.win 13).flush t = true ∧ i ∈ ((cfg0.win 13).blk t).view.set := by
  have hi0 : (i 0).val < 8 := (i 0).isLt
  have hi1 : (i 1).val < 8 := (i 1).isLt
  have hi2 : (i 2).val < 4096 := (i 2).isLt
  have hN : cfg0.N = 64 := N_0
  refine ⟨⟨8 * (i 0).val + (i 2).val / 512, by rw [hN]; omega⟩, flush0_13 _, ?_⟩
  generalize ht : (⟨8 * (i 0).val + (i 2).val / 512, by rw [hN]; omega⟩ : Fin cfg0.N) = t
  have htv : t.val = 8 * (i 0).val + (i 2).val / 512 := by rw [← ht]
  obtain ⟨h0, h1, h2⟩ := at13 t
  show i ∈ ((View.whole main_v12_5).slice (win0_13.rect t)).set
  rw [View.set_slice_whole, Rect.mem_set_unit]
  intro a
  match a with
  | ⟨0, _⟩ => show win0_13.index t 0 * 1 ≤ (i 0).val ∧ (i 0).val < win0_13.index t 0 * 1 + 1; rw [h0] <;> omega
  | ⟨1, _⟩ => show win0_13.index t 1 * 8 ≤ (i 1).val ∧ (i 1).val < win0_13.index t 1 * 8 + 8; rw [h1] <;> omega
  | ⟨2, _⟩ => show win0_13.index t 2 * 512 ≤ (i 2).val ∧ (i 2).val < win0_13.index t 2 * 512 + 512; rw [h2] <;> omega

/-- The array the grid leaves is the index weights. -/
theorem final13 (c : Dev nD) : (dats m 0 c).arrAt 13 cfg0.N = G13 m c :=
  (dats m 0 c).arrAt_eq_of_cover 13 (G13 m c) (fun t _ => flushed13_eq m c t) cover13

/-- The rest of the product. -/
def G14 (c : Dev nD) : S8x4096x2048.Idx → EReal := fun y => res6 (argX m c) (argG m c) (argW m c) (y 0) (y 1) (y 2)

/-- What a grid point writes back of the rest of the product is its block of them. -/
theorem flushed14_eq (c : Dev nD) (t : Fin cfg0.N) :
    (dats m 0 c).flushed 14 t = ((cfg0.win 14).blk t).view.read (Elt Ideal) (G14 m c) := by
  have ht := pt_lt t
  rw [Value.flushed14]
  funext j
  obtain ⟨p, n, rfl⟩ : ∃ (p : Fin 512) (n : Fin 2048), j = ix3 0 p n := ⟨j 1, j 2, by
    refine (eq_ix3 j).trans ?_; congr 1; exact Subsingleton.elim (α := Fin 1) _ _⟩
  rw [View.read_apply]
  have hj : ((cfg0.win 14).blk t).view.emb (ix3 0 p n) = ix3 ⟨t / 8, by have := pt_lt t; omega⟩ ⟨512 * (t % 8) + p, by omega⟩ n := by
    obtain ⟨h0, h1, h2⟩ := at14 t
    funext a; apply Fin.ext
    match a with
    | ⟨0, _⟩ => show win0_14.index t 0 * 1 + 1 * 0 = t.val / 8; rw [h0] <;> omega
    | ⟨1, _⟩ => show win0_14.index t 1 * 512 + 1 * p.val = 512 * (t.val % 8) + p.val; rw [h1] <;> omega
    | ⟨2, _⟩ => show win0_14.index t 2 * 2048 + 1 * n.val = n.val; rw [h2] <;> omega
  rw [hj]
  show out0_14 (iblk m c 0 t : Vec Ideal S1x512x1024 .f32) (iblk m c 1 t : Vec Ideal S1x1024 .f32) (iblk m c 2 t : Vec Ideal S1352x1024 .bf16) (iblk m c 3 t : Vec Ideal S1024x2048 .bf16) (iblk m c 4 t : Vec Ideal S1x32x512 .f32) (iblk m c 5 t : Vec Ideal S1x32x512 .f32) (iblk m c 6 t : Vec Ideal S64x1 .f32) (iblk m c 7 t : Vec Ideal S64x1 .f32) (ix3 0 p n) = res6 (argX m c) (argG m c) (argW m c) ⟨t / 8, by have := pt_lt t; omega⟩ ⟨512 * (t % 8) + p, by omega⟩ n
  rw [out14_at]
  unfold res6 prodr
  simp only [in0, in1, in2, in3, in4, in5, in6, in7]

/-- Every element of the rest of the product is written back by some point. -/
theorem cover14 (i : S8x4096x2048.Idx) : ∃ t : Fin cfg0.N, (cfg0.win 14).flush t = true ∧ i ∈ ((cfg0.win 14).blk t).view.set := by
  have hi0 : (i 0).val < 8 := (i 0).isLt
  have hi1 : (i 1).val < 4096 := (i 1).isLt
  have hi2 : (i 2).val < 2048 := (i 2).isLt
  have hN : cfg0.N = 64 := N_0
  refine ⟨⟨8 * (i 0).val + (i 1).val / 512, by rw [hN]; omega⟩, flush0_14 _, ?_⟩
  generalize ht : (⟨8 * (i 0).val + (i 1).val / 512, by rw [hN]; omega⟩ : Fin cfg0.N) = t
  have htv : t.val = 8 * (i 0).val + (i 1).val / 512 := by rw [← ht]
  obtain ⟨h0, h1, h2⟩ := at14 t
  show i ∈ ((View.whole main_v12_6).slice (win0_14.rect t)).set
  rw [View.set_slice_whole, Rect.mem_set_unit]
  intro a
  match a with
  | ⟨0, _⟩ => show win0_14.index t 0 * 1 ≤ (i 0).val ∧ (i 0).val < win0_14.index t 0 * 1 + 1; rw [h0] <;> omega
  | ⟨1, _⟩ => show win0_14.index t 1 * 512 ≤ (i 1).val ∧ (i 1).val < win0_14.index t 1 * 512 + 512; rw [h1] <;> omega
  | ⟨2, _⟩ => show win0_14.index t 2 * 2048 ≤ (i 2).val ∧ (i 2).val < win0_14.index t 2 * 2048 + 2048; rw [h2] <;> omega

/-- The array the grid leaves is the rest of the product. -/
theorem final14 (c : Dev nD) : (dats m 0 c).arrAt 14 cfg0.N = G14 m c :=
  (dats m 0 c).arrAt_eq_of_cover 14 (G14 m c) (fun t _ => flushed14_eq m c t) cover14

end Cert.Proj

end
-- ==== Proof.ProjClaim.lean ====
module

public import proofs.«01_k».proof.Defs
public import proofs.«01_k».proof.Proof.ProjRes
public import proofs.«01_k».proof.Proof.ProjFinal
public import proofs.«01_k».proof.Proof.SwaBridge
public import Idealize.ShloMosaic.Lib.Quiescent

@[expose] public section

noncomputable section

namespace Cert.ProjBridge

open Idealize.ShloMosaic Idealize.ShloMosaic.TcCoe Idealize.SL.Sem
open Cert.Kernel3Ideal (nD τ sig main_arg0 main_arg1 main_arg2 main_arg3 main_arg4 main_arg5 main_arg6)

/-- The kernel's query scale, one eighth over the logarithm of two, is the one the reference computes. -/
theorem scale_eq : Cert.ProjRef.scale = Cert.Proj.qscale := by
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  have hq : Cert.Proj.qscale = (((8 * Real.log 2)⁻¹ : ℝ) : EReal) :=
    IdealRules.named_const.ideal_named_scalar Cert.Kernel3Ideal.κ "qscale" (φ := .f32) 0x3E38AA3B#32 (((8 * Real.log 2)⁻¹ : ℝ) : EReal) rfl
  rw [hq]
  unfold Cert.ProjRef.scale
  rw [Cert.SwaBridge.bits_eighth, Cert.SwaBridge.bits_two, hl, Cert.Swa.div_coe _ (Real.log_pos (by norm_num)), ← EReal.coe_mul, mul_inv]

variable (m : (ℓ : Loc nD τ sig) → Buf (Elt Ideal) ℓ)

/-- The reference's queries are the kernel's. -/
theorem eq8 (c : Dev nD) : Cert.Reference3Ideal.Read.val_main_v123 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = Cert.Proj.G8 m c := by
  funext y
  obtain ⟨i, j, k, l, rfl⟩ : ∃ (i : Fin 8) (j : Fin 32) (k : Fin 128) (l : Fin 1024), y = ix4 i j k l := ⟨y 0, y 1, y 2, y 3, eq_ix4 y⟩
  refine (Cert.ProjRef.v123_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) i j k l).trans ?_
  rw [scale_eq]
  unfold Cert.Proj.G8
  rfl

/-- The reference's keys are the kernel's. -/
theorem eq9 (c : Dev nD) : Cert.Reference3Ideal.Read.val_main_v125 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) = Cert.Proj.G9 m c := by
  funext y
  obtain ⟨i, j, k, rfl⟩ : ∃ (i : Fin 8) (j : Fin 4096) (k : Fin 128), y = ix3 i j k := ⟨y 0, y 1, y 2, eq_ix3 y⟩
  refine (Cert.ProjRef.v125_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) i j k).trans ?_
  unfold Cert.Proj.G9
  rfl

/-- The reference's values are the kernel's. -/
theorem eq10 (c : Dev nD) : Cert.Reference3Ideal.Read.val_main_v127 (F := Ideal) (m ((c.tc : Thread nD τ).loc main_arg0)) (m ((c.tc : Thread nD τ).loc main_arg1)) (m ((c.tc : Thread nD τ).loc main_arg2)) = Cert.Proj.G10 m c := by
  funext y
  obtain ⟨i, j, k, rfl⟩ : ∃ (i : Fin 8) (j : Fin 128) (k : Fin 4096), y = ix3 i j k := ⟨y 0, y 1, y 2, eq_ix3 y⟩
  refine (Cert.ProjRef.v127_at (m ((c.tc : Thread nD τ).loc main_arg0)) (m ((c.tc : Thread nD τ).loc main_arg1)) (m ((c.tc : Thread nD τ).loc main_arg2)) i j k).trans ?_
  unfold Cert.Proj.G10
  rfl

/-- The reference's index queries are the kernel's. -/
theorem eq11 (c : Dev nD) : Cert.Reference3Ideal.Read.val_main_v129 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = Cert.Proj.G11 m c := by
  funext y
  obtain ⟨i, j, k, l, rfl⟩ : ∃ (i : Fin 8) (j : Fin 32) (k : Fin 128) (l : Fin 1024), y = ix4 i j k l := ⟨y 0, y 1, y 2, y 3, eq_ix4 y⟩
  refine (Cert.ProjRef.v129_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i j k l).trans ?_
  unfold Cert.Proj.G11
  rfl

/-- The reference's index keys are the kernel's. -/
theorem eq12 (c : Dev nD) : Cert.Reference3Ideal.Read.val_main_v130 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = Cert.Proj.G12 m c := by
  funext y
  obtain ⟨i, j, k, rfl⟩ : ∃ (i : Fin 8) (j : Fin 4096) (k : Fin 128), y = ix3 i j k := ⟨y 0, y 1, y 2, eq_ix3 y⟩
  refine (Cert.ProjRef.v130_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i j k).trans ?_
  unfold Cert.Proj.G12
  rfl

/-- The reference's index weights are the kernel's. -/
theorem eq13 (c : Dev nD) : Cert.Reference3Ideal.Read.val_main_v131 (F := Ideal) (m ((c.tc : Thread nD τ).loc main_arg0)) (m ((c.tc : Thread nD τ).loc main_arg1)) (m ((c.tc : Thread nD τ).loc main_arg2)) = Cert.Proj.G13 m c := by
  funext y
  obtain ⟨i, j, k, rfl⟩ : ∃ (i : Fin 8) (j : Fin 8) (k : Fin 4096), y = ix3 i j k := ⟨y 0, y 1, y 2, eq_ix3 y⟩
  refine (Cert.ProjRef.v131_at (m ((c.tc : Thread nD τ).loc main_arg0)) (m ((c.tc : Thread nD τ).loc main_arg1)) (m ((c.tc : Thread nD τ).loc main_arg2)) i j k).trans ?_
  unfold Cert.Proj.G13
  rfl

/-- The reference's rest of the product is the kernel's. -/
theorem eq14 (c : Dev nD) : Cert.Reference3Ideal.Read.val_main_v20 (F := Ideal) (m ((c.tc : Thread nD τ).loc main_arg0)) (m ((c.tc : Thread nD τ).loc main_arg1)) (m ((c.tc : Thread nD τ).loc main_arg2)) = Cert.Proj.G14 m c := by
  funext y
  obtain ⟨i, j, k, rfl⟩ : ∃ (i : Fin 8) (j : Fin 4096) (k : Fin 2048), y = ix3 i j k := ⟨y 0, y 1, y 2, eq_ix3 y⟩
  refine (Cert.ProjRef.v20_at (m ((c.tc : Thread nD τ).loc main_arg0)) (m ((c.tc : Thread nD τ).loc main_arg1)) (m ((c.tc : Thread nD τ).loc main_arg2)) i j k).trans ?_
  unfold Cert.Proj.G14
  rfl

/-- The projection kernel and its reference end with equal results, whatever the arguments. -/
theorem algebraic : @Cert.algebraic_Kernel3Ideal_Reference3Ideal Cert.Kernel3Ideal.Gen.facts Cert.Reference3Ideal.Gen.facts := by
  intro m g m' g' _ hargs
  refine ⟨fun c => Cert.Proj.G8 m c, fun c => Cert.Proj.G9 m c, fun c => Cert.Proj.G10 m c, fun c => Cert.Proj.G11 m c, fun c => Cert.Proj.G12 m c, fun c => Cert.Proj.G13 m c, fun c => Cert.Proj.G14 m c,
    (θ_run _ _ _).mono (fun r h c => ⟨(h c).1.trans (Cert.Proj.final8 m c), (h c).2.1.trans (Cert.Proj.final9 m c), (h c).2.2.1.trans (Cert.Proj.final10 m c), (h c).2.2.2.1.trans (Cert.Proj.final11 m c), (h c).2.2.2.2.1.trans (Cert.Proj.final12 m c), (h c).2.2.2.2.2.1.trans (Cert.Proj.final13 m c), (h c).2.2.2.2.2.2.1.trans (Cert.Proj.final14 m c), (h c).2.2.2.2.2.2.2⟩) (Cert.Kernel3Ideal.Value.run_blocks m g),
    (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩) (Cert.Reference3Ideal.Value.run m' g')⟩
  · obtain ⟨a0, a1, a2, a3, a4, a5, a6⟩ := hargs c
    rw [Cert.Reference3Ideal.Read.val_main_v123_eq, a0, a1, a2, a3, a4, a5]
    exact eq8 m c
  · obtain ⟨a0, a1, a2, a3, a4, a5, a6⟩ := hargs c
    rw [Cert.Reference3Ideal.Read.val_main_v125_eq, a0, a1, a2, a3, a4, a6]
    exact eq9 m c
  · obtain ⟨a0, a1, a2, a3, a4, a5, a6⟩ := hargs c
    rw [Cert.Reference3Ideal.Read.val_main_v127_eq, a0, a1, a2]
    exact eq10 m c
  · obtain ⟨a0, a1, a2, a3, a4, a5, a6⟩ := hargs c
    rw [Cert.Reference3Ideal.Read.val_main_v129_eq, a0, a1, a2, a3, a4]
    exact eq11 m c
  · obtain ⟨a0, a1, a2, a3, a4, a5, a6⟩ := hargs c
    rw [Cert.Reference3Ideal.Read.val_main_v130_eq, a0, a1, a2, a3, a4]
    exact eq12 m c
  · obtain ⟨a0, a1, a2, a3, a4, a5, a6⟩ := hargs c
    rw [Cert.Reference3Ideal.Read.val_main_v131_eq, a0, a1, a2]
    exact eq13 m c
  · obtain ⟨a0, a1, a2, a3, a4, a5, a6⟩ := hargs c
    rw [Cert.Reference3Ideal.Read.val_main_v20_eq, a0, a1, a2]
    exact eq14 m c

/-- The reference runs, ends with its arguments unchanged and every semaphore at zero. -/
theorem ref_frame : @Cert.quiescent_Reference3Ideal Cert.Reference3Ideal.Gen.facts := by
  intro m g _
  exact (θ_run _ _ _).mono (fun r h => ⟨fun c => (h c).2.2.2.2.2.2.2, sem_eq_zero_of_no_sems rfl r.2⟩) (Cert.Reference3Ideal.Value.run m g)

end Cert.ProjBridge

end
-- ==== Proof.Proj2Core.lean ====
module

public import proofs.«01_k».proof.Proof.ProjPoint
public import proofs.«01_k».proof.Proof.Gen.Kernel4Ideal.Frame

@[expose] public section

noncomputable section

namespace Cert.Proj2

open Idealize.ShloMosaic Cert.Kernel4Ideal Cert.Kernel4Ideal.Gen
open Cert.Proj (normed rot eps n64 qscale normB ropeB scaleB normB_at ropeB_at scaleB_at pair pair_at)

variable (z : FVec Ideal S768x512 .f32) (c s : FVec Ideal S32x512 .f32) (g : FVec Ideal S64x1 .f32)

/-- An attention query head of the block: 64 rows of the product normalised, turned and scaled. -/
def query (h : Fin 8) (d : Fin 64) (p : Fin 512) : EReal :=
  rot (normed n64 eps (fun k => z (ix2 ⟨64 * h + k, by omega⟩ p)) (fun k => g (ix2 k 0))) (fun k => c (ix2 k p)) (fun k => s (ix2 k p)) d * qscale

/-- A query head's rows, cut out of the product from the row `64 h` on, normalised, turned and scaled. -/
theorem query_at (h : Fin 8) (off : Fin 2 → ℕ) (ho : off = ![64 * h.val, 0]) (sl : S768x512.Slices off S64x512) (d : Fin 64) (p : Fin 512) :
    scaleB (ropeB (normB (extractStridedSlice S64x512 off z sl) g) c s) (ix2 d p) = query z c s g h d p := by
  subst ho
  rw [scaleB_at, ropeB_at]
  simp only [normB_at]
  unfold query
  have e : ∀ k : Fin 64, extractStridedSlice S64x512 ![64 * h.val, 0] z sl (ix2 k p) = z (ix2 ⟨64 * h + k, by omega⟩ p) := fun k => by
    pointwise []
  simp only [e]

/-- A key head of the block: 64 rows of the product normalised and turned. -/
def key (h : Fin 2) (d : Fin 64) (p : Fin 512) : EReal :=
  rot (normed n64 eps (fun k => z (ix2 ⟨512 + 64 * h + k, by omega⟩ p)) (fun k => g (ix2 k 0))) (fun k => c (ix2 k p)) (fun k => s (ix2 k p)) d

/-- A key head's rows, cut out of the product from the row `512 + 64 h` on, normalised and turned. -/
theorem key_at (h : Fin 2) (off : Fin 2 → ℕ) (ho : off = ![512 + 64 * h.val, 0]) (sl : S768x512.Slices off S64x512) (d : Fin 64) (p : Fin 512) :
    ropeB (normB (extractStridedSlice S64x512 off z sl) g) c s (ix2 d p) = key z c s g h d p := by
  subst ho
  rw [ropeB_at]
  simp only [normB_at]
  unfold key
  have e : ∀ k : Fin 64, extractStridedSlice S64x512 ![512 + 64 * h.val, 0] z sl (ix2 k p) = z (ix2 ⟨512 + 64 * h + k, by omega⟩ p) := fun k => by
    pointwise []
  simp only [e]

end Cert.Proj2

end
-- ==== Proof.Proj2Block.lean ====
module

public import proofs.«01_k».proof.Proof.Proj2Core

@[expose] public section

noncomputable section

namespace Cert.Proj2

open Idealize.ShloMosaic Cert.Kernel4Ideal Cert.Kernel4Ideal.Gen
open Cert.Proj (normB ropeB scaleB cell cell_apply)

variable (z : FVec Ideal S768x512 .f32) (c s : FVec Ideal S32x512 .f32) (g : FVec Ideal S64x1 .f32)

/-- The block of queries: 4 blocks of 128 positions, each head's 64 depths in the upper half of the rows for the first four heads
    and in the lower half for the other four, zeros elsewhere. -/
def Qblk : S1x4x128x1024.Idx → EReal := fun y =>
  if (y 2).val / 64 = (y 3).val / 128 / 4 then
    query z c s g ⟨(y 3).val / 128, by have h : (y 3).val < 1024 := (y 3).isLt; omega⟩ ⟨(y 2).val % 64, by omega⟩ ⟨128 * (y 1).val + (y 3).val % 128, by have h : (y 1).val < 4 := (y 1).isLt; omega⟩
  else 0

/-- A store of a query head is the block there. -/
theorem qpiece (h : Fin 8) (j : Fin 4) (off : Fin 4 → ℕ) (inb : ∀ a, off a + S1x1x64x128.size a ≤ S1x4x128x1024.size a)
    (h1 : off 1 = j.val) (h2 : off 2 = 64 * (h.val / 4)) (h3 : off 3 = 128 * h.val) (V : FVec Ideal S64x512 .bf16)
    (hV : ∀ d p, V (ix2 d p) = query z c s g h d p) (x : S1x1x64x128.Idx) :
    cell V j x = Qblk z c s g ((Rect.unit (s := S1x4x128x1024) off S1x1x64x128.size inb).emb x) := by
  have x1 : (x 1).val < 1 := (x 1).isLt
  have x2 : (x 2).val < 64 := (x 2).isLt
  have x3 : (x 3).val < 128 := (x 3).isLt
  unfold Qblk
  have e1 : (((Rect.unit (s := S1x4x128x1024) off S1x1x64x128.size inb).emb x) 1).val = off 1 + 1 * (x 1).val := rfl
  have e2 : (((Rect.unit (s := S1x4x128x1024) off S1x1x64x128.size inb).emb x) 2).val = off 2 + 1 * (x 2).val := rfl
  have e3 : (((Rect.unit (s := S1x4x128x1024) off S1x1x64x128.size inb).emb x) 3).val = off 3 + 1 * (x 3).val := rfl
  rw [if_pos (by rw [e2, e3]; omega), cell_apply V j x x2 x3, hV]
  congr 1 <;> apply Fin.ext <;> dsimp only
  · rw [e3]; omega
  · rw [e2]; omega
  · rw [e1, e3]; omega

/-- A store of zeros beside the queries is the block there. -/
theorem qnone (h : Fin 8) (off : Fin 4 → ℕ) (inb : ∀ a, off a + S1x1x64x128.size a ≤ S1x4x128x1024.size a)
    (h2 : off 2 = 64 * (1 - h.val / 4)) (h3 : off 3 = 128 * h.val) (x : S1x1x64x128.Idx) :
    shapeCast S1x1x64x128 (k0_pay10 (F := Ideal)) shapeCasts_S64x128_S1x1x64x128 x = Qblk z c s g ((Rect.unit (s := S1x4x128x1024) off S1x1x64x128.size inb).emb x) := by
  have x2 : (x 2).val < 64 := (x 2).isLt
  have x3 : (x 3).val < 128 := (x 3).isLt
  unfold Qblk
  have e2 : (((Rect.unit (s := S1x4x128x1024) off S1x1x64x128.size inb).emb x) 2).val = off 2 + 1 * (x 2).val := rfl
  have e3 : (((Rect.unit (s := S1x4x128x1024) off S1x1x64x128.size inb).emb x) 3).val = off 3 + 1 * (x 3).val := rfl
  rw [if_neg (by rw [e2, e3]; omega)]
  show Ideal.ofBits .bf16 0x0000#16 = 0
  simp [Ideal.ofBits, Ideal.ieee]

/-- Query head 0 of the block is its rows normalised, turned and scaled. -/
theorem qhead0 (d : Fin 64) (p : Fin 512) : (k0_pay11 z c s g : FVec Ideal S64x512 .bf16) (ix2 d p) = query z c s g 0 d p :=
  (congrFun (show (k0_pay11 z c s g : FVec Ideal S64x512 .bf16) = scaleB (ropeB (normB (extractStridedSlice S64x512 ![0, 0] z slices_S768x512_o0_0_S64x512) g) c s) from rfl) _).trans
    (query_at z c s g 0 _ rfl _ d p)

/-- Query head 1 of the block is its rows normalised, turned and scaled. -/
theorem qhead1 (d : Fin 64) (p : Fin 512) : (k0_pay22 c s (k0_pay20 z g) (k0_pay21 z g) : FVec Ideal S64x512 .bf16) (ix2 d p) = query z c s g 1 d p :=
  (congrFun (show (k0_pay22 c s (k0_pay20 z g) (k0_pay21 z g) : FVec Ideal S64x512 .bf16) = scaleB (ropeB (normB (extractStridedSlice S64x512 ![64, 0] z slices_S768x512_o64_0_S64x512) g) c s) from rfl) _).trans
    (query_at z c s g 1 _ rfl _ d p)

/-- Query head 2 of the block is its rows normalised, turned and scaled. -/
theorem qhead2 (d : Fin 64) (p : Fin 512) : (k0_pay31 z c s g : FVec Ideal S64x512 .bf16) (ix2 d p) = query z c s g 2 d p :=
  (congrFun (show (k0_pay31 z c s g : FVec Ideal S64x512 .bf16) = scaleB (ropeB (normB (extractStridedSlice S64x512 ![128, 0] z slices_S768x512_o128_0_S64x512) g) c s) from rfl) _).trans
    (query_at z c s g 2 _ rfl _ d p)

/-- Query head 3 of the block is its rows normalised, turned and scaled. -/
theorem qhead3 (d : Fin 64) (p : Fin 512) : (k0_pay42 c s g (k0_pay40 z) (k0_pay41 z) : FVec Ideal S64x512 .bf16) (ix2 d p) = query z c s g 3 d p :=
  (congrFun (show (k0_pay42 c s g (k0_pay40 z) (k0_pay41 z) : FVec Ideal S64x512 .bf16) = scaleB (ropeB (normB (extractStridedSlice S64x512 ![192, 0] z slices_S768x512_o192_0_S64x512) g) c s) from rfl) _).trans
    (query_at z c s g 3 _ rfl _ d p)

/-- Query head 4 of the block is its rows normalised, turned and scaled. -/
theorem qhead4 (d : Fin 64) (p : Fin 512) : (k0_pay52 (k0_pay51 z c s g) (Named.named κ "qscale" 0x3E38AA3B#32) : FVec Ideal S64x512 .bf16) (ix2 d p) = query z c s g 4 d p :=
  (congrFun (show (k0_pay52 (k0_pay51 z c s g) (Named.named κ "qscale" 0x3E38AA3B#32) : FVec Ideal S64x512 .bf16) = scaleB (ropeB (normB (extractStridedSlice S64x512 ![256, 0] z slices_S768x512_o256_0_S64x512) g) c s) from rfl) _).trans
    (query_at z c s g 4 _ rfl _ d p)

/-- Query head 5 of the block is its rows normalised, turned and scaled. -/
theorem qhead5 (d : Fin 64) (p : Fin 512) : (k0_pay62 z c s g : FVec Ideal S64x512 .bf16) (ix2 d p) = query z c s g 5 d p :=
  (congrFun (show (k0_pay62 z c s g : FVec Ideal S64x512 .bf16) = scaleB (ropeB (normB (extractStridedSlice S64x512 ![320, 0] z slices_S768x512_o320_0_S64x512) g) c s) from rfl) _).trans
    (query_at z c s g 5 _ rfl _ d p)

/-- Query head 6 of the block is its rows normalised, turned and scaled. -/
theorem qhead6 (d : Fin 64) (p : Fin 512) : (k0_pay74 c s g (k0_pay72 z) (k0_pay73 z) : FVec Ideal S64x512 .bf16) (ix2 d p) = query z c s g 6 d p :=
  (congrFun (show (k0_pay74 c s g (k0_pay72 z) (k0_pay73 z) : FVec Ideal S64x512 .bf16) = scaleB (ropeB (normB (extractStridedSlice S64x512 ![384, 0] z slices_S768x512_o384_0_S64x512) g) c s) from rfl) _).trans
    (query_at z c s g 6 _ rfl _ d p)

/-- Query head 7 of the block is its rows normalised, turned and scaled. -/
theorem qhead7 (d : Fin 64) (p : Fin 512) : (k0_pay83 z c s g : FVec Ideal S64x512 .bf16) (ix2 d p) = query z c s g 7 d p :=
  (congrFun (show (k0_pay83 z c s g : FVec Ideal S64x512 .bf16) = scaleB (ropeB (normB (extractStridedSlice S64x512 ![448, 0] z slices_S768x512_o448_0_S64x512) g) c s) from rfl) _).trans
    (query_at z c s g 7 _ rfl _ d p)

/-- The stores of the queries, one after the other, leave the block stated. -/
theorem qstores (y : S1x4x128x1024.Idx) : View.canon (⟨r0_69, k0_pay92 (k0_pay10 (F := Ideal))⟩ ::
    ⟨r0_68, k0_pay91 (k0_pay83 z c s g)⟩ ::
    ⟨r0_67, k0_pay90 (k0_pay10 (F := Ideal))⟩ ::
    ⟨r0_66, k0_pay89 (k0_pay83 z c s g)⟩ ::
    ⟨r0_65, k0_pay88 (k0_pay10 (F := Ideal))⟩ ::
    ⟨r0_64, k0_pay87 (k0_pay83 z c s g)⟩ ::
    ⟨r0_63, k0_pay86 (k0_pay10 (F := Ideal))⟩ ::
    ⟨r0_62, k0_pay85 (k0_pay84 z c s g)⟩ ::
    ⟨r0_61, k0_pay82 (k0_pay10 (F := Ideal))⟩ ::
    ⟨r0_60, k0_pay81 (k0_pay74 c s g (k0_pay72 z) (k0_pay73 z))⟩ ::
    ⟨r0_59, k0_pay80 (k0_pay10 (F := Ideal))⟩ ::
    ⟨r0_58, k0_pay79 c s g (k0_pay72 z) (k0_pay73 z)⟩ ::
    ⟨r0_57, k0_pay78 (k0_pay10 (F := Ideal))⟩ ::
    ⟨r0_56, k0_pay77 c s g (k0_pay72 z) (k0_pay73 z)⟩ ::
    ⟨r0_55, k0_pay76 (k0_pay10 (F := Ideal))⟩ ::
    ⟨r0_54, k0_pay75 c s g (k0_pay72 z) (k0_pay73 z)⟩ ::
    ⟨r0_53, k0_pay71 (k0_pay10 (F := Ideal))⟩ ::
    ⟨r0_52, k0_pay70 (k0_pay62 z c s g)⟩ ::
    ⟨r0_51, k0_pay69 (k0_pay10 (F := Ideal))⟩ ::
    ⟨r0_50, k0_pay68 (k0_pay62 z c s g)⟩ ::
    ⟨r0_49, k0_pay67 (k0_pay10 (F := Ideal))⟩ ::
    ⟨r0_48, k0_pay66 (k0_pay65 z c s g)⟩ ::
    ⟨r0_47, k0_pay64 (k0_pay10 (F := Ideal))⟩ ::
    ⟨r0_46, k0_pay63 z c s g⟩ ::
    ⟨r0_45, k0_pay61 (k0_pay10 (F := Ideal))⟩ ::
    ⟨r0_44, k0_pay60 (k0_pay59 (k0_pay51 z c s g) (Named.named κ "qscale" 0x3E38AA3B#32))⟩ ::
    ⟨r0_43, k0_pay58 (k0_pay10 (F := Ideal))⟩ ::
    ⟨r0_42, k0_pay57 (k0_pay51 z c s g) (Named.named κ "qscale" 0x3E38AA3B#32)⟩ ::
    ⟨r0_41, k0_pay56 (k0_pay10 (F := Ideal))⟩ ::
    ⟨r0_40, k0_pay55 (k0_pay51 z c s g) (Named.named κ "qscale" 0x3E38AA3B#32)⟩ ::
    ⟨r0_39, k0_pay54 (k0_pay10 (F := Ideal))⟩ ::
    ⟨r0_38, k0_pay53 (k0_pay51 z c s g) (Named.named κ "qscale" 0x3E38AA3B#32)⟩ ::
    ⟨r0_37, k0_pay50 (k0_pay10 (F := Ideal))⟩ ::
    ⟨r0_36, k0_pay49 (k0_pay42 c s g (k0_pay40 z) (k0_pay41 z))⟩ ::
    ⟨r0_35, k0_pay48 (k0_pay10 (F := Ideal))⟩ ::
    ⟨r0_34, k0_pay47 (k0_pay42 c s g (k0_pay40 z) (k0_pay41 z))⟩ ::
    ⟨r0_33, k0_pay46 (k0_pay10 (F := Ideal))⟩ ::
    ⟨r0_32, k0_pay45 c s g (k0_pay40 z) (k0_pay41 z)⟩ ::
    ⟨r0_31, k0_pay44 (k0_pay10 (F := Ideal))⟩ ::
    ⟨r0_30, k0_pay43 c s g (k0_pay40 z) (k0_pay41 z)⟩ ::
    ⟨r0_29, k0_pay39 (k0_pay10 (F := Ideal))⟩ ::
    ⟨r0_28, k0_pay38 (k0_pay31 z c s g)⟩ ::
    ⟨r0_27, k0_pay37 (k0_pay10 (F := Ideal))⟩ ::
    ⟨r0_26, k0_pay36 (k0_pay31 z c s g)⟩ ::
    ⟨r0_25, k0_pay35 (k0_pay10 (F := Ideal))⟩ ::
    ⟨r0_24, k0_pay34 (k0_pay31 z c s g)⟩ ::
    ⟨r0_23, k0_pay33 (k0_pay10 (F := Ideal))⟩ ::
    ⟨r0_22, k0_pay32 z c s g⟩ ::
    ⟨r0_21, k0_pay30 (k0_pay10 (F := Ideal))⟩ ::
    ⟨r0_20, k0_pay29 (k0_pay22 c s (k0_pay20 z g) (k0_pay21 z g))⟩ ::
    ⟨r0_19, k0_pay28 (k0_pay10 (F := Ideal))⟩ ::
    ⟨r0_18, k0_pay27 c s (k0_pay20 z g) (k0_pay21 z g)⟩ ::
    ⟨r0_17, k0_pay26 (k0_pay10 (F := Ideal))⟩ ::
    ⟨r0_16, k0_pay25 c s (k0_pay20 z g) (k0_pay21 z g)⟩ ::
    ⟨r0_15, k0_pay24 (k0_pay10 (F := Ideal))⟩ ::
    ⟨r0_14, k0_pay23 c s (k0_pay20 z g) (k0_pay21 z g)⟩ ::
    ⟨r0_13, k0_pay19 (k0_pay10 (F := Ideal))⟩ ::
    ⟨r0_12, k0_pay18 (k0_pay11 z c s g)⟩ ::
    ⟨r0_11, k0_pay17 (k0_pay10 (F := Ideal))⟩ ::
    ⟨r0_10, k0_pay16 (k0_pay11 z c s g)⟩ ::
    ⟨r0_9, k0_pay15 (k0_pay10 (F := Ideal))⟩ ::
    ⟨r0_8, k0_pay14 z c s g⟩ ::
    ⟨r0_7, k0_pay13 (F := Ideal)⟩ ::
    ⟨r0_6, k0_pay12 z c s g⟩ :: [] : List (View.Piece (Elt Ideal) S1x4x128x1024 .bf16)) y = Qblk z c s g y := by
  refine View.canon_apply_of_pieces (Val := Elt Ideal) (Qblk z c s g) _ ?_ y (cover0_8 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  intro pc hpc
  rcases List.mem_cons.mp hpc with rfl | hpc
  · exact fun x => qnone z c s g 7 ![0, 3, 0, 896] inb_S1x4x128x1024_S1x1x64x128_0_3_0_896 rfl rfl x
  rcases List.mem_cons.mp hpc with rfl | hpc
  · exact fun x => (congrFun (show k0_pay91 (k0_pay83 z c s g) = cell (k0_pay83 z c s g) 3 from rfl) x).trans (qpiece z c s g 7 3 ![0, 3, 64, 896] inb_S1x4x128x1024_S1x1x64x128_0_3_64_896 rfl rfl rfl _ (qhead7 z c s g) x)
  rcases List.mem_cons.mp hpc with rfl | hpc
  · exact fun x => qnone z c s g 7 ![0, 2, 0, 896] inb_S1x4x128x1024_S1x1x64x128_0_2_0_896 rfl rfl x
  rcases List.mem_cons.mp hpc with rfl | hpc
  · exact fun x => (congrFun (show k0_pay89 (k0_pay83 z c s g) = cell (k0_pay83 z c s g) 2 from rfl) x).trans (qpiece z c s g 7 2 ![0, 2, 64, 896] inb_S1x4x128x1024_S1x1x64x128_0_2_64_896 rfl rfl rfl _ (qhead7 z c s g) x)
  rcases List.mem_cons.mp hpc with rfl | hpc
  · exact fun x => qnone z c s g 7 ![0, 1, 0, 896] inb_S1x4x128x1024_S1x1x64x128_0_1_0_896 rfl rfl x
  rcases List.mem_cons.mp hpc with rfl | hpc
  · exact fun x => (congrFun (show k0_pay87 (k0_pay83 z c s g) = cell (k0_pay83 z c s g) 1 from rfl) x).trans (qpiece z c s g 7 1 ![0, 1, 64, 896] inb_S1x4x128x1024_S1x1x64x128_0_1_64_896 rfl rfl rfl _ (qhead7 z c s g) x)
  rcases List.mem_cons.mp hpc with rfl | hpc
  · exact fun x => qnone z c s g 7 ![0, 0, 0, 896] inb_S1x4x128x1024_S1x1x64x128_0_0_0_896 rfl rfl x
  rcases List.mem_cons.mp hpc with rfl | hpc
  · exact fun x => (congrFun (show k0_pay85 (k0_pay84 z c s g) = cell (k0_pay83 z c s g) 0 from rfl) x).trans (qpiece z c s g 7 0 ![0, 0, 64, 896] inb_S1x4x128x1024_S1x1x64x128_0_0_64_896 rfl rfl rfl _ (qhead7 z c s g) x)
  rcases List.mem_cons.mp hpc with rfl | hpc
  · exact fun x => qnone z c s g 6 ![0, 3, 0, 768] inb_S1x4x128x1024_S1x1x64x128_0_3_0_768 rfl rfl x
  rcases List.mem_cons.mp hpc with rfl | hpc
  · exact fun x => (congrFun (show k0_pay81 (k0_pay74 c s g (k0_pay72 z) (k0_pay73 z)) = cell (k0_pay74 c s g (k0_pay72 z) (k0_pay73 z)) 3 from rfl) x).trans (qpiece z c s g 6 3 ![0, 3, 64, 768] inb_S1x4x128x1024_S1x1x64x128_0_3_64_768 rfl rfl rfl _ (qhead6 z c s g) x)
  rcases List.mem_cons.mp hpc with rfl | hpc
  · exact fun x => qnone z c s g 6 ![0, 2, 0, 768] inb_S1x4x128x1024_S1x1x64x128_0_2_0_768 rfl rfl x
  rcases List.mem_cons.mp hpc with rfl | hpc
  · exact fun x => (congrFun (show k0_pay79 c s g (k0_pay72 z) (k0_pay73 z) = cell (k0_pay74 c s g (k0_pay72 z) (k0_pay73 z)) 2 from rfl) x).trans (qpiece z c s g 6 2 ![0, 2, 64, 768] inb_S1x4x128x1024_S1x1x64x128_0_2_64_768 rfl rfl rfl _ (qhead6 z c s g) x)
  rcases List.mem_cons.mp hpc with rfl | hpc
  · exact fun x => qnone z c s g 6 ![0, 1, 0, 768] inb_S1x4x128x1024_S1x1x64x128_0_1_0_768 rfl rfl x
  rcases List.mem_cons.mp hpc with rfl | hpc
  · exact fun x => (congrFun (show k0_pay77 c s g (k0_pay72 z) (k0_pay73 z) = cell (k0_pay74 c s g (k0_pay72 z) (k0_pay73 z)) 1 from rfl) x).trans (qpiece z c s g 6 1 ![0, 1, 64, 768] inb_S1x4x128x1024_S1x1x64x128_0_1_64_768 rfl rfl rfl _ (qhead6 z c s g) x)
  rcases List.mem_cons.mp hpc with rfl | hpc
  · exact fun x => qnone z c s g 6 ![0, 0, 0, 768] inb_S1x4x128x1024_S1x1x64x128_0_0_0_768 rfl rfl x
  rcases List.mem_cons.mp hpc with rfl | hpc
  · exact fun x => (congrFun (show k0_pay75 c s g (k0_pay72 z) (k0_pay73 z) = cell (k0_pay74 c s g (k0_pay72 z) (k0_pay73 z)) 0 from rfl) x).trans (qpiece z c s g 6 0 ![0, 0, 64, 768] inb_S1x4x128x1024_S1x1x64x128_0_0_64_768 rfl rfl rfl _ (qhead6 z c s g) x)
  rcases List.mem_cons.mp hpc with rfl | hpc
  · exact fun x => qnone z c s g 5 ![0, 3, 0, 640] inb_S1x4x128x1024_S1x1x64x128_0_3_0_640 rfl rfl x
  rcases List.mem_cons.mp hpc with rfl | hpc
  · exact fun x => (congrFun (show k0_pay70 (k0_pay62 z c s g) = cell (k0_pay62 z c s g) 3 from rfl) x).trans (qpiece z c s g 5 3 ![0, 3, 64, 640] inb_S1x4x128x1024_S1x1x64x128_0_3_64_640 rfl rfl rfl _ (qhead5 z c s g) x)
  rcases List.mem_cons.mp hpc with rfl | hpc
  · exact fun x => qnone z c s g 5 ![0, 2, 0, 640] inb_S1x4x128x1024_S1x1x64x128_0_2_0_640 rfl rfl x
  rcases List.mem_cons.mp hpc with rfl | hpc
  · exact fun x => (congrFun (show k0_pay68 (k0_pay62 z c s g) = cell (k0_pay62 z c s g) 2 from rfl) x).trans (qpiece z c s g 5 2 ![0, 2, 64, 640] inb_S1x4x128x1024_S1x1x64x128_0_2_64_640 rfl rfl rfl _ (qhead5 z c s g) x)
  rcases List.mem_cons.mp hpc with rfl | hpc
  · exact fun x => qnone z c s g 5 ![0, 1, 0, 640] inb_S1x4x128x1024_S1x1x64x128_0_1_0_640 rfl rfl x
  rcases List.mem_cons.mp hpc with rfl | hpc
  · exact fun x => (congrFun (show k0_pay66 (k0_pay65 z c s g) = cell (k0_pay62 z c s g) 1 from rfl) x).trans (qpiece z c s g 5 1 ![0, 1, 64, 640] inb_S1x4x128x1024_S1x1x64x128_0_1_64_640 rfl rfl rfl _ (qhead5 z c s g) x)
  rcases List.mem_cons.mp hpc with rfl | hpc
  · exact fun x => qnone z c s g 5 ![0, 0, 0, 640] inb_S1x4x128x1024_S1x1x64x128_0_0_0_640 rfl rfl x
  rcases List.mem_cons.mp hpc with rfl | hpc
  · exact fun x => (congrFun (show k0_pay63 z c s g = cell (k0_pay62 z c s g) 0 from rfl) x).trans (qpiece z c s g 5 0 ![0, 0, 64, 640] inb_S1x4x128x1024_S1x1x64x128_0_0_64_640 rfl rfl rfl _ (qhead5 z c s g) x)
  rcases List.mem_cons.mp hpc with rfl | hpc
  · exact fun x => qnone z c s g 4 ![0, 3, 0, 512] inb_S1x4x128x1024_S1x1x64x128_0_3_0_512 rfl rfl x
  rcases List.mem_cons.mp hpc with rfl | hpc
  · exact fun x => (congrFun (show k0_pay60 (k0_pay59 (k0_pay51 z c s g) (Named.named κ "qscale" 0x3E38AA3B#32)) = cell (k0_pay52 (k0_pay51 z c s g) (Named.named κ "qscale" 0x3E38AA3B#32)) 3 from rfl) x).trans (qpiece z c s g 4 3 ![0, 3, 64, 512] inb_S1x4x128x1024_S1x1x64x128_0_3_64_512 rfl rfl rfl _ (qhead4 z c s g) x)
  rcases List.mem_cons.mp hpc with rfl | hpc
  · exact fun x => qnone z c s g 4 ![0, 2, 0, 512] inb_S1x4x128x1024_S1x1x64x128_0_2_0_512 rfl rfl x
  rcases List.mem_cons.mp hpc with rfl | hpc
  · exact fun x => (congrFun (show k0_pay57 (k0_pay51 z c s g) (Named.named κ "qscale" 0x3E38AA3B#32) = cell (k0_pay52 (k0_pay51 z c s g) (Named.named κ "qscale" 0x3E38AA3B#32)) 2 from rfl) x).trans (qpiece z c s g 4 2 ![0, 2, 64, 512] inb_S1x4x128x1024_S1x1x64x128_0_2_64_512 rfl rfl rfl _ (qhead4 z c s g) x)
  rcases List.mem_cons.mp hpc with rfl | hpc
  · exact fun x => qnone z c s g 4 ![0, 1, 0, 512] inb_S1x4x128x1024_S1x1x64x128_0_1_0_512 rfl rfl x
  rcases List.mem_cons.mp hpc with rfl | hpc
  · exact fun x => (congrFun (show k0_pay55 (k0_pay51 z c s g) (Named.named κ "qscale" 0x3E38AA3B#32) = cell (k0_pay52 (k0_pay51 z c s g) (Named.named κ "qscale" 0x3E38AA3B#32)) 1 from rfl) x).trans (qpiece z c s g 4 1 ![0, 1, 64, 512] inb_S1x4x128x1024_S1x1x64x128_0_1_64_512 rfl rfl rfl _ (qhead4 z c s g) x)
  rcases List.mem_cons.mp hpc with rfl | hpc
  · exact fun x => qnone z c s g 4 ![0, 0, 0, 512] inb_S1x4x128x1024_S1x1x64x128_0_0_0_512 rfl rfl x
  rcases List.mem_cons.mp hpc with rfl | hpc
  · exact fun x => (congrFun (show k0_pay53 (k0_pay51 z c s g) (Named.named κ "qscale" 0x3E38AA3B#32) = cell (k0_pay52 (k0_pay51 z c s g) (Named.named κ "qscale" 0x3E38AA3B#32)) 0 from rfl) x).trans (qpiece z c s g 4 0 ![0, 0, 64, 512] inb_S1x4x128x1024_S1x1x64x128_0_0_64_512 rfl rfl rfl _ (qhead4 z c s g) x)
  rcases List.mem_cons.mp hpc with rfl | hpc
  · exact fun x => qnone z c s g 3 ![0, 3, 64, 384] inb_S1x4x128x1024_S1x1x64x128_0_3_64_384 rfl rfl x
  rcases List.mem_cons.mp hpc with rfl | hpc
  · exact fun x => (congrFun (show k0_pay49 (k0_pay42 c s g (k0_pay40 z) (k0_pay41 z)) = cell (k0_pay42 c s g (k0_pay40 z) (k0_pay41 z)) 3 from rfl) x).trans (qpiece z c s g 3 3 ![0, 3, 0, 384] inb_S1x4x128x1024_S1x1x64x128_0_3_0_384 rfl rfl rfl _ (qhead3 z c s g) x)
  rcases List.mem_cons.mp hpc with rfl | hpc
  · exact fun x => qnone z c s g 3 ![0, 2, 64, 384] inb_S1x4x128x1024_S1x1x64x128_0_2_64_384 rfl rfl x
  rcases List.mem_cons.mp hpc with rfl | hpc
  · exact fun x => (congrFun (show k0_pay47 (k0_pay42 c s g (k0_pay40 z) (k0_pay41 z)) = cell (k0_pay42 c s g (k0_pay40 z) (k0_pay41 z)) 2 from rfl) x).trans (qpiece z c s g 3 2 ![0, 2, 0, 384] inb_S1x4x128x1024_S1x1x64x128_0_2_0_384 rfl rfl rfl _ (qhead3 z c s g) x)
  rcases List.mem_cons.mp hpc with rfl | hpc
  · exact fun x => qnone z c s g 3 ![0, 1, 64, 384] inb_S1x4x128x1024_S1x1x64x128_0_1_64_384 rfl rfl x
  rcases List.mem_cons.mp hpc with rfl | hpc
  · exact fun x => (congrFun (show k0_pay45 c s g (k0_pay40 z) (k0_pay41 z) = cell (k0_pay42 c s g (k0_pay40 z) (k0_pay41 z)) 1 from rfl) x).trans (qpiece z c s g 3 1 ![0, 1, 0, 384] inb_S1x4x128x1024_S1x1x64x128_0_1_0_384 rfl rfl rfl _ (qhead3 z c s g) x)
  rcases List.mem_cons.mp hpc with rfl | hpc
  · exact fun x => qnone z c s g 3 ![0, 0, 64, 384] inb_S1x4x128x1024_S1x1x64x128_0_0_64_384 rfl rfl x
  rcases List.mem_cons.mp hpc with rfl | hpc
  · exact fun x => (congrFun (show k0_pay43 c s g (k0_pay40 z) (k0_pay41 z) = cell (k0_pay42 c s g (k0_pay40 z) (k0_pay41 z)) 0 from rfl) x).trans (qpiece z c s g 3 0 ![0, 0, 0, 384] inb_S1x4x128x1024_S1x1x64x128_0_0_0_384 rfl rfl rfl _ (qhead3 z c s g) x)
  rcases List.mem_cons.mp hpc with rfl | hpc
  · exact fun x => qnone z c s g 2 ![0, 3, 64, 256] inb_S1x4x128x1024_S1x1x64x128_0_3_64_256 rfl rfl x
  rcases List.mem_cons.mp hpc with rfl | hpc
  · exact fun x => (congrFun (show k0_pay38 (k0_pay31 z c s g) = cell (k0_pay31 z c s g) 3 from rfl) x).trans (qpiece z c s g 2 3 ![0, 3, 0, 256] inb_S1x4x128x1024_S1x1x64x128_0_3_0_256 rfl rfl rfl _ (qhead2 z c s g) x)
  rcases List.mem_cons.mp hpc with rfl | hpc
  · exact fun x => qnone z c s g 2 ![0, 2, 64, 256] inb_S1x4x128x1024_S1x1x64x128_0_2_64_256 rfl rfl x
  rcases List.mem_cons.mp hpc with rfl | hpc
  · exact fun x => (congrFun (show k0_pay36 (k0_pay31 z c s g) = cell (k0_pay31 z c s g) 2 from rfl) x).trans (qpiece z c s g 2 2 ![0, 2, 0, 256] inb_S1x4x128x1024_S1x1x64x128_0_2_0_256 rfl rfl rfl _ (qhead2 z c s g) x)
  rcases List.mem_cons.mp hpc with rfl | hpc
  · exact fun x => qnone z c s g 2 ![0, 1, 64, 256] inb_S1x4x128x1024_S1x1x64x128_0_1_64_256 rfl rfl x
  rcases List.mem_cons.mp hpc with rfl | hpc
  · exact fun x => (congrFun (show k0_pay34 (k0_pay31 z c s g) = cell (k0_pay31 z c s g) 1 from rfl) x).trans (qpiece z c s g 2 1 ![0, 1, 0, 256] inb_S1x4x128x1024_S1x1x64x128_0_1_0_256 rfl rfl rfl _ (qhead2 z c s g) x)
  rcases List.mem_cons.mp hpc with rfl | hpc
  · exact fun x => qnone z c s g 2 ![0, 0, 64, 256] inb_S1x4x128x1024_S1x1x64x128_0_0_64_256 rfl rfl x
  rcases List.mem_cons.mp hpc with rfl | hpc
  · exact fun x => (congrFun (show k0_pay32 z c s g = cell (k0_pay31 z c s g) 0 from rfl) x).trans (qpiece z c s g 2 0 ![0, 0, 0, 256] inb_S1x4x128x1024_S1x1x64x128_0_0_0_256 rfl rfl rfl _ (qhead2 z c s g) x)
  rcases List.mem_cons.mp hpc with rfl | hpc
  · exact fun x => qnone z c s g 1 ![0, 3, 64, 128] inb_S1x4x128x1024_S1x1x64x128_0_3_64_128 rfl rfl x
  rcases List.mem_cons.mp hpc with rfl | hpc
  · exact fun x => (congrFun (show k0_pay29 (k0_pay22 c s (k0_pay20 z g) (k0_pay21 z g)) = cell (k0_pay22 c s (k0_pay20 z g) (k0_pay21 z g)) 3 from rfl) x).trans (qpiece z c s g 1 3 ![0, 3, 0, 128] inb_S1x4x128x1024_S1x1x64x128_0_3_0_128 rfl rfl rfl _ (qhead1 z c s g) x)
  rcases List.mem_cons.mp hpc with rfl | hpc
  · exact fun x => qnone z c s g 1 ![0, 2, 64, 128] inb_S1x4x128x1024_S1x1x64x128_0_2_64_128 rfl rfl x
  rcases List.mem_cons.mp hpc with rfl | hpc
  · exact fun x => (congrFun (show k0_pay27 c s (k0_pay20 z g) (k0_pay21 z g) = cell (k0_pay22 c s (k0_pay20 z g) (k0_pay21 z g)) 2 from rfl) x).trans (qpiece z c s g 1 2 ![0, 2, 0, 128] inb_S1x4x128x1024_S1x1x64x128_0_2_0_128 rfl rfl rfl _ (qhead1 z c s g) x)
  rcases List.mem_cons.mp hpc with rfl | hpc
  · exact fun x => qnone z c s g 1 ![0, 1, 64, 128] inb_S1x4x128x1024_S1x1x64x128_0_1_64_128 rfl rfl x
  rcases List.mem_cons.mp hpc with rfl | hpc
  · exact fun x => (congrFun (show k0_pay25 c s (k0_pay20 z g) (k0_pay21 z g) = cell (k0_pay22 c s (k0_pay20 z g) (k0_pay21 z g)) 1 from rfl) x).trans (qpiece z c s g 1 1 ![0, 1, 0, 128] inb_S1x4x128x1024_S1x1x64x128_0_1_0_128 rfl rfl rfl _ (qhead1 z c s g) x)
  rcases List.mem_cons.mp hpc with rfl | hpc
  · exact fun x => qnone z c s g 1 ![0, 0, 64, 128] inb_S1x4x128x1024_S1x1x64x128_0_0_64_128 rfl rfl x
  rcases List.mem_cons.mp hpc with rfl | hpc
  · exact fun x => (congrFun (show k0_pay23 c s (k0_pay20 z g) (k0_pay21 z g) = cell (k0_pay22 c s (k0_pay20 z g) (k0_pay21 z g)) 0 from rfl) x).trans (qpiece z c s g 1 0 ![0, 0, 0, 128] inb_S1x4x128x1024_S1x1x64x128_0_0_0_128 rfl rfl rfl _ (qhead1 z c s g) x)
  rcases List.mem_cons.mp hpc with rfl | hpc
  · exact fun x => qnone z c s g 0 ![0, 3, 64, 0] inb_S1x4x128x1024_S1x1x64x128_0_3_64_0 rfl rfl x
  rcases List.mem_cons.mp hpc with rfl | hpc
  · exact fun x => (congrFun (show k0_pay18 (k0_pay11 z c s g) = cell (k0_pay11 z c s g) 3 from rfl) x).trans (qpiece z c s g 0 3 ![0, 3, 0, 0] inb_S1x4x128x1024_S1x1x64x128_0_3_0_0 rfl rfl rfl _ (qhead0 z c s g) x)
  rcases List.mem_cons.mp hpc with rfl | hpc
  · exact fun x => qnone z c s g 0 ![0, 2, 64, 0] inb_S1x4x128x1024_S1x1x64x128_0_2_64_0 rfl rfl x
  rcases List.mem_cons.mp hpc with rfl | hpc
  · exact fun x => (congrFun (show k0_pay16 (k0_pay11 z c s g) = cell (k0_pay11 z c s g) 2 from rfl) x).trans (qpiece z c s g 0 2 ![0, 2, 0, 0] inb_S1x4x128x1024_S1x1x64x128_0_2_0_0 rfl rfl rfl _ (qhead0 z c s g) x)
  rcases List.mem_cons.mp hpc with rfl | hpc
  · exact fun x => qnone z c s g 0 ![0, 1, 64, 0] inb_S1x4x128x1024_S1x1x64x128_0_1_64_0 rfl rfl x
  rcases List.mem_cons.mp hpc with rfl | hpc
  · exact fun x => (congrFun (show k0_pay14 z c s g = cell (k0_pay11 z c s g) 1 from rfl) x).trans (qpiece z c s g 0 1 ![0, 1, 0, 0] inb_S1x4x128x1024_S1x1x64x128_0_1_0_0 rfl rfl rfl _ (qhead0 z c s g) x)
  rcases List.mem_cons.mp hpc with rfl | hpc
  · exact fun x => qnone z c s g 0 ![0, 0, 64, 0] inb_S1x4x128x1024_S1x1x64x128_0_0_64_0 rfl rfl x
  rcases List.mem_cons.mp hpc with rfl | hpc
  · exact fun x => (congrFun (show k0_pay12 z c s g = cell (k0_pay11 z c s g) 0 from rfl) x).trans (qpiece z c s g 0 0 ![0, 0, 0, 0] inb_S1x4x128x1024_S1x1x64x128_0_0_0_0 rfl rfl rfl _ (qhead0 z c s g) x)
  nomatch hpc

end Cert.Proj2

end
-- ==== Proof.Proj2Point.lean ====
module

public import proofs.«01_k».proof.Proof.Proj2Block

@[expose] public section

noncomputable section

namespace Cert.Proj2

open Idealize.ShloMosaic Cert.Kernel4Ideal Cert.Kernel4Ideal.Gen
open Cert.Proj (normed rot eps n1024 n64 qscale normB ropeB pair pair_at dot zero2 zero3)

/-- The normalised rows of the block, at an element. -/
theorem pay3_at (x : Vec Ideal S1x512x1024 .f32) (g : Vec Ideal S1x1024 .f32) (r : Fin 512) (k : Fin 1024) :
    k0_pay3 x g (ix2 r k) = normed n1024 eps (fun k => x (ix3 0 r k)) (fun k => g (ix2 0 k)) k := by
  unfold k0_pay3
  pointwise [normed]

/-- The transposed product, at an element: the row's dot product with a row of the weights. -/
theorem pay4_at (x : Vec Ideal S1x512x1024 .f32) (g : Vec Ideal S1x1024 .f32) (w : Vec Ideal S768x1024 .bf16) (n : Fin 768) (r : Fin 512) :
    k0_pay4 x g w (ix2 n r) = dot (fun k => x (ix3 0 r k)) (fun k => g (ix2 0 k)) (fun k => w (ix2 n k)) := by
  have e : k0_pay4 x g w (ix2 n r) = ∑ k : Fin 1024, w (ix2 n k) * k0_pay3 x g (ix2 r k) := by
    unfold k0_pay4
    generalize k0_pay3 x g = y
    pointwise []
  rw [e]
  unfold dot
  refine Finset.sum_congr rfl fun k _ => ?_
  rw [pay3_at]
  exact mul_comm _ _

/-- The other product, at an element. -/
theorem pay5_at (x : Vec Ideal S1x512x1024 .f32) (g : Vec Ideal S1x1024 .f32) (w : Vec Ideal S1024x1024 .bf16) (r : Fin 512) (n : Fin 1024) :
    k0_pay5 x g w (ix3 0 r n) = dot (fun k => x (ix3 0 r k)) (fun k => g (ix2 0 k)) (fun k => w (ix2 k n)) := by
  have e : k0_pay5 x g w (ix3 0 r n) = ∑ k : Fin 1024, k0_pay3 x g (ix2 r k) * w (ix2 k n) := by
    unfold k0_pay5
    generalize k0_pay3 x g = y
    pointwise []
  rw [e]
  unfold dot
  refine Finset.sum_congr rfl fun k _ => ?_
  rw [pay3_at]

variable (z : FVec Ideal S768x512 .f32) (c s : FVec Ideal S32x512 .f32) (g : FVec Ideal S64x1 .f32)

/-- The keys of the block, at an element. -/
theorem pay93_at (p : Fin 512) (d : Fin 128) :
    k0_pay1 (k0_pay93 z c s g) (ix3 0 p d) = key z c s g ⟨d / 64, by omega⟩ ⟨d % 64, by omega⟩ p := by
  have e : k0_pay1 (k0_pay93 z c s g) (ix3 0 p d) = k0_pay93 z c s g (ix2 p d) := by
    unfold k0_pay1
    generalize k0_pay93 z c s g = y
    pointwise []
  rw [e, show k0_pay93 z c s g = pair (ropeB (normB (extractStridedSlice S64x512 ![512, 0] z slices_S768x512_o512_0_S64x512) g) c s)
      (ropeB (normB (extractStridedSlice S64x512 ![576, 0] z slices_S768x512_o576_0_S64x512) g) c s) from rfl, pair_at]
  split
  · refine (key_at z c s g 0 ![512, 0] rfl _ _ _).trans ?_
    congr 1 <;> apply Fin.ext <;> dsimp only <;> omega
  · refine (key_at z c s g 1 ![576, 0] rfl _ _ _).trans ?_
    congr 1 <;> apply Fin.ext <;> dsimp only <;> omega

/-- The values of the block, at an element. -/
theorem pay2_at (d : Fin 128) (p : Fin 512) : k0_pay2 z (ix3 0 d p) = z (ix2 ⟨640 + d, by omega⟩ p) := by
  unfold k0_pay2
  pointwise []

/-! ## What a grid point leaves, from its input blocks -/

variable (x0 : Vec Ideal S1x512x1024 .f32) (x1 : Vec Ideal S1x1024 .f32) (x2 : Vec Ideal S768x1024 .bf16) (x3 : Vec Ideal S1024x1024 .bf16)
  (x4 x5 : Vec Ideal S1x32x512 .f32) (x6 x7 : Vec Ideal S64x1 .f32)

/-- The product of the block, at an element. -/
theorem prod_at (n : Fin 768) (p : Fin 512) :
    k0_pay94 x0 x1 x2 x3 x4 x5 x6 x7 (ix2 n p) = dot (fun k => x0 (ix3 0 p k)) (fun k => x1 (ix2 0 k)) (fun k => x2 (ix2 n k)) := by
  unfold k0_pay94
  rw [View.ld_unit_zero (S := S1x512x1024) zero3, View.ld_unit_zero (S := S1x1024) zero2, View.ld_unit_zero (S := S768x1024) zero2, pay4_at]

/-- The cosines of the block, at an element. -/
theorem cos_at (k : Fin 32) (p : Fin 512) : k0_pay95 x0 x1 x2 x3 x4 x5 x6 x7 (ix2 k p) = x4 (ix3 0 k p) := by
  unfold k0_pay95
  rw [View.ld_unit_zero (S := S1x32x512) zero3]
  unfold k0_pay6
  pointwise []

/-- The sines of the block, at an element. -/
theorem sin_at (k : Fin 32) (p : Fin 512) : k0_pay96 x0 x1 x2 x3 x4 x5 x6 x7 (ix2 k p) = x5 (ix3 0 k p) := by
  unfold k0_pay96
  rw [View.ld_unit_zero (S := S1x32x512) zero3]
  unfold k0_pay7
  pointwise []

/-- The gain of the queries, at an element. -/
theorem gain_at (k : Fin 64) : k0_pay97 x0 x1 x2 x3 x4 x5 x6 x7 (ix2 k 0) = x6 (ix2 k 0) := by
  unfold k0_pay97
  rw [View.ld_unit_zero (S := S64x1) zero2]
  unfold k0_pay8
  pointwise []

/-- The gain of the keys, at an element. -/
theorem gain9_at (k : Fin 64) : k0_pay9 (View.ld x7 r0_5) (ix2 k 0) = x7 (ix2 k 0) := by
  rw [View.ld_unit_zero (S := S64x1) zero2]
  unfold k0_pay9
  pointwise []

/-- The point's queries, at an element. -/
theorem out8_at (u : Fin 4) (r : Fin 128) (e : Fin 1024) :
    out0_8 x0 x1 x2 x3 x4 x5 x6 x7 (ix4 0 u r e) = if r.val / 64 = e.val / 128 / 4 then
      rot (normed n64 eps (fun k => dot (fun l => x0 (ix3 0 ⟨128 * u + e % 128, by omega⟩ l)) (fun l => x1 (ix2 0 l)) (fun l => x2 (ix2 ⟨64 * (e / 128) + k, by omega⟩ l))) (fun k => x6 (ix2 k 0)))
        (fun k => x4 (ix3 0 k ⟨128 * u + e % 128, by omega⟩)) (fun k => x5 (ix3 0 k ⟨128 * u + e % 128, by omega⟩)) ⟨r % 64, by omega⟩ * qscale else 0 := by
  have h : out0_8 x0 x1 x2 x3 x4 x5 x6 x7 (ix4 0 u r e) = Qblk (k0_pay94 x0 x1 x2 x3 x4 x5 x6 x7) (k0_pay95 x0 x1 x2 x3 x4 x5 x6 x7) (k0_pay96 x0 x1 x2 x3 x4 x5 x6 x7) (k0_pay97 x0 x1 x2 x3 x4 x5 x6 x7) (ix4 0 u r e) :=
    qstores _ _ _ _ _
  rw [h]
  unfold Qblk query
  simp only [prod_at, cos_at, sin_at, gain_at]
  rfl

/-- The point's keys, at an element. -/
theorem out9_at (p : Fin 512) (d : Fin 128) :
    out0_9 x0 x1 x2 x3 x4 x5 x6 x7 (ix3 0 p d) =
      rot (normed n64 eps (fun k => dot (fun l => x0 (ix3 0 p l)) (fun l => x1 (ix2 0 l)) (fun l => x2 (ix2 ⟨512 + 64 * (d / 64) + k, by omega⟩ l))) (fun k => x7 (ix2 k 0)))
        (fun k => x4 (ix3 0 k p)) (fun k => x5 (ix3 0 k p)) ⟨d % 64, by omega⟩ := by
  unfold out0_9
  rw [View.canon_cons_unit_zero (S := S1x512x128) zero3, pay93_at]
  unfold key
  simp only [prod_at, cos_at, sin_at, gain9_at]

/-- The point's values, at an element. -/
theorem out10_at (d : Fin 128) (p : Fin 512) :
    out0_10 x0 x1 x2 x3 x4 x5 x6 x7 (ix3 0 d p) = dot (fun l => x0 (ix3 0 p l)) (fun l => x1 (ix2 0 l)) (fun l => x2 (ix2 ⟨640 + d, by omega⟩ l)) := by
  unfold out0_10
  rw [View.canon_cons_unit_zero (S := S1x128x512) zero3, pay2_at, prod_at]

/-- The rest of the point's product, at an element. -/
theorem out11_at (p : Fin 512) (n : Fin 1024) :
    out0_11 x0 x1 x2 x3 x4 x5 x6 x7 (ix3 0 p n) = dot (fun l => x0 (ix3 0 p l)) (fun l => x1 (ix2 0 l)) (fun l => x3 (ix2 l n)) := by
  unfold out0_11
  rw [View.canon_cons_unit_zero (S := S1x512x1024) zero3, View.ld_unit_zero (S := S1x512x1024) zero3, View.ld_unit_zero (S := S1x1024) zero2, View.ld_unit_zero (S := S1024x1024) zero2, pay5_at]

end Cert.Proj2

end
-- ==== Proof.Proj2Spec.lean ====
module

public import proofs.«01_k».proof.Proof.Proj2Point

@[expose] public section

noncomputable section

namespace Cert.Proj2

open Idealize.ShloMosaic
open Cert.Proj (dot rot normed n64 eps)

/-! ## The four results of the input projection of the second layer, over the extended reals

The rows `X`, the gain `g` and the weights `W` give one product row for each position; the cosines `C` and sines `S`
turn its heads, the gains `qg` and `kg` weigh the normalised heads, `q` scales the queries. -/

variable (X : Fin 8 → Fin 4096 → Fin 1024 → EReal) (g : Fin 1024 → EReal) (W : Fin 1024 → Fin 1792 → EReal)
  (C S : Fin 8 → Fin 4096 → Fin 32 → EReal) (qg kg : Fin 64 → EReal) (q : EReal)

/-- The product row of a position, at a column. -/
def prodr (b : Fin 8) (t : Fin 4096) (n : Fin 1792) : EReal := dot (X b t) g (fun k => W k n)

/-- The head of 64 columns from the column `1024 + o` on, normalised and turned. -/
def unit (o : ℕ) (ho : o + 64 ≤ 768) (w : Fin 64 → EReal) (b : Fin 8) (t : Fin 4096) : Fin 64 → EReal :=
  rot (normed n64 eps (fun k => prodr X g W b t ⟨1024 + (o + k), by omega⟩) w) (C b t) (S b t)

/-- The queries: in blocks of 128 positions, one row a depth, one column a head and a position, the heads of the second key head below those of the first. -/
def res0 (b : Fin 8) (u : Fin 32) (r : Fin 128) (e : Fin 1024) : EReal :=
  if r.val / 64 = e.val / 128 / 4 then
    unit X g W C S (64 * (e.val / 128)) (by omega) qg b ⟨128 * u + e % 128, by omega⟩ ⟨r % 64, by omega⟩ * q
  else 0

/-- The keys, the two heads side by side. -/
def res1 (b : Fin 8) (t : Fin 4096) (d : Fin 128) : EReal :=
  unit X g W C S (512 + 64 * (d.val / 64)) (by omega) kg b t ⟨d % 64, by omega⟩

/-- The values, one column a position. -/
def res2 (b : Fin 8) (d : Fin 128) (t : Fin 4096) : EReal := prodr X g W b t ⟨1024 + (640 + d), by omega⟩

/-- The rest of the product. -/
def res3 (b : Fin 8) (t : Fin 4096) (n : Fin 1024) : EReal := prodr X g W b t ⟨n, by omega⟩

end Cert.Proj2

end
-- ==== Proof.Proj2Ref.lean ====
module

public import proofs.«01_k».proof.Proof.Proj2Spec
public import proofs.«01_k».proof.Proof.ProjRes
public import proofs.«01_k».proof.Proof.Gen.Reference4Ideal.Read
public import Idealize.ShloMosaic.Lib.Pointwise

@[expose] public section

noncomputable section

namespace Cert.Proj2Ref

open Idealize.ShloMosaic Cert.Reference4Ideal Cert.Reference4Ideal.Gen Cert.Reference4Ideal.Read
open Cert.Proj (normed rot dot n1024 n64 eps)
open Cert.ProjRef (aX aG aT aH half scale cong5 cut_at join_at sw_at narrow_at heads_at)
open Cert.Proj2 (prodr unit res0 res1 res2 res3)

variable (x0 : FVec Ideal S8x4096x1024 .f32) (x1 : FVec Ideal S1024 .f32) (x2 : FVec Ideal S1024x1792 .f32)
  (x3 x4 : FVec Ideal S8x4096x1x32 .f32) (x5 x6 : FVec Ideal S64 .f32)

/-- The weights. -/
abbrev aW : Fin 1024 → Fin 1792 → EReal := fun k n => x2 (ix2 k n)
/-- The mean of a row's squares. -/
theorem v1_at (b : Fin 8) (t : Fin 4096) : val_main_v1 (F := Ideal) x0 (ix2 b t) = ∑ k : Fin 1024, x0 (ix3 b t k) * x0 (ix3 b t k) := by
  unfold val_main_v1 val_main_v0 val_main_cst
  pointwise []

/-- The normalised rows. -/
theorem v12_at (b : Fin 8) (t : Fin 4096) (k : Fin 1024) :
    val_main_v12 (F := Ideal) x0 x1 (ix3 b t k) = normed n1024 eps (aX x0 b t) (aG x1) k := by
  unfold val_main_v12 val_main_v11 val_main_v10 val_main_v9 val_main_v8 val_main_v7 val_main_v6 val_main_v5 val_main_v4 val_main_v3 val_main_v2 val_main_cst_0 val_main_cst_1
  have h := v1_at x0 b t
  generalize val_main_v1 (F := Ideal) x0 = y at h ⊢
  pointwise [normed]
  rw [h]

/-- The product. -/
theorem v13_at (b : Fin 8) (t : Fin 4096) (n : Fin 1792) :
    val_main_v13 (F := Ideal) x0 x1 x2 (ix3 b t n) = prodr (aX x0) (aG x1) (aW x2) b t n := by
  have e : val_main_v13 (F := Ideal) x0 x1 x2 (ix3 b t n) = ∑ k : Fin 1024, val_main_v12 (F := Ideal) x0 x1 (ix3 b t k) * x2 (ix2 k n) := by
    unfold val_main_v13
    generalize val_main_v12 (F := Ideal) x0 x1 = y
    pointwise []
  rw [e]
  unfold prodr dot
  simp only [v12_at]

/-- The query heads of the product. -/
theorem v18_at (b : Fin 8) (t : Fin 4096) (h : Fin 8) (d : Fin 64) :
    val_main_v18 (F := Ideal) x0 x1 x2 (ix4 b t h d) = prodr (aX x0) (aG x1) (aW x2) b t ⟨1024 + (64 * h + d), by omega⟩ := by
  rw [← v13_at]
  unfold val_main_v18 val_main_v15
  generalize val_main_v13 (F := Ideal) x0 x1 x2 = y
  pointwise []
  congr 2; apply Fin.ext; dsimp only; omega

/-- The key heads of the product. -/
theorem v45_at (b : Fin 8) (t : Fin 4096) (h : Fin 2) (d : Fin 64) :
    val_main_v45 (F := Ideal) x0 x1 x2 (ix4 b t h d) = prodr (aX x0) (aG x1) (aW x2) b t ⟨1024 + (512 + 64 * h + d), by omega⟩ := by
  rw [← v13_at]
  unfold val_main_v45 val_main_v16
  generalize val_main_v13 (F := Ideal) x0 x1 x2 = y
  pointwise []
  congr 2; apply Fin.ext; dsimp only; omega

/-- The sum of a query head's squares. -/
theorem v20_at (b : Fin 8) (t : Fin 4096) (h : Fin 8) :
    val_main_v20 (F := Ideal) x0 x1 x2 (ix3 b t h) = ∑ k : Fin 64, val_main_v18 (F := Ideal) x0 x1 x2 (ix4 b t h k) * val_main_v18 (F := Ideal) x0 x1 x2 (ix4 b t h k) := by
  unfold val_main_v20 val_main_v19 val_main_cst_2
  generalize val_main_v18 (F := Ideal) x0 x1 x2 = y
  pointwise []

/-- The normalised query heads. -/
theorem v31_at (b : Fin 8) (t : Fin 4096) (h : Fin 8) (d : Fin 64) :
    val_main_v31 (F := Ideal) x0 x1 x2 x5 (ix4 b t h d) = normed n64 eps (fun k => val_main_v18 (F := Ideal) x0 x1 x2 (ix4 b t h k)) (aH x5) d := by
  have e := v20_at x0 x1 x2 b t h
  unfold val_main_v31 val_main_v30 val_main_v29 val_main_v28 val_main_v27 val_main_v26 val_main_v25 val_main_v24 val_main_v23 val_main_v22 val_main_v21 val_main_cst_3 val_main_cst_4
  generalize val_main_v20 (F := Ideal) x0 x1 x2 = y at e ⊢
  generalize val_main_v18 (F := Ideal) x0 x1 x2 = y' at e ⊢
  pointwise [normed]
  rw [e]

/-- The sum of a key head's squares. -/
theorem v47_at (b : Fin 8) (t : Fin 4096) (h : Fin 2) :
    val_main_v47 (F := Ideal) x0 x1 x2 (ix3 b t h) = ∑ k : Fin 64, val_main_v45 (F := Ideal) x0 x1 x2 (ix4 b t h k) * val_main_v45 (F := Ideal) x0 x1 x2 (ix4 b t h k) := by
  unfold val_main_v47 val_main_v46 val_main_cst_5
  generalize val_main_v45 (F := Ideal) x0 x1 x2 = y
  pointwise []

/-- The normalised key heads. -/
theorem v58_at (b : Fin 8) (t : Fin 4096) (h : Fin 2) (d : Fin 64) :
    val_main_v58 (F := Ideal) x0 x1 x2 x6 (ix4 b t h d) = normed n64 eps (fun k => val_main_v45 (F := Ideal) x0 x1 x2 (ix4 b t h k)) (aH x6) d := by
  have e := v47_at x0 x1 x2 b t h
  unfold val_main_v58 val_main_v57 val_main_v56 val_main_v55 val_main_v54 val_main_v53 val_main_v52 val_main_v51 val_main_v50 val_main_v49 val_main_v48 val_main_cst_6 val_main_cst_7
  generalize val_main_v47 (F := Ideal) x0 x1 x2 = y at e ⊢
  generalize val_main_v45 (F := Ideal) x0 x1 x2 = y' at e ⊢
  pointwise [normed]
  rw [e]

/-- The query heads turned. -/
theorem v44_at (b : Fin 8) (t : Fin 4096) (h : Fin 8) (d : Fin 64) :
    val_main_v44 (F := Ideal) x0 x1 x2 x3 x4 x5 (ix4 b t h d) = rot (fun k => val_main_v31 (F := Ideal) x0 x1 x2 x5 (ix4 b t h k)) (aT x3 b t) (aT x4 b t) d := by
  unfold val_main_v44 val_main_v43 val_main_v42 val_main_v41 val_main_v40 val_main_v39 val_main_v38 val_main_v37 val_main_v36 val_main_v35 val_main_v34 val_main_v33 val_main_v32
  generalize val_main_v31 (F := Ideal) x0 x1 x2 x5 = y
  unfold rot
  pointwise []
  split
  · rfl
  · rename_i hd
    simp only [half d hd]

/-- The key heads turned. -/
theorem v71_at (b : Fin 8) (t : Fin 4096) (h : Fin 2) (d : Fin 64) :
    val_main_v71 (F := Ideal) x0 x1 x2 x3 x4 x6 (ix4 b t h d) = rot (fun k => val_main_v58 (F := Ideal) x0 x1 x2 x6 (ix4 b t h k)) (aT x3 b t) (aT x4 b t) d := by
  unfold val_main_v71 val_main_v70 val_main_v69 val_main_v68 val_main_v67 val_main_v66 val_main_v65 val_main_v64 val_main_v63 val_main_v62 val_main_v61 val_main_v60 val_main_v59
  generalize val_main_v58 (F := Ideal) x0 x1 x2 x6 = y
  unfold rot
  pointwise []
  split
  · rfl
  · rename_i hd
    simp only [half d hd]

/-- The queries scaled, in blocks of 128 positions, the depth first. -/
theorem v78_at (b : Fin 8) (u : Fin 32) (d : Fin 64) (h : Fin 8) (r : Fin 128) :
    val_main_v78 (F := Ideal) x0 x1 x2 x3 x4 x5 (ix5 b u d h r) = val_main_v44 (F := Ideal) x0 x1 x2 x3 x4 x5 (ix4 b ⟨128 * u + r, by omega⟩ h d) * scale := by
  unfold val_main_v78 val_main_v77 val_main_v76 val_main_v75 val_main_v74 val_main_v73 val_main_v72 val_main_cst_8 val_main_cst_9
  generalize val_main_v44 (F := Ideal) x0 x1 x2 x3 x4 x5 = y
  pointwise []
  exact congrArg₂ (· * ·) (congrArg y (by congr 1; apply Fin.ext; dsimp only; omega)) rfl

end Cert.Proj2Ref

end
-- ==== Proof.Proj2Res.lean ====
module

public import proofs.«01_k».proof.Proof.Proj2Ref
public import Idealize.ShloMosaic.Lib.Pointwise

@[expose] public section

noncomputable section

namespace Cert.Proj2Ref

open Idealize.ShloMosaic Cert.Reference4Ideal Cert.Reference4Ideal.Gen Cert.Reference4Ideal.Read
open Cert.Proj (normed rot dot n1024 n64 eps)
open Cert.ProjRef (aX aG aT aH half scale cong5 cut_at join_at sw_at narrow_at heads_at)
open Cert.Proj2 (prodr unit res0 res1 res2 res3)

variable (x0 : FVec Ideal S8x4096x1024 .f32) (x1 : FVec Ideal S1024 .f32) (x2 : FVec Ideal S1024x1792 .f32)
  (x3 x4 : FVec Ideal S8x4096x1x32 .f32) (x5 x6 : FVec Ideal S64 .f32)

/-- The queries of the first key head above those of the second. -/
theorem v85_at (b : Fin 8) (u : Fin 32) (d : Fin 128) (h : Fin 8) (r : Fin 128) :
    val_main_v85 (F := Ideal) x0 x1 x2 x3 x4 x5 (ix5 b u d h r) = if d.val / 64 = h.val / 4 then val_main_v78 (F := Ideal) x0 x1 x2 x3 x4 x5 (ix5 b u ⟨d % 64, by omega⟩ h r) else 0 := by
  have hz : Ideal.ofBits .f32 0x00000000#32 = 0 := by simp [Ideal.ofBits, Ideal.ieee]
  unfold val_main_v85 val_main_v84 val_main_v83 val_main_v82 val_main_v81 val_main_v80 val_main_cst_10
  generalize val_main_v78 (F := Ideal) x0 x1 x2 x3 x4 x5 = y
  pointwise []
  by_cases hd : d.val < 64
  · by_cases hh : h.val < 4
    · rw [dif_pos hd, dif_pos hh, if_pos (show d.val / 64 = h.val / 4 by omega)]
      exact cong5 y b u r (by dsimp only; omega) rfl
    · rw [dif_pos hd, dif_neg hh, if_neg (by omega)]
  · by_cases hh : h.val < 4
    · rw [dif_neg hd, dif_pos hh, if_neg (by omega)]
    · rw [dif_neg hd, dif_neg hh, if_pos (show d.val / 64 = h.val / 4 by omega)]
      exact cong5 y b u r (by dsimp only; omega) (by dsimp only; omega)

/-! ## The results of the reference -/

/-- The reference's queries. -/
theorem v87_at (b : Fin 8) (u : Fin 32) (r : Fin 128) (e : Fin 1024) :
    val_main_v87 (F := Ideal) x0 x1 x2 x3 x4 x5 (ix4 b u r e) = res0 (aX x0) (aG x1) (aW x2) (aT x3) (aT x4) (aH x5) scale b u r e := by
  have h : val_main_v87 (F := Ideal) x0 x1 x2 x3 x4 x5 (ix4 b u r e) = val_main_v85 (F := Ideal) x0 x1 x2 x3 x4 x5 (ix5 b u r ⟨e / 128, by omega⟩ ⟨e % 128, by omega⟩) := by
    have s : val_main_v87 (F := Ideal) x0 x1 x2 x3 x4 x5 (ix4 b u r e) = val_main_v86 (F := Ideal) x0 x1 x2 x3 x4 x5 (ix4 b u r e) := by
      unfold val_main_v87
      exact narrow_at _ _
    rw [s]
    unfold val_main_v86
    generalize val_main_v85 (F := Ideal) x0 x1 x2 x3 x4 x5 = y
    exact join_at y b u r e
  rw [h, v85_at, v78_at, v44_at]
  simp only [v31_at, v18_at]
  unfold res0 unit
  with_reducible rfl

/-- The reference's keys. -/
theorem v89_at (b : Fin 8) (t : Fin 4096) (d : Fin 128) :
    val_main_v89 (F := Ideal) x0 x1 x2 x3 x4 x6 (ix3 b t d) = res1 (aX x0) (aG x1) (aW x2) (aT x3) (aT x4) (aH x6) b t d := by
  have h : val_main_v89 (F := Ideal) x0 x1 x2 x3 x4 x6 (ix3 b t d) = val_main_v71 (F := Ideal) x0 x1 x2 x3 x4 x6 (ix4 b t ⟨d / 64, by omega⟩ ⟨d % 64, by omega⟩) := by
    have s : val_main_v89 (F := Ideal) x0 x1 x2 x3 x4 x6 (ix3 b t d) = val_main_v88 (F := Ideal) x0 x1 x2 x3 x4 x6 (ix3 b t d) := by
      unfold val_main_v89
      exact narrow_at _ _
    rw [s]
    unfold val_main_v88
    generalize val_main_v71 (F := Ideal) x0 x1 x2 x3 x4 x6 = y
    exact heads_at y b t d
  rw [h, v71_at]
  simp only [v58_at, v45_at]
  unfold res1 unit
  with_reducible rfl

/-- The reference's values. -/
theorem v91_at (b : Fin 8) (d : Fin 128) (t : Fin 4096) :
    val_main_v91 (F := Ideal) x0 x1 x2 (ix3 b d t) = res2 (aX x0) (aG x1) (aW x2) b d t := by
  unfold res2
  rw [← v13_at]
  unfold val_main_v91 val_main_v90 val_main_v17
  generalize val_main_v13 (F := Ideal) x0 x1 x2 = y
  pointwise []
  congr 2; apply Fin.ext; dsimp only; omega

/-- The rest of the reference's product. -/
theorem v14_at (b : Fin 8) (t : Fin 4096) (n : Fin 1024) :
    val_main_v14 (F := Ideal) x0 x1 x2 (ix3 b t n) = res3 (aX x0) (aG x1) (aW x2) b t n := by
  unfold res3
  rw [← v13_at]
  unfold val_main_v14
  generalize val_main_v13 (F := Ideal) x0 x1 x2 = y
  pointwise []

end Cert.Proj2Ref

end
-- ==== Proof.Proj2Arrays.lean ====
module

public import proofs.«01_k».proof.Proof.Proj2Spec
public import proofs.«01_k».proof.Proof.Gen.Kernel4Ideal.Value
public import Idealize.ShloMosaic.Lib.StableHlo.ReadAt
public import Idealize.ShloMosaic.Lib.Claim

@[expose] public section

noncomputable section

namespace Cert.Proj2

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

/-! ## The arguments, element by element -/

/-- The rows. -/
def argX (c : Dev nD) (b : Fin 8) (t : Fin 4096) (k : Fin 1024) : EReal := m ((c : Thread nD τ).loc main_arg0) (ix3 b t k)
/-- The gain of the rows. -/
def argG (c : Dev nD) (k : Fin 1024) : EReal := m ((c : Thread nD τ).loc main_arg1) (ix1 k)
/-- The weights. -/
def argW (c : Dev nD) (k : Fin 1024) (n : Fin 1792) : EReal := m ((c : Thread nD τ).loc main_arg2) (ix2 k n)
/-- The cosines. -/
def argC (c : Dev nD) (b : Fin 8) (t : Fin 4096) (k : Fin 32) : EReal := m ((c : Thread nD τ).loc main_arg3) (ix4 b t 0 k)
/-- The sines. -/
def argS (c : Dev nD) (b : Fin 8) (t : Fin 4096) (k : Fin 32) : EReal := m ((c : Thread nD τ).loc main_arg4) (ix4 b t 0 k)
/-- The gain of the queries. -/
def argQ (c : Dev nD) (k : Fin 64) : EReal := m ((c : Thread nD τ).loc main_arg5) (ix1 k)
/-- The gain of the keys. -/
def argK (c : Dev nD) (k : Fin 64) : EReal := m ((c : Thread nD τ).loc main_arg6) (ix1 k)

/-! ## The arrays the host hands to the grid -/

/-- The rows. -/
theorem V0_at (c : Dev nD) (b : Fin 8) (t : Fin 4096) (k : Fin 1024) : V m c main_arg0 (ix3 b t k) = argX m c b t k := by
  unfold V; after_reads_at; rfl

/-- The gain as a row. -/
theorem V9_at (c : Dev nD) (k : Fin 1024) : V m c main_v9 (ix2 0 k) = argG m c k := by
  unfold V; after_reads_at; rfl

/-- The columns of the weights from the column 1024 on, as rows. -/
theorem V8_at (c : Dev nD) (n : Fin 768) (k : Fin 1024) : V m c main_v8 (ix2 n k) = argW m c k ⟨1024 + n, by omega⟩ := by
  unfold V; after_reads_at; rfl

/-- The first columns of the weights. -/
theorem V5_at (c : Dev nD) (k : Fin 1024) (n : Fin 1024) : V m c main_v5 (ix2 k n) = argW m c k ⟨n, by omega⟩ := by
  unfold V; after_reads_at; rfl

/-- The cosines, one column a position. -/
theorem V1_at (c : Dev nD) (b : Fin 8) (k : Fin 32) (t : Fin 4096) : V m c main_v1 (ix3 b k t) = argC m c b t k := by
  unfold V; after_reads_at; rfl

/-- The sines, one column a position. -/
theorem V3_at (c : Dev nD) (b : Fin 8) (k : Fin 32) (t : Fin 4096) : V m c main_v3 (ix3 b k t) = argS m c b t k := by
  unfold V; after_reads_at; rfl

/-- The gain of the queries as a column. -/
theorem V10_at (c : Dev nD) (k : Fin 64) : V m c main_v10 (ix2 k 0) = argQ m c k := by
  unfold V; after_reads_at; rfl

/-- The gain of the keys as a column. -/
theorem V11_at (c : Dev nD) (k : Fin 64) : V m c main_v11 (ix2 k 0) = argK m c k := by
  unfold V; after_reads_at; rfl

end Cert.Proj2

end
-- ==== Proof.Proj2Final.lean ====
module

public import proofs.«01_k».proof.Proof.Proj2Arrays

@[expose] public section

noncomputable section

namespace Cert.Proj2

open Idealize.ShloMosaic Idealize.ShloMosaic.TcCoe Idealize.SL.Sem
open Idealize.ShloMosaic.Pipeline (Dat)
open Cert.Kernel4Ideal Cert.Kernel4Ideal.Gen
open Cert.Proj (qscale)

variable (m : (ℓ : Loc nD τ sig) → Buf (Elt Ideal) ℓ)

/-- A grid point's number is below 64. -/
theorem pt_lt (t : Fin cfg0.N) : t.val < 64 := lt_of_lt_of_eq t.isLt N_0

/-! ## Where each window's block lies at a grid point -/

/-- Where window 0 lies. -/
theorem at0 : ∀ t : Fin grid0.N, win0_0.index t 0 = t.val / 8 ∧ win0_0.index t 1 = t.val % 8 ∧ win0_0.index t 2 = 0 := by decide +kernel

/-- Where window 1 lies. -/
theorem at1 : ∀ t : Fin grid0.N, win0_1.index t 0 = 0 ∧ win0_1.index t 1 = 0 := by decide +kernel

/-- Where window 2 lies. -/
theorem at2 : ∀ t : Fin grid0.N, win0_2.index t 0 = 0 ∧ win0_2.index t 1 = 0 := by decide +kernel

/-- Where window 3 lies. -/
theorem at3 : ∀ t : Fin grid0.N, win0_3.index t 0 = 0 ∧ win0_3.index t 1 = 0 := by decide +kernel

/-- Where window 4 lies. -/
theorem at4 : ∀ t : Fin grid0.N, win0_4.index t 0 = t.val / 8 ∧ win0_4.index t 1 = 0 ∧ win0_4.index t 2 = t.val % 8 := by decide +kernel

/-- Where window 5 lies. -/
theorem at5 : ∀ t : Fin grid0.N, win0_5.index t 0 = t.val / 8 ∧ win0_5.index t 1 = 0 ∧ win0_5.index t 2 = t.val % 8 := by decide +kernel

/-- Where window 6 lies. -/
theorem at6 : ∀ t : Fin grid0.N, win0_6.index t 0 = 0 ∧ win0_6.index t 1 = 0 := by decide +kernel

/-- Where window 7 lies. -/
theorem at7 : ∀ t : Fin grid0.N, win0_7.index t 0 = 0 ∧ win0_7.index t 1 = 0 := by decide +kernel

/-- Where window 8 lies. -/
theorem at8 : ∀ t : Fin grid0.N, win0_8.index t 0 = t.val / 8 ∧ win0_8.index t 1 = t.val % 8 ∧ win0_8.index t 2 = 0 ∧ win0_8.index t 3 = 0 := by decide +kernel

/-- Where window 9 lies. -/
theorem at9 : ∀ t : Fin grid0.N, win0_9.index t 0 = t.val / 8 ∧ win0_9.index t 1 = t.val % 8 ∧ win0_9.index t 2 = 0 := by decide +kernel

/-- Where window 10 lies. -/
theorem at10 : ∀ t : Fin grid0.N, win0_10.index t 0 = t.val / 8 ∧ win0_10.index t 1 = 0 ∧ win0_10.index t 2 = t.val % 8 := by decide +kernel

/-- Where window 11 lies. -/
theorem at11 : ∀ t : Fin grid0.N, win0_11.index t 0 = t.val / 8 ∧ win0_11.index t 1 = t.val % 8 ∧ win0_11.index t 2 = 0 := by decide +kernel

/-! ## The blocks a grid point reads -/

/-- The point's block of window 0, at an element. -/
theorem in0 (c : Dev nD) (t : Fin cfg0.N) (p : Fin 512) (k : Fin 1024) :
    (iblk m c 0 t : Vec Ideal S1x512x1024 .f32) (ix3 0 p k) = argX m c ⟨t / 8, by have := pt_lt t; omega⟩ ⟨512 * (t % 8) + p, by omega⟩ k := by
  have ht := pt_lt t
  obtain ⟨h0, h1, h2⟩ := at0 t
  rw [← V0_at]
  unfold iblk; rw [View.read_apply]
  show V m c main_arg0 _ = _
  congr 1; funext a; apply Fin.ext
  match a with
  | ⟨0, _⟩ => show win0_0.index t 0 * 1 + 1 * 0 = t.val / 8; rw [h0] <;> omega
  | ⟨1, _⟩ => show win0_0.index t 1 * 512 + 1 * p.val = 512 * (t.val % 8) + p.val; rw [h1] <;> omega
  | ⟨2, _⟩ => show win0_0.index t 2 * 1024 + 1 * k.val = k.val; rw [h2] <;> omega

/-- The point's block of window 1, at an element. -/
theorem in1 (c : Dev nD) (t : Fin cfg0.N) (k : Fin 1024) :
    (iblk m c 1 t : Vec Ideal S1x1024 .f32) (ix2 0 k) = argG m c k := by
  have ht := pt_lt t
  obtain ⟨h0, h1⟩ := at1 t
  rw [← V9_at]
  unfold iblk; rw [View.read_apply]
  show V m c main_v9 _ = _
  congr 1; funext a; apply Fin.ext
  match a with
  | ⟨0, _⟩ => show win0_1.index t 0 * 1 + 1 * 0 = 0; rw [h0] <;> omega
  | ⟨1, _⟩ => show win0_1.index t 1 * 1024 + 1 * k.val = k.val; rw [h1] <;> omega

/-- The point's block of window 2, at an element. -/
theorem in2 (c : Dev nD) (t : Fin cfg0.N) (n : Fin 768) (k : Fin 1024) :
    (iblk m c 2 t : Vec Ideal S768x1024 .bf16) (ix2 n k) = argW m c k ⟨1024 + n, by omega⟩ := by
  have ht := pt_lt t
  obtain ⟨h0, h1⟩ := at2 t
  rw [← V8_at]
  unfold iblk; rw [View.read_apply]
  show V m c main_v8 _ = _
  congr 1; funext a; apply Fin.ext
  match a with
  | ⟨0, _⟩ => show win0_2.index t 0 * 768 + 1 * n.val = n.val; rw [h0] <;> omega
  | ⟨1, _⟩ => show win0_2.index t 1 * 1024 + 1 * k.val = k.val; rw [h1] <;> omega

/-- The point's block of window 3, at an element. -/
theorem in3 (c : Dev nD) (t : Fin cfg0.N) (k : Fin 1024) (n : Fin 1024) :
    (iblk m c 3 t : Vec Ideal S1024x1024 .bf16) (ix2 k n) = argW m c k ⟨n, by omega⟩ := by
  have ht := pt_lt t
  obtain ⟨h0, h1⟩ := at3 t
  rw [← V5_at]
  unfold iblk; rw [View.read_apply]
  show V m c main_v5 _ = _
  congr 1; funext a; apply Fin.ext
  match a with
  | ⟨0, _⟩ => show win0_3.index t 0 * 1024 + 1 * k.val = k.val; rw [h0] <;> omega
  | ⟨1, _⟩ => show win0_3.index t 1 * 1024 + 1 * n.val = n.val; rw [h1] <;> omega

/-- The point's block of window 4, at an element. -/
theorem in4 (c : Dev nD) (t : Fin cfg0.N) (k : Fin 32) (p : Fin 512) :
    (iblk m c 4 t : Vec Ideal S1x32x512 .f32) (ix3 0 k p) = argC m c ⟨t / 8, by have := pt_lt t; omega⟩ ⟨512 * (t % 8) + p, by omega⟩ k := by
  have ht := pt_lt t
  obtain ⟨h0, h1, h2⟩ := at4 t
  rw [← V1_at]
  unfold iblk; rw [View.read_apply]
  show V m c main_v1 _ = _
  congr 1; funext a; apply Fin.ext
  match a with
  | ⟨0, _⟩ => show win0_4.index t 0 * 1 + 1 * 0 = t.val / 8; rw [h0] <;> omega
  | ⟨1, _⟩ => show win0_4.index t 1 * 32 + 1 * k.val = k.val; rw [h1] <;> omega
  | ⟨2, _⟩ => show win0_4.index t 2 * 512 + 1 * p.val = 512 * (t.val % 8) + p.val; rw [h2] <;> omega

/-- The point's block of window 5, at an element. -/
theorem in5 (c : Dev nD) (t : Fin cfg0.N) (k : Fin 32) (p : Fin 512) :
    (iblk m c 5 t : Vec Ideal S1x32x512 .f32) (ix3 0 k p) = argS m c ⟨t / 8, by have := pt_lt t; omega⟩ ⟨512 * (t % 8) + p, by omega⟩ k := by
  have ht := pt_lt t
  obtain ⟨h0, h1, h2⟩ := at5 t
  rw [← V3_at]
  unfold iblk; rw [View.read_apply]
  show V m c main_v3 _ = _
  congr 1; funext a; apply Fin.ext
  match a with
  | ⟨0, _⟩ => show win0_5.index t 0 * 1 + 1 * 0 = t.val / 8; rw [h0] <;> omega
  | ⟨1, _⟩ => show win0_5.index t 1 * 32 + 1 * k.val = k.val; rw [h1] <;> omega
  | ⟨2, _⟩ => show win0_5.index t 2 * 512 + 1 * p.val = 512 * (t.val % 8) + p.val; rw [h2] <;> omega

/-- The point's block of window 6, at an element. -/
theorem in6 (c : Dev nD) (t : Fin cfg0.N) (k : Fin 64) :
    (iblk m c 6 t : Vec Ideal S64x1 .f32) (ix2 k 0) = argQ m c k := by
  have ht := pt_lt t
  obtain ⟨h0, h1⟩ := at6 t
  rw [← V10_at]
  unfold iblk; rw [View.read_apply]
  show V m c main_v10 _ = _
  congr 1; funext a; apply Fin.ext
  match a with
  | ⟨0, _⟩ => show win0_6.index t 0 * 64 + 1 * k.val = k.val; rw [h0] <;> omega
  | ⟨1, _⟩ => show win0_6.index t 1 * 1 + 1 * 0 = 0; rw [h1] <;> omega

/-- The point's block of window 7, at an element. -/
theorem in7 (c : Dev nD) (t : Fin cfg0.N) (k : Fin 64) :
    (iblk m c 7 t : Vec Ideal S64x1 .f32) (ix2 k 0) = argK m c k := by
  have ht := pt_lt t
  obtain ⟨h0, h1⟩ := at7 t
  rw [← V11_at]
  unfold iblk; rw [View.read_apply]
  show V m c main_v11 _ = _
  congr 1; funext a; apply Fin.ext
  match a with
  | ⟨0, _⟩ => show win0_7.index t 0 * 64 + 1 * k.val = k.val; rw [h0] <;> omega
  | ⟨1, _⟩ => show win0_7.index t 1 * 1 + 1 * 0 = 0; rw [h1] <;> omega

/-! ## The results, window by window -/

/-- The queries. -/
def G8 (c : Dev nD) : S8x32x128x1024.Idx → EReal := fun y => res0 (argX m c) (argG m c) (argW m c) (argC m c) (argS m c) (argQ m c) qscale (y 0) (y 1) (y 2) (y 3)

/-- What a grid point writes back of the queries is its block of them. -/
theorem flushed8_eq (c : Dev nD) (t : Fin cfg0.N) :
    (dats m 0 c).flushed 8 t = ((cfg0.win 8).blk t).view.read (Elt Ideal) (G8 m c) := by
  have ht := pt_lt t
  rw [Value.flushed8]
  funext j
  obtain ⟨u, r, e, rfl⟩ : ∃ (u : Fin 4) (r : Fin 128) (e : Fin 1024), j = ix4 0 u r e := ⟨j 1, j 2, j 3, by
    refine (eq_ix4 j).trans ?_; congr 1; exact Subsingleton.elim (α := Fin 1) _ _⟩
  rw [View.read_apply]
  have hj : ((cfg0.win 8).blk t).view.emb (ix4 0 u r e) = ix4 ⟨t / 8, by have := pt_lt t; omega⟩ ⟨4 * (t % 8) + u, by omega⟩ r e := by
    obtain ⟨h0, h1, h2, h3⟩ := at8 t
    funext a; apply Fin.ext
    match a with
    | ⟨0, _⟩ => show win0_8.index t 0 * 1 + 1 * 0 = t.val / 8; rw [h0] <;> omega
    | ⟨1, _⟩ => show win0_8.index t 1 * 4 + 1 * u.val = 4 * (t.val % 8) + u.val; rw [h1] <;> omega
    | ⟨2, _⟩ => show win0_8.index t 2 * 128 + 1 * r.val = r.val; rw [h2] <;> omega
    | ⟨3, _⟩ => show win0_8.index t 3 * 1024 + 1 * e.val = e.val; rw [h3] <;> omega
  rw [hj]
  show out0_8 (iblk m c 0 t : Vec Ideal S1x512x1024 .f32) (iblk m c 1 t : Vec Ideal S1x1024 .f32) (iblk m c 2 t : Vec Ideal S768x1024 .bf16) (iblk m c 3 t : Vec Ideal S1024x1024 .bf16) (iblk m c 4 t : Vec Ideal S1x32x512 .f32) (iblk m c 5 t : Vec Ideal S1x32x512 .f32) (iblk m c 6 t : Vec Ideal S64x1 .f32) (iblk m c 7 t : Vec Ideal S64x1 .f32) (ix4 0 u r e) = res0 (argX m c) (argG m c) (argW m c) (argC m c) (argS m c) (argQ m c) qscale ⟨t / 8, by have := pt_lt t; omega⟩ ⟨4 * (t % 8) + u, by omega⟩ r e
  have hp : ∀ w, (⟨128 * (4 * (t.val % 8) + u.val) + e.val % 128, w⟩ : Fin 4096) = ⟨512 * (t.val % 8) + (128 * u.val + e.val % 128), by omega⟩ := fun w => Fin.ext (by dsimp only; omega)
  rw [out8_at]
  unfold res0 unit prodr
  simp only [in0, in1, in2, in3, in4, in5, in6, in7, hp]

/-- Every element of the queries is written back by some point. -/
theorem cover8 (i : S8x32x128x1024.Idx) : ∃ t : Fin cfg0.N, (cfg0.win 8).flush t = true ∧ i ∈ ((cfg0.win 8).blk t).view.set := by
  have hi0 : (i 0).val < 8 := (i 0).isLt
  have hi1 : (i 1).val < 32 := (i 1).isLt
  have hi2 : (i 2).val < 128 := (i 2).isLt
  have hi3 : (i 3).val < 1024 := (i 3).isLt
  have hN : cfg0.N = 64 := N_0
  refine ⟨⟨8 * (i 0).val + (i 1).val / 4, by rw [hN]; omega⟩, flush0_8 _, ?_⟩
  generalize ht : (⟨8 * (i 0).val + (i 1).val / 4, by rw [hN]; omega⟩ : Fin cfg0.N) = t
  have htv : t.val = 8 * (i 0).val + (i 1).val / 4 := by rw [← ht]
  obtain ⟨h0, h1, h2, h3⟩ := at8 t
  show i ∈ ((View.whole main_v12_0).slice (win0_8.rect t)).set
  rw [View.set_slice_whole, Rect.mem_set_unit]
  intro a
  match a with
  | ⟨0, _⟩ => show win0_8.index t 0 * 1 ≤ (i 0).val ∧ (i 0).val < win0_8.index t 0 * 1 + 1; rw [h0] <;> omega
  | ⟨1, _⟩ => show win0_8.index t 1 * 4 ≤ (i 1).val ∧ (i 1).val < win0_8.index t 1 * 4 + 4; rw [h1] <;> omega
  | ⟨2, _⟩ => show win0_8.index t 2 * 128 ≤ (i 2).val ∧ (i 2).val < win0_8.index t 2 * 128 + 128; rw [h2] <;> omega
  | ⟨3, _⟩ => show win0_8.index t 3 * 1024 ≤ (i 3).val ∧ (i 3).val < win0_8.index t 3 * 1024 + 1024; rw [h3] <;> omega

/-- The array the grid leaves is the queries. -/
theorem final8 (c : Dev nD) : (dats m 0 c).arrAt 8 cfg0.N = G8 m c :=
  (dats m 0 c).arrAt_eq_of_cover 8 (G8 m c) (fun t _ => flushed8_eq m c t) cover8

/-- The keys. -/
def G9 (c : Dev nD) : S8x4096x128.Idx → EReal := fun y => res1 (argX m c) (argG m c) (argW m c) (argC m c) (argS m c) (argK m c) (y 0) (y 1) (y 2)

/-- What a grid point writes back of the keys is its block of them. -/
theorem flushed9_eq (c : Dev nD) (t : Fin cfg0.N) :
    (dats m 0 c).flushed 9 t = ((cfg0.win 9).blk t).view.read (Elt Ideal) (G9 m c) := by
  have ht := pt_lt t
  rw [Value.flushed9]
  funext j
  obtain ⟨p, d, rfl⟩ : ∃ (p : Fin 512) (d : Fin 128), j = ix3 0 p d := ⟨j 1, j 2, by
    refine (eq_ix3 j).trans ?_; congr 1; exact Subsingleton.elim (α := Fin 1) _ _⟩
  rw [View.read_apply]
  have hj : ((cfg0.win 9).blk t).view.emb (ix3 0 p d) = ix3 ⟨t / 8, by have := pt_lt t; omega⟩ ⟨512 * (t % 8) + p, by omega⟩ d := by
    obtain ⟨h0, h1, h2⟩ := at9 t
    funext a; apply Fin.ext
    match a with
    | ⟨0, _⟩ => show win0_9.index t 0 * 1 + 1 * 0 = t.val / 8; rw [h0] <;> omega
    | ⟨1, _⟩ => show win0_9.index t 1 * 512 + 1 * p.val = 512 * (t.val % 8) + p.val; rw [h1] <;> omega
    | ⟨2, _⟩ => show win0_9.index t 2 * 128 + 1 * d.val = d.val; rw [h2] <;> omega
  rw [hj]
  show out0_9 (iblk m c 0 t : Vec Ideal S1x512x1024 .f32) (iblk m c 1 t : Vec Ideal S1x1024 .f32) (iblk m c 2 t : Vec Ideal S768x1024 .bf16) (iblk m c 3 t : Vec Ideal S1024x1024 .bf16) (iblk m c 4 t : Vec Ideal S1x32x512 .f32) (iblk m c 5 t : Vec Ideal S1x32x512 .f32) (iblk m c 6 t : Vec Ideal S64x1 .f32) (iblk m c 7 t : Vec Ideal S64x1 .f32) (ix3 0 p d) = res1 (argX m c) (argG m c) (argW m c) (argC m c) (argS m c) (argK m c) ⟨t / 8, by have := pt_lt t; omega⟩ ⟨512 * (t % 8) + p, by omega⟩ d
  rw [out9_at]
  unfold res1 unit prodr
  simp only [in0, in1, in2, in3, in4, in5, in6, in7]

/-- Every element of the keys is written back by some point. -/
theorem cover9 (i : S8x4096x128.Idx) : ∃ t : Fin cfg0.N, (cfg0.win 9).flush t = true ∧ i ∈ ((cfg0.win 9).blk t).view.set := by
  have hi0 : (i 0).val < 8 := (i 0).isLt
  have hi1 : (i 1).val < 4096 := (i 1).isLt
  have hi2 : (i 2).val < 128 := (i 2).isLt
  have hN : cfg0.N = 64 := N_0
  refine ⟨⟨8 * (i 0).val + (i 1).val / 512, by rw [hN]; omega⟩, flush0_9 _, ?_⟩
  generalize ht : (⟨8 * (i 0).val + (i 1).val / 512, by rw [hN]; omega⟩ : Fin cfg0.N) = t
  have htv : t.val = 8 * (i 0).val + (i 1).val / 512 := by rw [← ht]
  obtain ⟨h0, h1, h2⟩ := at9 t
  show i ∈ ((View.whole main_v12_1).slice (win0_9.rect t)).set
  rw [View.set_slice_whole, Rect.mem_set_unit]
  intro a
  match a with
  | ⟨0, _⟩ => show win0_9.index t 0 * 1 ≤ (i 0).val ∧ (i 0).val < win0_9.index t 0 * 1 + 1; rw [h0] <;> omega
  | ⟨1, _⟩ => show win0_9.index t 1 * 512 ≤ (i 1).val ∧ (i 1).val < win0_9.index t 1 * 512 + 512; rw [h1] <;> omega
  | ⟨2, _⟩ => show win0_9.index t 2 * 128 ≤ (i 2).val ∧ (i 2).val < win0_9.index t 2 * 128 + 128; rw [h2] <;> omega

/-- The array the grid leaves is the keys. -/
theorem final9 (c : Dev nD) : (dats m 0 c).arrAt 9 cfg0.N = G9 m c :=
  (dats m 0 c).arrAt_eq_of_cover 9 (G9 m c) (fun t _ => flushed9_eq m c t) cover9

/-- The values. -/
def G10 (c : Dev nD) : S8x128x4096.Idx → EReal := fun y => res2 (argX m c) (argG m c) (argW m c) (y 0) (y 1) (y 2)

/-- What a grid point writes back of the values is its block of them. -/
theorem flushed10_eq (c : Dev nD) (t : Fin cfg0.N) :
    (dats m 0 c).flushed 10 t = ((cfg0.win 10).blk t).view.read (Elt Ideal) (G10 m c) := by
  have ht := pt_lt t
  rw [Value.flushed10]
  funext j
  obtain ⟨d, p, rfl⟩ : ∃ (d : Fin 128) (p : Fin 512), j = ix3 0 d p := ⟨j 1, j 2, by
    refine (eq_ix3 j).trans ?_; congr 1; exact Subsingleton.elim (α := Fin 1) _ _⟩
  rw [View.read_apply]
  have hj : ((cfg0.win 10).blk t).view.emb (ix3 0 d p) = ix3 ⟨t / 8, by have := pt_lt t; omega⟩ d ⟨512 * (t % 8) + p, by omega⟩ := by
    obtain ⟨h0, h1, h2⟩ := at10 t
    funext a; apply Fin.ext
    match a with
    | ⟨0, _⟩ => show win0_10.index t 0 * 1 + 1 * 0 = t.val / 8; rw [h0] <;> omega
    | ⟨1, _⟩ => show win0_10.index t 1 * 128 + 1 * d.val = d.val; rw [h1] <;> omega
    | ⟨2, _⟩ => show win0_10.index t 2 * 512 + 1 * p.val = 512 * (t.val % 8) + p.val; rw [h2] <;> omega
  rw [hj]
  show out0_10 (iblk m c 0 t : Vec Ideal S1x512x1024 .f32) (iblk m c 1 t : Vec Ideal S1x1024 .f32) (iblk m c 2 t : Vec Ideal S768x1024 .bf16) (iblk m c 3 t : Vec Ideal S1024x1024 .bf16) (iblk m c 4 t : Vec Ideal S1x32x512 .f32) (iblk m c 5 t : Vec Ideal S1x32x512 .f32) (iblk m c 6 t : Vec Ideal S64x1 .f32) (iblk m c 7 t : Vec Ideal S64x1 .f32) (ix3 0 d p) = res2 (argX m c) (argG m c) (argW m c) ⟨t / 8, by have := pt_lt t; omega⟩ d ⟨512 * (t % 8) + p, by omega⟩
  rw [out10_at]
  unfold res2 prodr
  simp only [in0, in1, in2, in3, in4, in5, in6, in7]

/-- Every element of the values is written back by some point. -/
theorem cover10 (i : S8x128x4096.Idx) : ∃ t : Fin cfg0.N, (cfg0.win 10).flush t = true ∧ i ∈ ((cfg0.win 10).blk t).view.set := by
  have hi0 : (i 0).val < 8 := (i 0).isLt
  have hi1 : (i 1).val < 128 := (i 1).isLt
  have hi2 : (i 2).val < 4096 := (i 2).isLt
  have hN : cfg0.N = 64 := N_0
  refine ⟨⟨8 * (i 0).val + (i 2).val / 512, by rw [hN]; omega⟩, flush0_10 _, ?_⟩
  generalize ht : (⟨8 * (i 0).val + (i 2).val / 512, by rw [hN]; omega⟩ : Fin cfg0.N) = t
  have htv : t.val = 8 * (i 0).val + (i 2).val / 512 := by rw [← ht]
  obtain ⟨h0, h1, h2⟩ := at10 t
  show i ∈ ((View.whole main_v12_2).slice (win0_10.rect t)).set
  rw [View.set_slice_whole, Rect.mem_set_unit]
  intro a
  match a with
  | ⟨0, _⟩ => show win0_10.index t 0 * 1 ≤ (i 0).val ∧ (i 0).val < win0_10.index t 0 * 1 + 1; rw [h0] <;> omega
  | ⟨1, _⟩ => show win0_10.index t 1 * 128 ≤ (i 1).val ∧ (i 1).val < win0_10.index t 1 * 128 + 128; rw [h1] <;> omega
  | ⟨2, _⟩ => show win0_10.index t 2 * 512 ≤ (i 2).val ∧ (i 2).val < win0_10.index t 2 * 512 + 512; rw [h2] <;> omega

/-- The array the grid leaves is the values. -/
theorem final10 (c : Dev nD) : (dats m 0 c).arrAt 10 cfg0.N = G10 m c :=
  (dats m 0 c).arrAt_eq_of_cover 10 (G10 m c) (fun t _ => flushed10_eq m c t) cover10

/-- The rest of the product. -/
def G11 (c : Dev nD) : S8x4096x1024.Idx → EReal := fun y => res3 (argX m c) (argG m c) (argW m c) (y 0) (y 1) (y 2)

/-- What a grid point writes back of the rest of the product is its block of them. -/
theorem flushed11_eq (c : Dev nD) (t : Fin cfg0.N) :
    (dats m 0 c).flushed 11 t = ((cfg0.win 11).blk t).view.read (Elt Ideal) (G11 m c) := by
  have ht := pt_lt t
  rw [Value.flushed11]
  funext j
  obtain ⟨p, n, rfl⟩ : ∃ (p : Fin 512) (n : Fin 1024), j = ix3 0 p n := ⟨j 1, j 2, by
    refine (eq_ix3 j).trans ?_; congr 1; exact Subsingleton.elim (α := Fin 1) _ _⟩
  rw [View.read_apply]
  have hj : ((cfg0.win 11).blk t).view.emb (ix3 0 p n) = ix3 ⟨t / 8, by have := pt_lt t; omega⟩ ⟨512 * (t % 8) + p, by omega⟩ n := by
    obtain ⟨h0, h1, h2⟩ := at11 t
    funext a; apply Fin.ext
    match a with
    | ⟨0, _⟩ => show win0_11.index t 0 * 1 + 1 * 0 = t.val / 8; rw [h0] <;> omega
    | ⟨1, _⟩ => show win0_11.index t 1 * 512 + 1 * p.val = 512 * (t.val % 8) + p.val; rw [h1] <;> omega
    | ⟨2, _⟩ => show win0_11.index t 2 * 1024 + 1 * n.val = n.val; rw [h2] <;> omega
  rw [hj]
  show out0_11 (iblk m c 0 t : Vec Ideal S1x512x1024 .f32) (iblk m c 1 t : Vec Ideal S1x1024 .f32) (iblk m c 2 t : Vec Ideal S768x1024 .bf16) (iblk m c 3 t : Vec Ideal S1024x1024 .bf16) (iblk m c 4 t : Vec Ideal S1x32x512 .f32) (iblk m c 5 t : Vec Ideal S1x32x512 .f32) (iblk m c 6 t : Vec Ideal S64x1 .f32) (iblk m c 7 t : Vec Ideal S64x1 .f32) (ix3 0 p n) = res3 (argX m c) (argG m c) (argW m c) ⟨t / 8, by have := pt_lt t; omega⟩ ⟨512 * (t % 8) + p, by omega⟩ n
  rw [out11_at]
  unfold res3 prodr
  simp only [in0, in1, in2, in3, in4, in5, in6, in7]

/-- Every element of the rest of the product is written back by some point. -/
theorem cover11 (i : S8x4096x1024.Idx) : ∃ t : Fin cfg0.N, (cfg0.win 11).flush t = true ∧ i ∈ ((cfg0.win 11).blk t).view.set := by
  have hi0 : (i 0).val < 8 := (i 0).isLt
  have hi1 : (i 1).val < 4096 := (i 1).isLt
  have hi2 : (i 2).val < 1024 := (i 2).isLt
  have hN : cfg0.N = 64 := N_0
  refine ⟨⟨8 * (i 0).val + (i 1).val / 512, by rw [hN]; omega⟩, flush0_11 _, ?_⟩
  generalize ht : (⟨8 * (i 0).val + (i 1).val / 512, by rw [hN]; omega⟩ : Fin cfg0.N) = t
  have htv : t.val = 8 * (i 0).val + (i 1).val / 512 := by rw [← ht]
  obtain ⟨h0, h1, h2⟩ := at11 t
  show i ∈ ((View.whole main_v12_3).slice (win0_11.rect t)).set
  rw [View.set_slice_whole, Rect.mem_set_unit]
  intro a
  match a with
  | ⟨0, _⟩ => show win0_11.index t 0 * 1 ≤ (i 0).val ∧ (i 0).val < win0_11.index t 0 * 1 + 1; rw [h0] <;> omega
  | ⟨1, _⟩ => show win0_11.index t 1 * 512 ≤ (i 1).val ∧ (i 1).val < win0_11.index t 1 * 512 + 512; rw [h1] <;> omega
  | ⟨2, _⟩ => show win0_11.index t 2 * 1024 ≤ (i 2).val ∧ (i 2).val < win0_11.index t 2 * 1024 + 1024; rw [h2] <;> omega

/-- The array the grid leaves is the rest of the product. -/
theorem final11 (c : Dev nD) : (dats m 0 c).arrAt 11 cfg0.N = G11 m c :=
  (dats m 0 c).arrAt_eq_of_cover 11 (G11 m c) (fun t _ => flushed11_eq m c t) cover11

end Cert.Proj2

end
-- ==== Proof.Proj2Claim.lean ====
module

public import proofs.«01_k».proof.Defs
public import proofs.«01_k».proof.Proof.Proj2Res
public import proofs.«01_k».proof.Proof.Proj2Final
public import proofs.«01_k».proof.Proof.ProjClaim
public import Idealize.ShloMosaic.Lib.Quiescent

@[expose] public section

noncomputable section

namespace Cert.Proj2Bridge

open Idealize.ShloMosaic Idealize.ShloMosaic.TcCoe Idealize.SL.Sem
open Cert.Kernel4Ideal (nD τ sig main_arg0 main_arg1 main_arg2 main_arg3 main_arg4 main_arg5 main_arg6)

variable (m : (ℓ : Loc nD τ sig) → Buf (Elt Ideal) ℓ)

/-- The reference's queries are the kernel's. -/
theorem eq8 (c : Dev nD) : Cert.Reference4Ideal.Read.val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = Cert.Proj2.G8 m c := by
  funext y
  obtain ⟨i, j, k, l, rfl⟩ : ∃ (i : Fin 8) (j : Fin 32) (k : Fin 128) (l : Fin 1024), y = ix4 i j k l := ⟨y 0, y 1, y 2, y 3, eq_ix4 y⟩
  refine (Cert.Proj2Ref.v87_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) i j k l).trans ?_
  rw [Cert.ProjBridge.scale_eq]
  unfold Cert.Proj2.G8
  rfl

/-- The reference's keys are the kernel's. -/
theorem eq9 (c : Dev nD) : Cert.Reference4Ideal.Read.val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) = Cert.Proj2.G9 m c := by
  funext y
  obtain ⟨i, j, k, rfl⟩ : ∃ (i : Fin 8) (j : Fin 4096) (k : Fin 128), y = ix3 i j k := ⟨y 0, y 1, y 2, eq_ix3 y⟩
  refine (Cert.Proj2Ref.v89_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) i j k).trans ?_
  unfold Cert.Proj2.G9
  rfl

/-- The reference's values are the kernel's. -/
theorem eq10 (c : Dev nD) : Cert.Reference4Ideal.Read.val_main_v91 (F := Ideal) (m ((c.tc : Thread nD τ).loc main_arg0)) (m ((c.tc : Thread nD τ).loc main_arg1)) (m ((c.tc : Thread nD τ).loc main_arg2)) = Cert.Proj2.G10 m c := by
  funext y
  obtain ⟨i, j, k, rfl⟩ : ∃ (i : Fin 8) (j : Fin 128) (k : Fin 4096), y = ix3 i j k := ⟨y 0, y 1, y 2, eq_ix3 y⟩
  refine (Cert.Proj2Ref.v91_at (m ((c.tc : Thread nD τ).loc main_arg0)) (m ((c.tc : Thread nD τ).loc main_arg1)) (m ((c.tc : Thread nD τ).loc main_arg2)) i j k).trans ?_
  unfold Cert.Proj2.G10
  rfl

/-- The reference's rest of the product is the kernel's. -/
theorem eq11 (c : Dev nD) : Cert.Reference4Ideal.Read.val_main_v14 (F := Ideal) (m ((c.tc : Thread nD τ).loc main_arg0)) (m ((c.tc : Thread nD τ).loc main_arg1)) (m ((c.tc : Thread nD τ).loc main_arg2)) = Cert.Proj2.G11 m c := by
  funext y
  obtain ⟨i, j, k, rfl⟩ : ∃ (i : Fin 8) (j : Fin 4096) (k : Fin 1024), y = ix3 i j k := ⟨y 0, y 1, y 2, eq_ix3 y⟩
  refine (Cert.Proj2Ref.v14_at (m ((c.tc : Thread nD τ).loc main_arg0)) (m ((c.tc : Thread nD τ).loc main_arg1)) (m ((c.tc : Thread nD τ).loc main_arg2)) i j k).trans ?_
  unfold Cert.Proj2.G11
  rfl

/-- The second layer's projection kernel and its reference end with equal results, whatever the arguments. -/
theorem algebraic : @Cert.algebraic_Kernel4Ideal_Reference4Ideal Cert.Kernel4Ideal.Gen.facts Cert.Reference4Ideal.Gen.facts := by
  intro m g m' g' _ hargs
  refine ⟨fun c => Cert.Proj2.G8 m c, fun c => Cert.Proj2.G9 m c, fun c => Cert.Proj2.G10 m c, fun c => Cert.Proj2.G11 m c,
    (θ_run _ _ _).mono (fun r h c => ⟨(h c).1.trans (Cert.Proj2.final8 m c), (h c).2.1.trans (Cert.Proj2.final9 m c), (h c).2.2.1.trans (Cert.Proj2.final10 m c), (h c).2.2.2.1.trans (Cert.Proj2.final11 m c), (h c).2.2.2.2⟩) (Cert.Kernel4Ideal.Value.run_blocks m g),
    (θ_run _ _ _).mono (fun r h c => ⟨(h c).1.trans ?_, (h c).2.1.trans ?_, (h c).2.2.1.trans ?_, (h c).2.2.2.1.trans ?_, (h c).2.2.2.2⟩) (Cert.Reference4Ideal.Value.run m' g')⟩
  · obtain ⟨a0, a1, a2, a3, a4, a5, a6⟩ := hargs c
    rw [Cert.Reference4Ideal.Read.val_main_v87_eq, a0, a1, a2, a3, a4, a5]
    exact eq8 m c
  · obtain ⟨a0, a1, a2, a3, a4, a5, a6⟩ := hargs c
    rw [Cert.Reference4Ideal.Read.val_main_v89_eq, a0, a1, a2, a3, a4, a6]
    exact eq9 m c
  · obtain ⟨a0, a1, a2, a3, a4, a5, a6⟩ := hargs c
    rw [Cert.Reference4Ideal.Read.val_main_v91_eq, a0, a1, a2]
    exact eq10 m c
  · obtain ⟨a0, a1, a2, a3, a4, a5, a6⟩ := hargs c
    rw [Cert.Reference4Ideal.Read.val_main_v14_eq, a0, a1, a2]
    exact eq11 m c

/-- The reference runs, ends with its arguments unchanged and every semaphore at zero. -/
theorem ref_frame : @Cert.quiescent_Reference4Ideal Cert.Reference4Ideal.Gen.facts := by
  intro m g _
  exact (θ_run _ _ _).mono (fun r h => ⟨fun c => (h c).2.2.2.2, sem_eq_zero_of_no_sems rfl r.2⟩) (Cert.Reference4Ideal.Value.run m g)

end Cert.Proj2Bridge

end
-- ==== Proof.RopeFinal.lean ====
module

public import proofs.«01_k».proof.Proof.Gen.Kernel5Ideal.Frame
public import proofs.«01_k».proof.Proof.Gen.Reference5Ideal.Read
public import Idealize.ShloMosaic.Lib.Pipeline.Value
public import Idealize.ShloMosaic.Lib.StableHlo.ReadAt
public import Idealize.ShloMosaic.Lib.Pointwise
public import Idealize.ShloMosaic.Lib.Claim
public import proofs.«01_k».proof.Proof.ProjPoint

@[expose] public section

noncomputable section

namespace Cert.Rope

open Idealize.ShloMosaic Idealize.ShloMosaic.TcCoe Idealize.SL.Sem
open Idealize.ShloMosaic.Pipeline (Dat)
open Cert.Kernel5Ideal Cert.Kernel5Ideal.Gen
open Cert.Proj (zero2 zero3)

/-- The inverse frequencies, as both programs compute them. -/
def freq (k : Fin 32) : EReal := Cert.Reference5Ideal.Read.val_main_v10 (F := Ideal) (ix1 k)

/-- A position as a number. -/
def num (n : BitVec 32) : EReal := FloatOps.sitofp (F := Ideal) .f32 n

variable (m : (ℓ : Loc nD τ sig) → Buf (Elt Ideal) ℓ)

/-- The positions. -/
def argP (c : Dev nD) (b : Fin 8) (t : Fin 4096) : BitVec 32 := m ((c : Thread nD τ).loc main_arg0) (ix2 b t)

/-- The frequencies as a column. -/
theorem V11_at (c : Dev nD) (k : Fin 32) : V m c main_v11 (ix2 k 0) = freq k := by
  unfold V; after_reads_at
  unfold freq Cert.Reference5Ideal.Read.val_main_v10 Cert.Reference5Ideal.Read.val_main_v9 Cert.Reference5Ideal.Read.val_main_v8 Cert.Reference5Ideal.Read.val_main_v7 Cert.Reference5Ideal.Read.val_main_v6 Cert.Reference5Ideal.Read.val_main_v5 Cert.Reference5Ideal.Read.val_main_v4 Cert.Reference5Ideal.Read.val_main_v3 Cert.Reference5Ideal.Read.val_main_v2 Cert.Reference5Ideal.Read.val_main_v1 Cert.Reference5Ideal.Read.val_main_v0 Cert.Reference5Ideal.Read.val_main_cst Cert.Reference5Ideal.Read.val_main_cst_0 Cert.Reference5Ideal.Read.val_main_cst_1 Cert.Reference5Ideal.Read.val_main_cst_2 Cert.Reference5Ideal.Read.val_main_cst_3
  symm
  pointwise []

/-- The positions, a row for each sequence. -/
theorem V12_at (c : Dev nD) (b : Fin 8) (t : Fin 4096) : V m c main_v12 (ix3 b 0 t) = argP m c b t := by
  unfold V; after_reads_at; rfl

/-! ## What a grid point leaves, from its input blocks -/

variable (x0 : Vec Ideal S1x1x4096 .i32) (x1 : Vec Ideal S32x1 .f32)

/-- The cosines of the block, at an element. -/
theorem pay2_at (k : Fin 32) (t : Fin 4096) : k0_pay2 x0 x1 (ix3 0 k t) = FloatOps.cos (F := Ideal) (φ := .f32) (num (x0 (ix3 0 0 t)) * x1 (ix2 k 0)) := by
  unfold k0_pay2 k0_pay1
  pointwise []
  rfl

/-- The sines of the block, at an element. -/
theorem pay3_at (k : Fin 32) (t : Fin 4096) : k0_pay3 x0 x1 (ix3 0 k t) = FloatOps.sin (F := Ideal) (φ := .f32) (num (x0 (ix3 0 0 t)) * x1 (ix2 k 0)) := by
  unfold k0_pay3 k0_pay1
  pointwise []
  rfl

/-! ## The arrays the grid leaves -/

/-- A grid point's number is below 8. -/
theorem pt_lt (t : Fin cfg0.N) : t.val < 8 := lt_of_lt_of_eq t.isLt N_0

/-- Where window 0 lies. -/
theorem at0 : ∀ t : Fin grid0.N, win0_0.index t 0 = t.val ∧ win0_0.index t 1 = 0 ∧ win0_0.index t 2 = 0 := by decide +kernel

/-- Where window 1 lies. -/
theorem at1 : ∀ t : Fin grid0.N, win0_1.index t 0 = 0 ∧ win0_1.index t 1 = 0 := by decide +kernel

/-- The point's block of the positions, at an element. -/
theorem in0 (c : Dev nD) (t : Fin cfg0.N) (s : Fin 4096) :
    (iblk m c 0 t : Vec Ideal S1x1x4096 .i32) (ix3 0 0 s) = argP m c ⟨t, pt_lt t⟩ s := by
  have ht := pt_lt t
  obtain ⟨h0, h1, h2⟩ := at0 t
  rw [← V12_at]
  unfold iblk; rw [View.read_apply]
  show V m c main_v12 _ = _
  congr 1; funext a; apply Fin.ext
  match a with
  | ⟨0, _⟩ => show win0_0.index t 0 * 1 + 1 * 0 = t.val; rw [h0] <;> omega
  | ⟨1, _⟩ => show win0_0.index t 1 * 1 + 1 * 0 = 0; rw [h1] <;> omega
  | ⟨2, _⟩ => show win0_0.index t 2 * 4096 + 1 * s.val = s.val; rw [h2] <;> omega

/-- The point's block of the frequencies, at an element. -/
theorem in1 (c : Dev nD) (t : Fin cfg0.N) (k : Fin 32) : (iblk m c 1 t : Vec Ideal S32x1 .f32) (ix2 k 0) = freq k := by
  obtain ⟨h0, h1⟩ := at1 t
  rw [← V11_at m c]
  unfold iblk; rw [View.read_apply]
  show V m c main_v11 _ = _
  congr 1; funext a; apply Fin.ext
  match a with
  | ⟨0, _⟩ => show win0_1.index t 0 * 32 + 1 * k.val = k.val; rw [h0] <;> omega
  | ⟨1, _⟩ => show win0_1.index t 1 * 1 + 1 * 0 = 0; rw [h1] <;> omega

/-- Where window 2 lies. -/
theorem at2 : ∀ t : Fin grid0.N, win0_2.index t 0 = t.val ∧ win0_2.index t 1 = 0 ∧ win0_2.index t 2 = 0 := by decide +kernel

/-- The cosines: of the position times the frequency, one column a position. -/
def G2 (c : Dev nD) : S8x32x4096.Idx → EReal := fun y => FloatOps.cos (F := Ideal) (φ := .f32) (num (argP m c (y 0) (y 2)) * freq (y 1))

/-- The point's cosines, at an element. -/
theorem out2_at (k : Fin 32) (s : Fin 4096) : out0_2 x0 x1 (ix3 0 k s) = FloatOps.cos (F := Ideal) (φ := .f32) (num (x0 (ix3 0 0 s)) * x1 (ix2 k 0)) := by
  unfold out0_2
  rw [View.canon_cons_unit_zero (S := S1x32x4096) zero3, View.ld_unit_zero (S := S1x1x4096) zero3, View.ld_unit_zero (S := S32x1) zero2]
  exact pay2_at x0 x1 k s

/-- What a grid point writes back of the cosines is its block of them. -/
theorem flushed2_eq (c : Dev nD) (t : Fin cfg0.N) :
    (dats m 0 c).flushed 2 t = ((cfg0.win 2).blk t).view.read (Elt Ideal) (G2 m c) := by
  have ht := pt_lt t
  have hf : (dats m 0 c).flushed 2 t = (cfg0.win 2).cut (grid0.coords t) (out0_2 (iblk m c 0 t) (iblk m c 1 t)) := by
    show (cfg0.win 2).cut (grid0.coords t) ((dats m 0 c).after 2 t) = _
    rw [after0_2]
  rw [hf]
  funext j
  obtain ⟨k, s, rfl⟩ : ∃ (k : Fin 32) (s : Fin 4096), j = ix3 0 k s := ⟨j 1, j 2, by
    refine (eq_ix3 j).trans ?_; congr 1; exact Subsingleton.elim (α := Fin 1) _ _⟩
  rw [View.read_apply]
  have hj : ((cfg0.win 2).blk t).view.emb (ix3 0 k s) = ix3 ⟨t, pt_lt t⟩ k s := by
    obtain ⟨h0, h1, h2⟩ := at2 t
    funext a; apply Fin.ext
    match a with
    | ⟨0, _⟩ => show win0_2.index t 0 * 1 + 1 * 0 = t.val; rw [h0] <;> omega
    | ⟨1, _⟩ => show win0_2.index t 1 * 32 + 1 * k.val = k.val; rw [h1] <;> omega
    | ⟨2, _⟩ => show win0_2.index t 2 * 4096 + 1 * s.val = s.val; rw [h2] <;> omega
  rw [hj]
  show out0_2 (iblk m c 0 t : Vec Ideal S1x1x4096 .i32) (iblk m c 1 t : Vec Ideal S32x1 .f32) (ix3 0 k s) = FloatOps.cos (F := Ideal) (φ := .f32) (num (argP m c ⟨t, pt_lt t⟩ s) * freq k)
  rw [out2_at, in0, in1]

/-- Every element of the cosines is written back by some point. -/
theorem all2 (i : S8x32x4096.Idx) : ∃ t : Fin cfg0.N, (cfg0.win 2).flush t = true ∧ i ∈ ((cfg0.win 2).blk t).view.set := by
  have hi0 : (i 0).val < 8 := (i 0).isLt
  have hi1 : (i 1).val < 32 := (i 1).isLt
  have hi2 : (i 2).val < 4096 := (i 2).isLt
  have hN : cfg0.N = 8 := N_0
  refine ⟨⟨(i 0).val, by rw [hN]; omega⟩, flush0_2 _, ?_⟩
  generalize ht : (⟨(i 0).val, by rw [hN]; omega⟩ : Fin cfg0.N) = t
  have htv : t.val = (i 0).val := by rw [← ht]
  obtain ⟨h0, h1, h2⟩ := at2 t
  show i ∈ ((View.whole main_v13_0).slice (win0_2.rect t)).set
  rw [View.set_slice_whole, Rect.mem_set_unit]
  intro a
  match a with
  | ⟨0, _⟩ => show win0_2.index t 0 * 1 ≤ (i 0).val ∧ (i 0).val < win0_2.index t 0 * 1 + 1; rw [h0] <;> omega
  | ⟨1, _⟩ => show win0_2.index t 1 * 32 ≤ (i 1).val ∧ (i 1).val < win0_2.index t 1 * 32 + 32; rw [h1] <;> omega
  | ⟨2, _⟩ => show win0_2.index t 2 * 4096 ≤ (i 2).val ∧ (i 2).val < win0_2.index t 2 * 4096 + 4096; rw [h2] <;> omega

/-- The array the grid leaves is the cosines. -/
theorem final2 (c : Dev nD) : (dats m 0 c).arrAt 2 cfg0.N = G2 m c :=
  (dats m 0 c).arrAt_eq_of_cover 2 (G2 m c) (fun t _ => flushed2_eq m c t) all2

/-- Where window 3 lies. -/
theorem at3 : ∀ t : Fin grid0.N, win0_3.index t 0 = t.val ∧ win0_3.index t 1 = 0 ∧ win0_3.index t 2 = 0 := by decide +kernel

/-- The sines: of the position times the frequency, one column a position. -/
def G3 (c : Dev nD) : S8x32x4096.Idx → EReal := fun y => FloatOps.sin (F := Ideal) (φ := .f32) (num (argP m c (y 0) (y 2)) * freq (y 1))

/-- The point's sines, at an element. -/
theorem out3_at (k : Fin 32) (s : Fin 4096) : out0_3 x0 x1 (ix3 0 k s) = FloatOps.sin (F := Ideal) (φ := .f32) (num (x0 (ix3 0 0 s)) * x1 (ix2 k 0)) := by
  unfold out0_3
  rw [View.canon_cons_unit_zero (S := S1x32x4096) zero3, View.ld_unit_zero (S := S1x1x4096) zero3, View.ld_unit_zero (S := S32x1) zero2]
  exact pay3_at x0 x1 k s

/-- What a grid point writes back of the sines is its block of them. -/
theorem flushed3_eq (c : Dev nD) (t : Fin cfg0.N) :
    (dats m 0 c).flushed 3 t = ((cfg0.win 3).blk t).view.read (Elt Ideal) (G3 m c) := by
  have ht := pt_lt t
  have hf : (dats m 0 c).flushed 3 t = (cfg0.win 3).cut (grid0.coords t) (out0_3 (iblk m c 0 t) (iblk m c 1 t)) := by
    show (cfg0.win 3).cut (grid0.coords t) ((dats m 0 c).after 3 t) = _
    rw [after0_3]
  rw [hf]
  funext j
  obtain ⟨k, s, rfl⟩ : ∃ (k : Fin 32) (s : Fin 4096), j = ix3 0 k s := ⟨j 1, j 2, by
    refine (eq_ix3 j).trans ?_; congr 1; exact Subsingleton.elim (α := Fin 1) _ _⟩
  rw [View.read_apply]
  have hj : ((cfg0.win 3).blk t).view.emb (ix3 0 k s) = ix3 ⟨t, pt_lt t⟩ k s := by
    obtain ⟨h0, h1, h2⟩ := at3 t
    funext a; apply Fin.ext
    match a with
    | ⟨0, _⟩ => show win0_3.index t 0 * 1 + 1 * 0 = t.val; rw [h0] <;> omega
    | ⟨1, _⟩ => show win0_3.index t 1 * 32 + 1 * k.val = k.val; rw [h1] <;> omega
    | ⟨2, _⟩ => show win0_3.index t 2 * 4096 + 1 * s.val = s.val; rw [h2] <;> omega
  rw [hj]
  show out0_3 (iblk m c 0 t : Vec Ideal S1x1x4096 .i32) (iblk m c 1 t : Vec Ideal S32x1 .f32) (ix3 0 k s) = FloatOps.sin (F := Ideal) (φ := .f32) (num (argP m c ⟨t, pt_lt t⟩ s) * freq k)
  rw [out3_at, in0, in1]

/-- Every element of the sines is written back by some point. -/
theorem all3 (i : S8x32x4096.Idx) : ∃ t : Fin cfg0.N, (cfg0.win 3).flush t = true ∧ i ∈ ((cfg0.win 3).blk t).view.set := by
  have hi0 : (i 0).val < 8 := (i 0).isLt
  have hi1 : (i 1).val < 32 := (i 1).isLt
  have hi2 : (i 2).val < 4096 := (i 2).isLt
  have hN : cfg0.N = 8 := N_0
  refine ⟨⟨(i 0).val, by rw [hN]; omega⟩, flush0_3 _, ?_⟩
  generalize ht : (⟨(i 0).val, by rw [hN]; omega⟩ : Fin cfg0.N) = t
  have htv : t.val = (i 0).val := by rw [← ht]
  obtain ⟨h0, h1, h2⟩ := at3 t
  show i ∈ ((View.whole main_v13_1).slice (win0_3.rect t)).set
  rw [View.set_slice_whole, Rect.mem_set_unit]
  intro a
  match a with
  | ⟨0, _⟩ => show win0_3.index t 0 * 1 ≤ (i 0).val ∧ (i 0).val < win0_3.index t 0 * 1 + 1; rw [h0] <;> omega
  | ⟨1, _⟩ => show win0_3.index t 1 * 32 ≤ (i 1).val ∧ (i 1).val < win0_3.index t 1 * 32 + 32; rw [h1] <;> omega
  | ⟨2, _⟩ => show win0_3.index t 2 * 4096 ≤ (i 2).val ∧ (i 2).val < win0_3.index t 2 * 4096 + 4096; rw [h2] <;> omega

/-- The array the grid leaves is the sines. -/
theorem final3 (c : Dev nD) : (dats m 0 c).arrAt 3 cfg0.N = G3 m c :=
  (dats m 0 c).arrAt_eq_of_cover 3 (G3 m c) (fun t _ => flushed3_eq m c t) all3

/-- The run ends with the two arrays above and the positions as they were. -/
theorem run (g : Dev nD → PrngReg) : θ_run (defs (F := Ideal)) (onTc (τ := τ) (main (F := Ideal))) ⟨m, fun _ => 0, g⟩ fun r => ∀ c : Dev nD,
      r.2.mem ((c : Thread nD τ).loc main_v13_0) = G2 m c
      ∧ r.2.mem ((c : Thread nD τ).loc main_v13_1) = G3 m c
      ∧ r.2.mem ((c : Thread nD τ).loc main_arg0) = m ((c : Thread nD τ).loc main_arg0) :=
  (θ_run _ _ _).mono (fun r h c => ⟨((h c).1 2).trans (final2 m c), ((h c).1 3).trans (final3 m c),
    ((h c).2 main_arg0 (Pipeline.mem_restRefs_of main_arg0 (by decide) (by decide))).trans (V_main_arg0 m c)⟩) (run_main m g)

end Cert.Rope

end
-- ==== Proof.RopeClaim.lean ====
module

public import proofs.«01_k».proof.Defs
public import proofs.«01_k».proof.Proof.RopeFinal
public import proofs.«01_k».proof.Proof.Gen.Reference5Ideal.Run
public import Idealize.ShloMosaic.Lib.Quiescent

@[expose] public section

noncomputable section

namespace Cert.Rope

open Idealize.ShloMosaic Idealize.ShloMosaic.TcCoe Idealize.SL.Sem
open Cert.Reference5Ideal.Read

/-- The reference's angle: the position times the frequency. -/
theorem v16_at (x : (⟨Cert.Reference5Ideal.S8x4096, .i32⟩ : BufTy).Contents (Elt Ideal)) (b : Fin 8) (t : Fin 4096) (k : Fin 32) :
    val_main_v16 (F := Ideal) x (ix3 b t k) = num (x (ix2 b t)) * freq k := by
  unfold val_main_v16 val_main_v15 val_main_v14 val_main_v13 val_main_v12 val_main_v11 freq
  generalize val_main_v10 (F := Ideal) = y
  pointwise []
  rfl

open Cert.Kernel5Ideal (nD τ sig main_arg0)

variable (m : (ℓ : Loc nD τ sig) → Buf (Elt Ideal) ℓ)

/-- The reference's cosines are the kernel's. -/
theorem eq2 (c : Dev nD) : val_main_v18 (F := Ideal) (m ((c.tc : Thread nD τ).loc main_arg0)) = G2 m c := by
  funext y
  obtain ⟨b, k, t, rfl⟩ : ∃ (b : Fin 8) (k : Fin 32) (t : Fin 4096), y = ix3 b k t := ⟨y 0, y 1, y 2, eq_ix3 y⟩
  have e : val_main_v18 (F := Ideal) (m ((c.tc : Thread nD τ).loc main_arg0)) (ix3 b k t)
      = FloatOps.cos (F := Ideal) (φ := .f32) (val_main_v16 (F := Ideal) (m ((c.tc : Thread nD τ).loc main_arg0)) (ix3 b t k)) := by
    unfold val_main_v18 val_main_v17
    generalize val_main_v16 (F := Ideal) (m ((c.tc : Thread nD τ).loc main_arg0)) = z
    pointwise []
  rw [e, v16_at]
  unfold G2
  rfl

/-- The reference's sines are the kernel's. -/
theorem eq3 (c : Dev nD) : val_main_v20 (F := Ideal) (m ((c.tc : Thread nD τ).loc main_arg0)) = G3 m c := by
  funext y
  obtain ⟨b, k, t, rfl⟩ : ∃ (b : Fin 8) (k : Fin 32) (t : Fin 4096), y = ix3 b k t := ⟨y 0, y 1, y 2, eq_ix3 y⟩
  have e : val_main_v20 (F := Ideal) (m ((c.tc : Thread nD τ).loc main_arg0)) (ix3 b k t)
      = FloatOps.sin (F := Ideal) (φ := .f32) (val_main_v16 (F := Ideal) (m ((c.tc : Thread nD τ).loc main_arg0)) (ix3 b t k)) := by
    unfold val_main_v20 val_main_v19
    generalize val_main_v16 (F := Ideal) (m ((c.tc : Thread nD τ).loc main_arg0)) = z
    pointwise []
  rw [e, v16_at]
  unfold G3
  rfl

/-- The kernel of the tables and its reference end with equal results, whatever the positions. -/
theorem algebraic : @Cert.algebraic_Kernel5Ideal_Reference5Ideal Cert.Kernel5Ideal.Gen.facts Cert.Reference5Ideal.Gen.facts := by
  intro m g m' g' _ hargs
  refine ⟨fun c => G2 m c, fun c => G3 m c,
    (θ_run _ _ _).mono (fun r h c => h c) (run m g),
    (θ_run _ _ _).mono (fun r h c => ⟨(h c).1.trans ?_, (h c).2.1.trans ?_, (h c).2.2⟩) (Cert.Reference5Ideal.Value.run m' g')⟩
  · rw [val_main_v18_eq, hargs c]
    exact eq2 m c
  · rw [val_main_v20_eq, hargs c]
    exact eq3 m c

/-- The reference runs, ends with its argument unchanged and every semaphore at zero. -/
theorem ref_frame : @Cert.quiescent_Reference5Ideal Cert.Reference5Ideal.Gen.facts := by
  intro m g _
  exact (θ_run _ _ _).mono (fun r h => ⟨fun c => (h c).2.2, sem_eq_zero_of_no_sems rfl r.2⟩) (Cert.Reference5Ideal.Value.run m g)

end Cert.Rope

end
-- ==== Proof.lean ====
module

public import proofs.«01_k».proof.Defs
public import proofs.«01_k».proof.Proof.Gen.Kernel.Frame
public import proofs.«01_k».proof.Proof.MlpClaim
public import proofs.«01_k».proof.Proof.Gen.Kernel2.Frame
public import proofs.«01_k».proof.Proof.SwaClaim
public import proofs.«01_k».proof.Proof.Gen.Kernel3.Frame
public import proofs.«01_k».proof.Proof.ProjClaim
public import proofs.«01_k».proof.Proof.Gen.Kernel4.Frame
public import proofs.«01_k».proof.Proof.Proj2Claim
public import proofs.«01_k».proof.Proof.Gen.Kernel5.Frame
public import proofs.«01_k».proof.Proof.RopeClaim
public import Idealize.ShloMosaic.Adequacy
public import Idealize.ShloMosaic.Init

@[expose] public section

noncomputable section

namespace Cert.Proof

open Idealize.ShloMosaic Idealize.SL.Sem Cert.Kernel

/-- Everything the statement states: of the output projection and channel mixer, of the sliding-window attention,
of the two input projections, and of the tables of the rotation. -/
theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts, Cert.Pre_finite2.Gen.facts,
   fun m ρ _ => Cert.Kernel.Gen.frame m ρ,
   fun m ρ _ => Cert.KernelIdeal.Gen.frame m ρ,
   Cert.Mlp.ref_frame,
   fun m ρ _ => Cert.Kernel2.Gen.frame m ρ,
   fun m ρ _ => Cert.Kernel2Ideal.Gen.frame m ρ,
   fun m ρ _ => Cert.Kernel2Ideal.Gen.frame m ρ,
   Cert.SwaBridge.ref_frame,
   Cert.SwaBridge.ref_frame_pre,
   fun m ρ _ => Cert.Kernel3.Gen.frame m ρ,
   fun m ρ _ => Cert.Kernel3Ideal.Gen.frame m ρ,
   Cert.ProjBridge.ref_frame,
   fun m ρ _ => Cert.Kernel4.Gen.frame m ρ,
   fun m ρ _ => Cert.Kernel4Ideal.Gen.frame m ρ,
   Cert.Proj2Bridge.ref_frame,
   fun m ρ _ => Cert.Kernel5.Gen.frame m ρ,
   fun m ρ _ => Cert.Kernel5Ideal.Gen.frame m ρ,
   Cert.Rope.ref_frame,
   trivial,
   Cert.Mlp.algebraic,
   ⟨IdealRules.named_const.statement Cert.Kernel2Ideal.κ "neg" .f32 0xF149F2CA#32 ⊥ rfl,
    IdealRules.named_const.statement Cert.Kernel2Ideal.κ "log2e" .f32 0x3FB8AA3B#32 (((Real.log 2)⁻¹ : ℝ) : EReal) rfl⟩,
   Cert.SwaBridge.algebraic,
   IdealRules.named_const.statement Cert.Kernel3Ideal.κ "qscale" .f32 0x3E38AA3B#32 (((8 * (Real.log 2))⁻¹ : ℝ) : EReal) rfl,
   Cert.ProjBridge.algebraic,
   IdealRules.named_const.statement Cert.Kernel4Ideal.κ "qscale" .f32 0x3E38AA3B#32 (((8 * (Real.log 2))⁻¹ : ℝ) : EReal) rfl,
   Cert.Proj2Bridge.algebraic,
   trivial,
   Cert.Rope.algebraic⟩

end Cert.Proof

end
